-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite_gates [hPre_finite_gates : Cert.Pre_finite_gates.Facts] (m : (ℓ : Loc Cert.GlaIdeal.nD Cert.GlaIdeal.τ Cert.GlaIdeal.sig) → Buf (Elt Ideal) ℓ) : Prop :=
  ∀ c : Dev Cert.GlaIdeal.nD,
    (Cert.Pre_finite_gates.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite_gates [hPre_finite_gates : Cert.Pre_finite_gates.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite_gates.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSRefIdeal (m : (ℓ : Loc Cert.PostSRefIdeal.nD Cert.PostSRefIdeal.τ Cert.PostSRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaIdeal_pre_finite_gates [hGlaIdeal : Cert.GlaIdeal.Facts] [hPre_finite_gates : Cert.Pre_finite_gates.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite_gates m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6))
      ∧ r.2.sem = fun _ => 0)

def quiescent_GlaRefIdeal_pre_finite_gates [hGlaRefIdeal : Cert.GlaRefIdeal.Facts] [hPre_finite_gates : Cert.Pre_finite_gates.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite_gates m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6)
      ∧ r.2.mem ((c.tc : Thread Cert.PostS.nD Cert.PostS.τ).loc Cert.PostS.main_arg7) = m ((c.tc : Thread Cert.PostS.nD Cert.PostS.τ).loc Cert.PostS.main_arg7)
      ∧ r.2.mem ((c.tc : Thread Cert.PostS.nD Cert.PostS.τ).loc Cert.PostS.main_arg8) = m ((c.tc : Thread Cert.PostS.nD Cert.PostS.τ).loc Cert.PostS.main_arg8)
      ∧ r.2.mem ((c.tc : Thread Cert.PostS.nD Cert.PostS.τ).loc Cert.PostS.main_arg9) = m ((c.tc : Thread Cert.PostS.nD Cert.PostS.τ).loc Cert.PostS.main_arg9)
      ∧ r.2.mem ((c.tc : Thread Cert.PostS.nD Cert.PostS.τ).loc Cert.PostS.main_arg10) = m ((c.tc : Thread Cert.PostS.nD Cert.PostS.τ).loc Cert.PostS.main_arg10)
      ∧ r.2.mem ((c.tc : Thread Cert.PostS.nD Cert.PostS.τ).loc Cert.PostS.main_arg11) = m ((c.tc : Thread Cert.PostS.nD Cert.PostS.τ).loc Cert.PostS.main_arg11)
      ∧ r.2.mem ((c.tc : Thread Cert.PostS.nD Cert.PostS.τ).loc Cert.PostS.main_arg12) = m ((c.tc : Thread Cert.PostS.nD Cert.PostS.τ).loc Cert.PostS.main_arg12)
      ∧ r.2.mem ((c.tc : Thread Cert.PostS.nD Cert.PostS.τ).loc Cert.PostS.main_arg13) = m ((c.tc : Thread Cert.PostS.nD Cert.PostS.τ).loc Cert.PostS.main_arg13)
      ∧ r.2.mem ((c.tc : Thread Cert.PostS.nD Cert.PostS.τ).loc Cert.PostS.main_arg14) = m ((c.tc : Thread Cert.PostS.nD Cert.PostS.τ).loc Cert.PostS.main_arg14))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
      ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
      ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
      ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
      ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11)
      ∧ r.2.mem ((c.tc : Thread Cert.PostSIdeal.nD Cert.PostSIdeal.τ).loc Cert.PostSIdeal.main_arg12) = m ((c.tc : Thread Cert.PostSIdeal.nD Cert.PostSIdeal.τ).loc Cert.PostSIdeal.main_arg12)
      ∧ r.2.mem ((c.tc : Thread Cert.PostSIdeal.nD Cert.PostSIdeal.τ).loc Cert.PostSIdeal.main_arg13) = m ((c.tc : Thread Cert.PostSIdeal.nD Cert.PostSIdeal.τ).loc Cert.PostSIdeal.main_arg13)
      ∧ r.2.mem ((c.tc : Thread Cert.PostSIdeal.nD Cert.PostSIdeal.τ).loc Cert.PostSIdeal.main_arg14) = m ((c.tc : Thread Cert.PostSIdeal.nD Cert.PostSIdeal.τ).loc Cert.PostSIdeal.main_arg14))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7)
      ∧ r.2.mem ((c.tc : Thread Cert.PostSRefIdeal.nD Cert.PostSRefIdeal.τ).loc Cert.PostSRefIdeal.main_arg8) = m ((c.tc : Thread Cert.PostSRefIdeal.nD Cert.PostSRefIdeal.τ).loc Cert.PostSRefIdeal.main_arg8)
      ∧ r.2.mem ((c.tc : Thread Cert.PostSRefIdeal.nD Cert.PostSRefIdeal.τ).loc Cert.PostSRefIdeal.main_arg9) = m ((c.tc : Thread Cert.PostSRefIdeal.nD Cert.PostSRefIdeal.τ).loc Cert.PostSRefIdeal.main_arg9)
      ∧ r.2.mem ((c.tc : Thread Cert.PostSRefIdeal.nD Cert.PostSRefIdeal.τ).loc Cert.PostSRefIdeal.main_arg10) = m ((c.tc : Thread Cert.PostSRefIdeal.nD Cert.PostSRefIdeal.τ).loc Cert.PostSRefIdeal.main_arg10)
      ∧ r.2.mem ((c.tc : Thread Cert.PostSRefIdeal.nD Cert.PostSRefIdeal.τ).loc Cert.PostSRefIdeal.main_arg11) = m ((c.tc : Thread Cert.PostSRefIdeal.nD Cert.PostSRefIdeal.τ).loc Cert.PostSRefIdeal.main_arg11)
      ∧ r.2.mem ((c.tc : Thread Cert.PostSRefIdeal.nD Cert.PostSRefIdeal.τ).loc Cert.PostSRefIdeal.main_arg12) = m ((c.tc : Thread Cert.PostSRefIdeal.nD Cert.PostSRefIdeal.τ).loc Cert.PostSRefIdeal.main_arg12)
      ∧ r.2.mem ((c.tc : Thread Cert.PostSRefIdeal.nD Cert.PostSRefIdeal.τ).loc Cert.PostSRefIdeal.main_arg13) = m ((c.tc : Thread Cert.PostSRefIdeal.nD Cert.PostSRefIdeal.τ).loc Cert.PostSRefIdeal.main_arg13)
      ∧ r.2.mem ((c.tc : Thread Cert.PostSRefIdeal.nD Cert.PostSRefIdeal.τ).loc Cert.PostSRefIdeal.main_arg14) = m ((c.tc : Thread Cert.PostSRefIdeal.nD Cert.PostSRefIdeal.τ).loc Cert.PostSRefIdeal.main_arg14))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2)
      ∧ r.2.mem ((c.tc : Thread Cert.InP.nD Cert.InP.τ).loc Cert.InP.main_arg3) = m ((c.tc : Thread Cert.InP.nD Cert.InP.τ).loc Cert.InP.main_arg3)
      ∧ r.2.mem ((c.tc : Thread Cert.InP.nD Cert.InP.τ).loc Cert.InP.main_arg4) = m ((c.tc : Thread Cert.InP.nD Cert.InP.τ).loc Cert.InP.main_arg4)
      ∧ r.2.mem ((c.tc : Thread Cert.InP.nD Cert.InP.τ).loc Cert.InP.main_arg5) = m ((c.tc : Thread Cert.InP.nD Cert.InP.τ).loc Cert.InP.main_arg5)
      ∧ r.2.mem ((c.tc : Thread Cert.InP.nD Cert.InP.τ).loc Cert.InP.main_arg6) = m ((c.tc : Thread Cert.InP.nD Cert.InP.τ).loc Cert.InP.main_arg6)
      ∧ r.2.mem ((c.tc : Thread Cert.InP.nD Cert.InP.τ).loc Cert.InP.main_arg7) = m ((c.tc : Thread Cert.InP.nD Cert.InP.τ).loc Cert.InP.main_arg7)
      ∧ r.2.mem ((c.tc : Thread Cert.InP.nD Cert.InP.τ).loc Cert.InP.main_arg8) = m ((c.tc : Thread Cert.InP.nD Cert.InP.τ).loc Cert.InP.main_arg8)
      ∧ r.2.mem ((c.tc : Thread Cert.InP.nD Cert.InP.τ).loc Cert.InP.main_arg9) = m ((c.tc : Thread Cert.InP.nD Cert.InP.τ).loc Cert.InP.main_arg9)
      ∧ r.2.mem ((c.tc : Thread Cert.InP.nD Cert.InP.τ).loc Cert.InP.main_arg10) = m ((c.tc : Thread Cert.InP.nD Cert.InP.τ).loc Cert.InP.main_arg10)
      ∧ r.2.mem ((c.tc : Thread Cert.InP.nD Cert.InP.τ).loc Cert.InP.main_arg11) = m ((c.tc : Thread Cert.InP.nD Cert.InP.τ).loc Cert.InP.main_arg11)
      ∧ r.2.mem ((c.tc : Thread Cert.InP.nD Cert.InP.τ).loc Cert.InP.main_arg12) = m ((c.tc : Thread Cert.InP.nD Cert.InP.τ).loc Cert.InP.main_arg12)
      ∧ r.2.mem ((c.tc : Thread Cert.InP.nD Cert.InP.τ).loc Cert.InP.main_arg13) = m ((c.tc : Thread Cert.InP.nD Cert.InP.τ).loc Cert.InP.main_arg13))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
      ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
      ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
      ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
      ∧ r.2.mem ((c.tc : Thread Cert.InPIdeal.nD Cert.InPIdeal.τ).loc Cert.InPIdeal.main_arg6) = m ((c.tc : Thread Cert.InPIdeal.nD Cert.InPIdeal.τ).loc Cert.InPIdeal.main_arg6)
      ∧ r.2.mem ((c.tc : Thread Cert.InPIdeal.nD Cert.InPIdeal.τ).loc Cert.InPIdeal.main_arg7) = m ((c.tc : Thread Cert.InPIdeal.nD Cert.InPIdeal.τ).loc Cert.InPIdeal.main_arg7)
      ∧ r.2.mem ((c.tc : Thread Cert.InPIdeal.nD Cert.InPIdeal.τ).loc Cert.InPIdeal.main_arg8) = m ((c.tc : Thread Cert.InPIdeal.nD Cert.InPIdeal.τ).loc Cert.InPIdeal.main_arg8)
      ∧ r.2.mem ((c.tc : Thread Cert.InPIdeal.nD Cert.InPIdeal.τ).loc Cert.InPIdeal.main_arg9) = m ((c.tc : Thread Cert.InPIdeal.nD Cert.InPIdeal.τ).loc Cert.InPIdeal.main_arg9)
      ∧ r.2.mem ((c.tc : Thread Cert.InPIdeal.nD Cert.InPIdeal.τ).loc Cert.InPIdeal.main_arg10) = m ((c.tc : Thread Cert.InPIdeal.nD Cert.InPIdeal.τ).loc Cert.InPIdeal.main_arg10)
      ∧ r.2.mem ((c.tc : Thread Cert.InPIdeal.nD Cert.InPIdeal.τ).loc Cert.InPIdeal.main_arg11) = m ((c.tc : Thread Cert.InPIdeal.nD Cert.InPIdeal.τ).loc Cert.InPIdeal.main_arg11)
      ∧ r.2.mem ((c.tc : Thread Cert.InPIdeal.nD Cert.InPIdeal.τ).loc Cert.InPIdeal.main_arg12) = m ((c.tc : Thread Cert.InPIdeal.nD Cert.InPIdeal.τ).loc Cert.InPIdeal.main_arg12)
      ∧ r.2.mem ((c.tc : Thread Cert.InPIdeal.nD Cert.InPIdeal.τ).loc Cert.InPIdeal.main_arg13) = m ((c.tc : Thread Cert.InPIdeal.nD Cert.InPIdeal.τ).loc Cert.InPIdeal.main_arg13))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m ((c.tc : Thread Cert.InPRefIdeal.nD Cert.InPRefIdeal.τ).loc Cert.InPRefIdeal.main_arg2)
      ∧ r.2.mem ((c.tc : Thread Cert.InPRefIdeal.nD Cert.InPRefIdeal.τ).loc Cert.InPRefIdeal.main_arg3) = m ((c.tc : Thread Cert.InPRefIdeal.nD Cert.InPRefIdeal.τ).loc Cert.InPRefIdeal.main_arg3)
      ∧ r.2.mem ((c.tc : Thread Cert.InPRefIdeal.nD Cert.InPRefIdeal.τ).loc Cert.InPRefIdeal.main_arg4) = m ((c.tc : Thread Cert.InPRefIdeal.nD Cert.InPRefIdeal.τ).loc Cert.InPRefIdeal.main_arg4)
      ∧ r.2.mem ((c.tc : Thread Cert.InPRefIdeal.nD Cert.InPRefIdeal.τ).loc Cert.InPRefIdeal.main_arg5) = m ((c.tc : Thread Cert.InPRefIdeal.nD Cert.InPRefIdeal.τ).loc Cert.InPRefIdeal.main_arg5)
      ∧ r.2.mem ((c.tc : Thread Cert.InPRefIdeal.nD Cert.InPRefIdeal.τ).loc Cert.InPRefIdeal.main_arg6) = m ((c.tc : Thread Cert.InPRefIdeal.nD Cert.InPRefIdeal.τ).loc Cert.InPRefIdeal.main_arg6)
      ∧ r.2.mem ((c.tc : Thread Cert.InPRefIdeal.nD Cert.InPRefIdeal.τ).loc Cert.InPRefIdeal.main_arg7) = m ((c.tc : Thread Cert.InPRefIdeal.nD Cert.InPRefIdeal.τ).loc Cert.InPRefIdeal.main_arg7)
      ∧ r.2.mem ((c.tc : Thread Cert.InPRefIdeal.nD Cert.InPRefIdeal.τ).loc Cert.InPRefIdeal.main_arg8) = m ((c.tc : Thread Cert.InPRefIdeal.nD Cert.InPRefIdeal.τ).loc Cert.InPRefIdeal.main_arg8)
      ∧ r.2.mem ((c.tc : Thread Cert.InPRefIdeal.nD Cert.InPRefIdeal.τ).loc Cert.InPRefIdeal.main_arg9) = m ((c.tc : Thread Cert.InPRefIdeal.nD Cert.InPRefIdeal.τ).loc Cert.InPRefIdeal.main_arg9)
      ∧ r.2.mem ((c.tc : Thread Cert.InPRefIdeal.nD Cert.InPRefIdeal.τ).loc Cert.InPRefIdeal.main_arg10) = m ((c.tc : Thread Cert.InPRefIdeal.nD Cert.InPRefIdeal.τ).loc Cert.InPRefIdeal.main_arg10)
      ∧ r.2.mem ((c.tc : Thread Cert.InPRefIdeal.nD Cert.InPRefIdeal.τ).loc Cert.InPRefIdeal.main_arg11) = m ((c.tc : Thread Cert.InPRefIdeal.nD Cert.InPRefIdeal.τ).loc Cert.InPRefIdeal.main_arg11)
      ∧ r.2.mem ((c.tc : Thread Cert.InPRefIdeal.nD Cert.InPRefIdeal.τ).loc Cert.InPRefIdeal.main_arg12) = m ((c.tc : Thread Cert.InPRefIdeal.nD Cert.InPRefIdeal.τ).loc Cert.InPRefIdeal.main_arg12)
      ∧ r.2.mem ((c.tc : Thread Cert.InPRefIdeal.nD Cert.InPRefIdeal.τ).loc Cert.InPRefIdeal.main_arg13) = m ((c.tc : Thread Cert.InPRefIdeal.nD Cert.InPRefIdeal.τ).loc Cert.InPRefIdeal.main_arg13))
      ∧ r.2.sem = fun _ => 0)

def preserves_Gla_GlaIdeal : Prop :=
  True

def algebraic_GlaIdeal_GlaRefIdeal_pre_finite_gates [hGlaIdeal : Cert.GlaIdeal.Facts] [hGlaRefIdeal : Cert.GlaRefIdeal.Facts] [hPre_finite_gates : Cert.Pre_finite_gates.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_finite_gates m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)) →
    ∃ (v0 : (c : Dev Cert.GlaIdeal.nD) → Buf (Elt Ideal) ((c.tc : Thread Cert.GlaIdeal.nD Cert.GlaIdeal.τ).loc Cert.GlaIdeal.main_v5_0)) (v1 : (c : Dev Cert.GlaIdeal.nD) → Buf (Elt Ideal) ((c.tc : Thread Cert.GlaIdeal.nD Cert.GlaIdeal.τ).loc Cert.GlaIdeal.main_v5_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v5_0) = v0 c
          ∧ r.2.mem ((c.tc : Thread Cert.GlaIdeal.nD Cert.GlaIdeal.τ).loc Cert.GlaIdeal.main_v5_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v50) = v0 c
          ∧ r.2.mem ((c.tc : Thread Cert.GlaRefIdeal.nD Cert.GlaRefIdeal.τ).loc Cert.GlaRefIdeal.main_v30) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6))

def preserves_Post_PostIdeal : Prop :=
  True

def algebraic_PostIdeal_PostRefIdeal_on_new_history [hPostIdeal : Cert.PostIdeal.Facts] [hPostRefIdeal : Cert.PostRefIdeal.Facts] [hOn_new_history : Cert.On_new_history.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)) →
    ∃ (v0 : (c : Dev Cert.PostIdeal.nD) → Buf (Elt Ideal) ((c.tc : Thread Cert.PostIdeal.nD Cert.PostIdeal.τ).loc Cert.PostIdeal.main_v9_0)) (v1 : (c : Dev Cert.PostIdeal.nD) → Buf (Elt Ideal) ((c.tc : Thread Cert.PostIdeal.nD Cert.PostIdeal.τ).loc Cert.PostIdeal.main_v9_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          (∀ i : (⟨2, ![16384, 1024]⟩ : Shape).Idx, (Cert.On_new_history.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13))).1 i = 1#1 → r.2.mem ((c.tc : Thread Cert.PostIdeal.nD Cert.PostIdeal.τ).loc Cert.PostIdeal.main_v9_0) i = v0 c i)
          ∧ (∀ i : (⟨2, ![256, 2816]⟩ : Shape).Idx, (Cert.On_new_history.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13))).2 i = 1#1 → r.2.mem ((c.tc : Thread Cert.PostIdeal.nD Cert.PostIdeal.τ).loc Cert.PostIdeal.main_v9_1) i = v1 c i)
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          (∀ i : (⟨2, ![16384, 1024]⟩ : Shape).Idx, (Cert.On_new_history.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13))).1 i = 1#1 → r.2.mem ((c.tc : Thread Cert.PostRefIdeal.nD Cert.PostRefIdeal.τ).loc Cert.PostRefIdeal.main_v81) i = v0 c i)
          ∧ (∀ i : (⟨2, ![256, 2816]⟩ : Shape).Idx, (Cert.On_new_history.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13))).2 i = 1#1 → r.2.mem ((c.tc : Thread Cert.PostRefIdeal.nD Cert.PostRefIdeal.τ).loc Cert.PostRefIdeal.main_v82) i = v1 c i)
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13))

def preserves_PostS_PostSIdeal : Prop :=
  True

def algebraic_PostSIdeal_PostSRefIdeal_on_sample_history [hPostSIdeal : Cert.PostSIdeal.Facts] [hPostSRefIdeal : Cert.PostSRefIdeal.Facts] [hOn_sample_history : Cert.On_sample_history.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)
      ∧ m' ((c.tc : Thread Cert.PostSRefIdeal.nD Cert.PostSRefIdeal.τ).loc Cert.PostSRefIdeal.main_arg7) = m ((c.tc : Thread Cert.PostSIdeal.nD Cert.PostSIdeal.τ).loc Cert.PostSIdeal.main_arg7)
      ∧ m' ((c.tc : Thread Cert.PostSRefIdeal.nD Cert.PostSRefIdeal.τ).loc Cert.PostSRefIdeal.main_arg8) = m ((c.tc : Thread Cert.PostSIdeal.nD Cert.PostSIdeal.τ).loc Cert.PostSIdeal.main_arg8)
      ∧ m' ((c.tc : Thread Cert.PostSRefIdeal.nD Cert.PostSRefIdeal.τ).loc Cert.PostSRefIdeal.main_arg9) = m ((c.tc : Thread Cert.PostSIdeal.nD Cert.PostSIdeal.τ).loc Cert.PostSIdeal.main_arg9)
      ∧ m' ((c.tc : Thread Cert.PostSRefIdeal.nD Cert.PostSRefIdeal.τ).loc Cert.PostSRefIdeal.main_arg10) = m ((c.tc : Thread Cert.PostSIdeal.nD Cert.PostSIdeal.τ).loc Cert.PostSIdeal.main_arg10)
      ∧ m' ((c.tc : Thread Cert.PostSRefIdeal.nD Cert.PostSRefIdeal.τ).loc Cert.PostSRefIdeal.main_arg11) = m ((c.tc : Thread Cert.PostSIdeal.nD Cert.PostSIdeal.τ).loc Cert.PostSIdeal.main_arg11)
      ∧ m' ((c.tc : Thread Cert.PostSRefIdeal.nD Cert.PostSRefIdeal.τ).loc Cert.PostSRefIdeal.main_arg12) = m ((c.tc : Thread Cert.PostSIdeal.nD Cert.PostSIdeal.τ).loc Cert.PostSIdeal.main_arg12)
      ∧ m' ((c.tc : Thread Cert.PostSRefIdeal.nD Cert.PostSRefIdeal.τ).loc Cert.PostSRefIdeal.main_arg13) = m ((c.tc : Thread Cert.PostSIdeal.nD Cert.PostSIdeal.τ).loc Cert.PostSIdeal.main_arg13)
      ∧ m' ((c.tc : Thread Cert.PostSRefIdeal.nD Cert.PostSRefIdeal.τ).loc Cert.PostSRefIdeal.main_arg14) = m ((c.tc : Thread Cert.PostSIdeal.nD Cert.PostSIdeal.τ).loc Cert.PostSIdeal.main_arg14)) →
    ∃ (v0 : (c : Dev Cert.PostSIdeal.nD) → Buf (Elt Ideal) ((c.tc : Thread Cert.PostSIdeal.nD Cert.PostSIdeal.τ).loc Cert.PostSIdeal.main_v14_0)) (v1 : (c : Dev Cert.PostSIdeal.nD) → Buf (Elt Ideal) ((c.tc : Thread Cert.PostSIdeal.nD Cert.PostSIdeal.τ).loc Cert.PostSIdeal.main_v14_1)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          (∀ i : (⟨2, ![256, 1024]⟩ : Shape).Idx, (Cert.On_sample_history.fn (F := Ideal) (m ((c.tc : Thread Cert.PostSIdeal.nD Cert.PostSIdeal.τ).loc Cert.PostSIdeal.main_arg0)) (m ((c.tc : Thread Cert.PostSIdeal.nD Cert.PostSIdeal.τ).loc Cert.PostSIdeal.main_arg1)) (m ((c.tc : Thread Cert.PostSIdeal.nD Cert.PostSIdeal.τ).loc Cert.PostSIdeal.main_arg2)) (m ((c.tc : Thread Cert.PostSIdeal.nD Cert.PostSIdeal.τ).loc Cert.PostSIdeal.main_arg3)) (m ((c.tc : Thread Cert.PostSIdeal.nD Cert.PostSIdeal.τ).loc Cert.PostSIdeal.main_arg4)) (m ((c.tc : Thread Cert.PostSIdeal.nD Cert.PostSIdeal.τ).loc Cert.PostSIdeal.main_arg5)) (m ((c.tc : Thread Cert.PostSIdeal.nD Cert.PostSIdeal.τ).loc Cert.PostSIdeal.main_arg6)) (m ((c.tc : Thread Cert.PostSIdeal.nD Cert.PostSIdeal.τ).loc Cert.PostSIdeal.main_arg7)) (m ((c.tc : Thread Cert.PostSIdeal.nD Cert.PostSIdeal.τ).loc Cert.PostSIdeal.main_arg8)) (m ((c.tc : Thread Cert.PostSIdeal.nD Cert.PostSIdeal.τ).loc Cert.PostSIdeal.main_arg9)) (m ((c.tc : Thread Cert.PostSIdeal.nD Cert.PostSIdeal.τ).loc Cert.PostSIdeal.main_arg10)) (m ((c.tc : Thread Cert.PostSIdeal.nD Cert.PostSIdeal.τ).loc Cert.PostSIdeal.main_arg11)) (m ((c.tc : Thread Cert.PostSIdeal.nD Cert.PostSIdeal.τ).loc Cert.PostSIdeal.main_arg12)) (m ((c.tc : Thread Cert.PostSIdeal.nD Cert.PostSIdeal.τ).loc Cert.PostSIdeal.main_arg13)) (m ((c.tc : Thread Cert.PostSIdeal.nD Cert.PostSIdeal.τ).loc Cert.PostSIdeal.main_arg14))).1 i = 1#1 → r.2.mem ((c.tc : Thread Cert.PostSIdeal.nD Cert.PostSIdeal.τ).loc Cert.PostSIdeal.main_v14_0) i = v0 c i)
          ∧ (∀ i : (⟨2, ![256, 2816]⟩ : Shape).Idx, (Cert.On_sample_history.fn (F := Ideal) (m ((c.tc : Thread Cert.PostSIdeal.nD Cert.PostSIdeal.τ).loc Cert.PostSIdeal.main_arg0)) (m ((c.tc : Thread Cert.PostSIdeal.nD Cert.PostSIdeal.τ).loc Cert.PostSIdeal.main_arg1)) (m ((c.tc : Thread Cert.PostSIdeal.nD Cert.PostSIdeal.τ).loc Cert.PostSIdeal.main_arg2)) (m ((c.tc : Thread Cert.PostSIdeal.nD Cert.PostSIdeal.τ).loc Cert.PostSIdeal.main_arg3)) (m ((c.tc : Thread Cert.PostSIdeal.nD Cert.PostSIdeal.τ).loc Cert.PostSIdeal.main_arg4)) (m ((c.tc : Thread Cert.PostSIdeal.nD Cert.PostSIdeal.τ).loc Cert.PostSIdeal.main_arg5)) (m ((c.tc : Thread Cert.PostSIdeal.nD Cert.PostSIdeal.τ).loc Cert.PostSIdeal.main_arg6)) (m ((c.tc : Thread Cert.PostSIdeal.nD Cert.PostSIdeal.τ).loc Cert.PostSIdeal.main_arg7)) (m ((c.tc : Thread Cert.PostSIdeal.nD Cert.PostSIdeal.τ).loc Cert.PostSIdeal.main_arg8)) (m ((c.tc : Thread Cert.PostSIdeal.nD Cert.PostSIdeal.τ).loc Cert.PostSIdeal.main_arg9)) (m ((c.tc : Thread Cert.PostSIdeal.nD Cert.PostSIdeal.τ).loc Cert.PostSIdeal.main_arg10)) (m ((c.tc : Thread Cert.PostSIdeal.nD Cert.PostSIdeal.τ).loc Cert.PostSIdeal.main_arg11)) (m ((c.tc : Thread Cert.PostSIdeal.nD Cert.PostSIdeal.τ).loc Cert.PostSIdeal.main_arg12)) (m ((c.tc : Thread Cert.PostSIdeal.nD Cert.PostSIdeal.τ).loc Cert.PostSIdeal.main_arg13)) (m ((c.tc : Thread Cert.PostSIdeal.nD Cert.PostSIdeal.τ).loc Cert.PostSIdeal.main_arg14))).2 i = 1#1 → r.2.mem ((c.tc : Thread Cert.PostSIdeal.nD Cert.PostSIdeal.τ).loc Cert.PostSIdeal.main_v14_1) i = v1 c i)
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
          ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
          ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
          ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
          ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
          ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11)
          ∧ r.2.mem ((c.tc : Thread Cert.PostSIdeal.nD Cert.PostSIdeal.τ).loc Cert.PostSIdeal.main_arg12) = m ((c.tc : Thread Cert.PostSIdeal.nD Cert.PostSIdeal.τ).loc Cert.PostSIdeal.main_arg12)
          ∧ r.2.mem ((c.tc : Thread Cert.PostSIdeal.nD Cert.PostSIdeal.τ).loc Cert.PostSIdeal.main_arg13) = m ((c.tc : Thread Cert.PostSIdeal.nD Cert.PostSIdeal.τ).loc Cert.PostSIdeal.main_arg13)
          ∧ r.2.mem ((c.tc : Thread Cert.PostSIdeal.nD Cert.PostSIdeal.τ).loc Cert.PostSIdeal.main_arg14) = m ((c.tc : Thread Cert.PostSIdeal.nD Cert.PostSIdeal.τ).loc Cert.PostSIdeal.main_arg14))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          (∀ i : (⟨2, ![256, 1024]⟩ : Shape).Idx, (Cert.On_sample_history.fn (F := Ideal) (m ((c.tc : Thread Cert.PostSIdeal.nD Cert.PostSIdeal.τ).loc Cert.PostSIdeal.main_arg0)) (m ((c.tc : Thread Cert.PostSIdeal.nD Cert.PostSIdeal.τ).loc Cert.PostSIdeal.main_arg1)) (m ((c.tc : Thread Cert.PostSIdeal.nD Cert.PostSIdeal.τ).loc Cert.PostSIdeal.main_arg2)) (m ((c.tc : Thread Cert.PostSIdeal.nD Cert.PostSIdeal.τ).loc Cert.PostSIdeal.main_arg3)) (m ((c.tc : Thread Cert.PostSIdeal.nD Cert.PostSIdeal.τ).loc Cert.PostSIdeal.main_arg4)) (m ((c.tc : Thread Cert.PostSIdeal.nD Cert.PostSIdeal.τ).loc Cert.PostSIdeal.main_arg5)) (m ((c.tc : Thread Cert.PostSIdeal.nD Cert.PostSIdeal.τ).loc Cert.PostSIdeal.main_arg6)) (m ((c.tc : Thread Cert.PostSIdeal.nD Cert.PostSIdeal.τ).loc Cert.PostSIdeal.main_arg7)) (m ((c.tc : Thread Cert.PostSIdeal.nD Cert.PostSIdeal.τ).loc Cert.PostSIdeal.main_arg8)) (m ((c.tc : Thread Cert.PostSIdeal.nD Cert.PostSIdeal.τ).loc Cert.PostSIdeal.main_arg9)) (m ((c.tc : Thread Cert.PostSIdeal.nD Cert.PostSIdeal.τ).loc Cert.PostSIdeal.main_arg10)) (m ((c.tc : Thread Cert.PostSIdeal.nD Cert.PostSIdeal.τ).loc Cert.PostSIdeal.main_arg11)) (m ((c.tc : Thread Cert.PostSIdeal.nD Cert.PostSIdeal.τ).loc Cert.PostSIdeal.main_arg12)) (m ((c.tc : Thread Cert.PostSIdeal.nD Cert.PostSIdeal.τ).loc Cert.PostSIdeal.main_arg13)) (m ((c.tc : Thread Cert.PostSIdeal.nD Cert.PostSIdeal.τ).loc Cert.PostSIdeal.main_arg14))).1 i = 1#1 → r.2.mem ((c.tc : Thread Cert.PostSRefIdeal.nD Cert.PostSRefIdeal.τ).loc Cert.PostSRefIdeal.main_v80) i = v0 c i)
          ∧ (∀ i : (⟨2, ![256, 2816]⟩ : Shape).Idx, (Cert.On_sample_history.fn (F := Ideal) (m ((c.tc : Thread Cert.PostSIdeal.nD Cert.PostSIdeal.τ).loc Cert.PostSIdeal.main_arg0)) (m ((c.tc : Thread Cert.PostSIdeal.nD Cert.PostSIdeal.τ).loc Cert.PostSIdeal.main_arg1)) (m ((c.tc : Thread Cert.PostSIdeal.nD Cert.PostSIdeal.τ).loc Cert.PostSIdeal.main_arg2)) (m ((c.tc : Thread Cert.PostSIdeal.nD Cert.PostSIdeal.τ).loc Cert.PostSIdeal.main_arg3)) (m ((c.tc : Thread Cert.PostSIdeal.nD Cert.PostSIdeal.τ).loc Cert.PostSIdeal.main_arg4)) (m ((c.tc : Thread Cert.PostSIdeal.nD Cert.PostSIdeal.τ).loc Cert.PostSIdeal.main_arg5)) (m ((c.tc : Thread Cert.PostSIdeal.nD Cert.PostSIdeal.τ).loc Cert.PostSIdeal.main_arg6)) (m ((c.tc : Thread Cert.PostSIdeal.nD Cert.PostSIdeal.τ).loc Cert.PostSIdeal.main_arg7)) (m ((c.tc : Thread Cert.PostSIdeal.nD Cert.PostSIdeal.τ).loc Cert.PostSIdeal.main_arg8)) (m ((c.tc : Thread Cert.PostSIdeal.nD Cert.PostSIdeal.τ).loc Cert.PostSIdeal.main_arg9)) (m ((c.tc : Thread Cert.PostSIdeal.nD Cert.PostSIdeal.τ).loc Cert.PostSIdeal.main_arg10)) (m ((c.tc : Thread Cert.PostSIdeal.nD Cert.PostSIdeal.τ).loc Cert.PostSIdeal.main_arg11)) (m ((c.tc : Thread Cert.PostSIdeal.nD Cert.PostSIdeal.τ).loc Cert.PostSIdeal.main_arg12)) (m ((c.tc : Thread Cert.PostSIdeal.nD Cert.PostSIdeal.τ).loc Cert.PostSIdeal.main_arg13)) (m ((c.tc : Thread Cert.PostSIdeal.nD Cert.PostSIdeal.τ).loc Cert.PostSIdeal.main_arg14))).2 i = 1#1 → r.2.mem ((c.tc : Thread Cert.PostSRefIdeal.nD Cert.PostSRefIdeal.τ).loc Cert.PostSRefIdeal.main_v81) i = v1 c i)
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5)
          ∧ r.2.mem ((c.tc : Thread Cert.PostSRefIdeal.nD Cert.PostSRefIdeal.τ).loc Cert.PostSRefIdeal.main_arg6) = m' ((c.tc : Thread Cert.PostSRefIdeal.nD Cert.PostSRefIdeal.τ).loc Cert.PostSRefIdeal.main_arg6)
          ∧ r.2.mem ((c.tc : Thread Cert.PostSRefIdeal.nD Cert.PostSRefIdeal.τ).loc Cert.PostSRefIdeal.main_arg7) = m' ((c.tc : Thread Cert.PostSRefIdeal.nD Cert.PostSRefIdeal.τ).loc Cert.PostSRefIdeal.main_arg7)
          ∧ r.2.mem ((c.tc : Thread Cert.PostSRefIdeal.nD Cert.PostSRefIdeal.τ).loc Cert.PostSRefIdeal.main_arg8) = m' ((c.tc : Thread Cert.PostSRefIdeal.nD Cert.PostSRefIdeal.τ).loc Cert.PostSRefIdeal.main_arg8)
          ∧ r.2.mem ((c.tc : Thread Cert.PostSRefIdeal.nD Cert.PostSRefIdeal.τ).loc Cert.PostSRefIdeal.main_arg9) = m' ((c.tc : Thread Cert.PostSRefIdeal.nD Cert.PostSRefIdeal.τ).loc Cert.PostSRefIdeal.main_arg9)
          ∧ r.2.mem ((c.tc : Thread Cert.PostSRefIdeal.nD Cert.PostSRefIdeal.τ).loc Cert.PostSRefIdeal.main_arg10) = m' ((c.tc : Thread Cert.PostSRefIdeal.nD Cert.PostSRefIdeal.τ).loc Cert.PostSRefIdeal.main_arg10)
          ∧ r.2.mem ((c.tc : Thread Cert.PostSRefIdeal.nD Cert.PostSRefIdeal.τ).loc Cert.PostSRefIdeal.main_arg11) = m' ((c.tc : Thread Cert.PostSRefIdeal.nD Cert.PostSRefIdeal.τ).loc Cert.PostSRefIdeal.main_arg11)
          ∧ r.2.mem ((c.tc : Thread Cert.PostSRefIdeal.nD Cert.PostSRefIdeal.τ).loc Cert.PostSRefIdeal.main_arg12) = m' ((c.tc : Thread Cert.PostSRefIdeal.nD Cert.PostSRefIdeal.τ).loc Cert.PostSRefIdeal.main_arg12)
          ∧ r.2.mem ((c.tc : Thread Cert.PostSRefIdeal.nD Cert.PostSRefIdeal.τ).loc Cert.PostSRefIdeal.main_arg13) = m' ((c.tc : Thread Cert.PostSRefIdeal.nD Cert.PostSRefIdeal.τ).loc Cert.PostSRefIdeal.main_arg13)
          ∧ r.2.mem ((c.tc : Thread Cert.PostSRefIdeal.nD Cert.PostSRefIdeal.τ).loc Cert.PostSRefIdeal.main_arg14) = m' ((c.tc : Thread Cert.PostSRefIdeal.nD Cert.PostSRefIdeal.τ).loc Cert.PostSRefIdeal.main_arg14))

def preserves_InP_InPIdeal : Prop :=
  True

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)
      ∧ m' ((c.tc : Thread Cert.InPRefIdeal.nD Cert.InPRefIdeal.τ).loc Cert.InPRefIdeal.main_arg2) = m ((c.tc : Thread Cert.InPIdeal.nD Cert.InPIdeal.τ).loc Cert.InPIdeal.main_arg2)
      ∧ m' ((c.tc : Thread Cert.InPRefIdeal.nD Cert.InPRefIdeal.τ).loc Cert.InPRefIdeal.main_arg3) = m ((c.tc : Thread Cert.InPIdeal.nD Cert.InPIdeal.τ).loc Cert.InPIdeal.main_arg3)
      ∧ m' ((c.tc : Thread Cert.InPRefIdeal.nD Cert.InPRefIdeal.τ).loc Cert.InPRefIdeal.main_arg4) = m ((c.tc : Thread Cert.InPIdeal.nD Cert.InPIdeal.τ).loc Cert.InPIdeal.main_arg4)
      ∧ m' ((c.tc : Thread Cert.InPRefIdeal.nD Cert.InPRefIdeal.τ).loc Cert.InPRefIdeal.main_arg5) = m ((c.tc : Thread Cert.InPIdeal.nD Cert.InPIdeal.τ).loc Cert.InPIdeal.main_arg5)
      ∧ m' ((c.tc : Thread Cert.InPRefIdeal.nD Cert.InPRefIdeal.τ).loc Cert.InPRefIdeal.main_arg6) = m ((c.tc : Thread Cert.InPIdeal.nD Cert.InPIdeal.τ).loc Cert.InPIdeal.main_arg6)
      ∧ m' ((c.tc : Thread Cert.InPRefIdeal.nD Cert.InPRefIdeal.τ).loc Cert.InPRefIdeal.main_arg7) = m ((c.tc : Thread Cert.InPIdeal.nD Cert.InPIdeal.τ).loc Cert.InPIdeal.main_arg7)
      ∧ m' ((c.tc : Thread Cert.InPRefIdeal.nD Cert.InPRefIdeal.τ).loc Cert.InPRefIdeal.main_arg8) = m ((c.tc : Thread Cert.InPIdeal.nD Cert.InPIdeal.τ).loc Cert.InPIdeal.main_arg8)
      ∧ m' ((c.tc : Thread Cert.InPRefIdeal.nD Cert.InPRefIdeal.τ).loc Cert.InPRefIdeal.main_arg9) = m ((c.tc : Thread Cert.InPIdeal.nD Cert.InPIdeal.τ).loc Cert.InPIdeal.main_arg9)
      ∧ m' ((c.tc : Thread Cert.InPRefIdeal.nD Cert.InPRefIdeal.τ).loc Cert.InPRefIdeal.main_arg10) = m ((c.tc : Thread Cert.InPIdeal.nD Cert.InPIdeal.τ).loc Cert.InPIdeal.main_arg10)
      ∧ m' ((c.tc : Thread Cert.InPRefIdeal.nD Cert.InPRefIdeal.τ).loc Cert.InPRefIdeal.main_arg11) = m ((c.tc : Thread Cert.InPIdeal.nD Cert.InPIdeal.τ).loc Cert.InPIdeal.main_arg11)
      ∧ m' ((c.tc : Thread Cert.InPRefIdeal.nD Cert.InPRefIdeal.τ).loc Cert.InPRefIdeal.main_arg12) = m ((c.tc : Thread Cert.InPIdeal.nD Cert.InPIdeal.τ).loc Cert.InPIdeal.main_arg12)
      ∧ m' ((c.tc : Thread Cert.InPRefIdeal.nD Cert.InPRefIdeal.τ).loc Cert.InPRefIdeal.main_arg13) = m ((c.tc : Thread Cert.InPIdeal.nD Cert.InPIdeal.τ).loc Cert.InPIdeal.main_arg13)) →
    ∃ (v0 : (c : Dev Cert.InPIdeal.nD) → Buf (Elt Ideal) ((c.tc : Thread Cert.InPIdeal.nD Cert.InPIdeal.τ).loc Cert.InPIdeal.main_v44_0)) (v1 : (c : Dev Cert.InPIdeal.nD) → Buf (Elt Ideal) ((c.tc : Thread Cert.InPIdeal.nD Cert.InPIdeal.τ).loc Cert.InPIdeal.main_v44_1)) (v2 : (c : Dev Cert.InPIdeal.nD) → Buf (Elt Ideal) ((c.tc : Thread Cert.InPIdeal.nD Cert.InPIdeal.τ).loc Cert.InPIdeal.main_v44_2)) (v3 : (c : Dev Cert.InPIdeal.nD) → Buf (Elt Ideal) ((c.tc : Thread Cert.InPIdeal.nD Cert.InPIdeal.τ).loc Cert.InPIdeal.main_v44_3)) (v4 : (c : Dev Cert.InPIdeal.nD) → Buf (Elt Ideal) ((c.tc : Thread Cert.InPIdeal.nD Cert.InPIdeal.τ).loc Cert.InPIdeal.main_v44_6)) (v5 : (c : Dev Cert.InPIdeal.nD) → Buf (Elt Ideal) ((c.tc : Thread Cert.InPIdeal.nD Cert.InPIdeal.τ).loc Cert.InPIdeal.main_v44_7)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v44_0) = v0 c
          ∧ r.2.mem ((c.tc : Thread Cert.InPIdeal.nD Cert.InPIdeal.τ).loc Cert.InPIdeal.main_v44_1) = v1 c
          ∧ r.2.mem ((c.tc : Thread Cert.InPIdeal.nD Cert.InPIdeal.τ).loc Cert.InPIdeal.main_v44_2) = v2 c
          ∧ r.2.mem ((c.tc : Thread Cert.InPIdeal.nD Cert.InPIdeal.τ).loc Cert.InPIdeal.main_v44_3) = v3 c
          ∧ r.2.mem ((c.tc : Thread Cert.InPIdeal.nD Cert.InPIdeal.τ).loc Cert.InPIdeal.main_v44_6) = v4 c
          ∧ r.2.mem ((c.tc : Thread Cert.InPIdeal.nD Cert.InPIdeal.τ).loc Cert.InPIdeal.main_v44_7) = v5 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
          ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
          ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
          ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
          ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
          ∧ r.2.mem ((c.tc : Thread Cert.InPIdeal.nD Cert.InPIdeal.τ).loc Cert.InPIdeal.main_arg6) = m ((c.tc : Thread Cert.InPIdeal.nD Cert.InPIdeal.τ).loc Cert.InPIdeal.main_arg6)
          ∧ r.2.mem ((c.tc : Thread Cert.InPIdeal.nD Cert.InPIdeal.τ).loc Cert.InPIdeal.main_arg7) = m ((c.tc : Thread Cert.InPIdeal.nD Cert.InPIdeal.τ).loc Cert.InPIdeal.main_arg7)
          ∧ r.2.mem ((c.tc : Thread Cert.InPIdeal.nD Cert.InPIdeal.τ).loc Cert.InPIdeal.main_arg8) = m ((c.tc : Thread Cert.InPIdeal.nD Cert.InPIdeal.τ).loc Cert.InPIdeal.main_arg8)
          ∧ r.2.mem ((c.tc : Thread Cert.InPIdeal.nD Cert.InPIdeal.τ).loc Cert.InPIdeal.main_arg9) = m ((c.tc : Thread Cert.InPIdeal.nD Cert.InPIdeal.τ).loc Cert.InPIdeal.main_arg9)
          ∧ r.2.mem ((c.tc : Thread Cert.InPIdeal.nD Cert.InPIdeal.τ).loc Cert.InPIdeal.main_arg10) = m ((c.tc : Thread Cert.InPIdeal.nD Cert.InPIdeal.τ).loc Cert.InPIdeal.main_arg10)
          ∧ r.2.mem ((c.tc : Thread Cert.InPIdeal.nD Cert.InPIdeal.τ).loc Cert.InPIdeal.main_arg11) = m ((c.tc : Thread Cert.InPIdeal.nD Cert.InPIdeal.τ).loc Cert.InPIdeal.main_arg11)
          ∧ r.2.mem ((c.tc : Thread Cert.InPIdeal.nD Cert.InPIdeal.τ).loc Cert.InPIdeal.main_arg12) = m ((c.tc : Thread Cert.InPIdeal.nD Cert.InPIdeal.τ).loc Cert.InPIdeal.main_arg12)
          ∧ r.2.mem ((c.tc : Thread Cert.InPIdeal.nD Cert.InPIdeal.τ).loc Cert.InPIdeal.main_arg13) = m ((c.tc : Thread Cert.InPIdeal.nD Cert.InPIdeal.τ).loc Cert.InPIdeal.main_arg13))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v83) = v0 c
          ∧ r.2.mem ((c.tc : Thread Cert.InPRefIdeal.nD Cert.InPRefIdeal.τ).loc Cert.InPRefIdeal.main_v84) = v1 c
          ∧ r.2.mem ((c.tc : Thread Cert.InPRefIdeal.nD Cert.InPRefIdeal.τ).loc Cert.InPRefIdeal.main_v86) = v2 c
          ∧ r.2.mem ((c.tc : Thread Cert.InPRefIdeal.nD Cert.InPRefIdeal.τ).loc Cert.InPRefIdeal.main_v87) = v3 c
          ∧ r.2.mem ((c.tc : Thread Cert.InPRefIdeal.nD Cert.InPRefIdeal.τ).loc Cert.InPRefIdeal.main_v88) = v4 c
          ∧ r.2.mem ((c.tc : Thread Cert.InPRefIdeal.nD Cert.InPRefIdeal.τ).loc Cert.InPRefIdeal.main_v89) = v5 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1)
          ∧ r.2.mem ((c.tc : Thread Cert.InPRefIdeal.nD Cert.InPRefIdeal.τ).loc Cert.InPRefIdeal.main_arg2) = m' ((c.tc : Thread Cert.InPRefIdeal.nD Cert.InPRefIdeal.τ).loc Cert.InPRefIdeal.main_arg2)
          ∧ r.2.mem ((c.tc : Thread Cert.InPRefIdeal.nD Cert.InPRefIdeal.τ).loc Cert.InPRefIdeal.main_arg3) = m' ((c.tc : Thread Cert.InPRefIdeal.nD Cert.InPRefIdeal.τ).loc Cert.InPRefIdeal.main_arg3)
          ∧ r.2.mem ((c.tc : Thread Cert.InPRefIdeal.nD Cert.InPRefIdeal.τ).loc Cert.InPRefIdeal.main_arg4) = m' ((c.tc : Thread Cert.InPRefIdeal.nD Cert.InPRefIdeal.τ).loc Cert.InPRefIdeal.main_arg4)
          ∧ r.2.mem ((c.tc : Thread Cert.InPRefIdeal.nD Cert.InPRefIdeal.τ).loc Cert.InPRefIdeal.main_arg5) = m' ((c.tc : Thread Cert.InPRefIdeal.nD Cert.InPRefIdeal.τ).loc Cert.InPRefIdeal.main_arg5)
          ∧ r.2.mem ((c.tc : Thread Cert.InPRefIdeal.nD Cert.InPRefIdeal.τ).loc Cert.InPRefIdeal.main_arg6) = m' ((c.tc : Thread Cert.InPRefIdeal.nD Cert.InPRefIdeal.τ).loc Cert.InPRefIdeal.main_arg6)
          ∧ r.2.mem ((c.tc : Thread Cert.InPRefIdeal.nD Cert.InPRefIdeal.τ).loc Cert.InPRefIdeal.main_arg7) = m' ((c.tc : Thread Cert.InPRefIdeal.nD Cert.InPRefIdeal.τ).loc Cert.InPRefIdeal.main_arg7)
          ∧ r.2.mem ((c.tc : Thread Cert.InPRefIdeal.nD Cert.InPRefIdeal.τ).loc Cert.InPRefIdeal.main_arg8) = m' ((c.tc : Thread Cert.InPRefIdeal.nD Cert.InPRefIdeal.τ).loc Cert.InPRefIdeal.main_arg8)
          ∧ r.2.mem ((c.tc : Thread Cert.InPRefIdeal.nD Cert.InPRefIdeal.τ).loc Cert.InPRefIdeal.main_arg9) = m' ((c.tc : Thread Cert.InPRefIdeal.nD Cert.InPRefIdeal.τ).loc Cert.InPRefIdeal.main_arg9)
          ∧ r.2.mem ((c.tc : Thread Cert.InPRefIdeal.nD Cert.InPRefIdeal.τ).loc Cert.InPRefIdeal.main_arg10) = m' ((c.tc : Thread Cert.InPRefIdeal.nD Cert.InPRefIdeal.τ).loc Cert.InPRefIdeal.main_arg10)
          ∧ r.2.mem ((c.tc : Thread Cert.InPRefIdeal.nD Cert.InPRefIdeal.τ).loc Cert.InPRefIdeal.main_arg11) = m' ((c.tc : Thread Cert.InPRefIdeal.nD Cert.InPRefIdeal.τ).loc Cert.InPRefIdeal.main_arg11)
          ∧ r.2.mem ((c.tc : Thread Cert.InPRefIdeal.nD Cert.InPRefIdeal.τ).loc Cert.InPRefIdeal.main_arg12) = m' ((c.tc : Thread Cert.InPRefIdeal.nD Cert.InPRefIdeal.τ).loc Cert.InPRefIdeal.main_arg12)
          ∧ r.2.mem ((c.tc : Thread Cert.InPRefIdeal.nD Cert.InPRefIdeal.τ).loc Cert.InPRefIdeal.main_arg13) = m' ((c.tc : Thread Cert.InPRefIdeal.nD Cert.InPRefIdeal.τ).loc Cert.InPRefIdeal.main_arg13))

def Claim : Prop :=
  ∃ (hGla : Cert.Gla.Facts) (hGlaIdeal : Cert.GlaIdeal.Facts) (hGlaRefIdeal : Cert.GlaRefIdeal.Facts) (hPost : Cert.Post.Facts) (hPostIdeal : Cert.PostIdeal.Facts) (hPostRefIdeal : Cert.PostRefIdeal.Facts) (hPostS : Cert.PostS.Facts) (hPostSIdeal : Cert.PostSIdeal.Facts) (hPostSRefIdeal : Cert.PostSRefIdeal.Facts) (hInP : Cert.InP.Facts) (hInPIdeal : Cert.InPIdeal.Facts) (hInPRefIdeal : Cert.InPRefIdeal.Facts) (hPre_finite_gates : Cert.Pre_finite_gates.Facts) (hOn_new_history : Cert.On_new_history.Facts) (hOn_sample_history : Cert.On_sample_history.Facts),
    quiescent_Gla (hGla := hGla)
    ∧ quiescent_GlaIdeal (hGlaIdeal := hGlaIdeal)
    ∧ quiescent_GlaIdeal_pre_finite_gates (hGlaIdeal := hGlaIdeal) (hPre_finite_gates := hPre_finite_gates)
    ∧ quiescent_GlaRefIdeal (hGlaRefIdeal := hGlaRefIdeal)
    ∧ quiescent_GlaRefIdeal_pre_finite_gates (hGlaRefIdeal := hGlaRefIdeal) (hPre_finite_gates := hPre_finite_gates)
    ∧ quiescent_Post (hPost := hPost)
    ∧ quiescent_PostIdeal (hPostIdeal := hPostIdeal)
    ∧ quiescent_PostRefIdeal (hPostRefIdeal := hPostRefIdeal)
    ∧ quiescent_PostS (hPostS := hPostS)
    ∧ quiescent_PostSIdeal (hPostSIdeal := hPostSIdeal)
    ∧ quiescent_PostSRefIdeal (hPostSRefIdeal := hPostSRefIdeal)
    ∧ quiescent_InP (hInP := hInP)
    ∧ quiescent_InPIdeal (hInPIdeal := hInPIdeal)
    ∧ quiescent_InPRefIdeal (hInPRefIdeal := hInPRefIdeal)
    ∧ preserves_Gla_GlaIdeal
    ∧ algebraic_GlaIdeal_GlaRefIdeal_pre_finite_gates (hGlaIdeal := hGlaIdeal) (hGlaRefIdeal := hGlaRefIdeal) (hPre_finite_gates := hPre_finite_gates)
    ∧ preserves_Post_PostIdeal
    ∧ algebraic_PostIdeal_PostRefIdeal_on_new_history (hPostIdeal := hPostIdeal) (hPostRefIdeal := hPostRefIdeal) (hOn_new_history := hOn_new_history)
    ∧ preserves_PostS_PostSIdeal
    ∧ algebraic_PostSIdeal_PostSRefIdeal_on_sample_history (hPostSIdeal := hPostSIdeal) (hPostSRefIdeal := hPostSRefIdeal) (hOn_sample_history := hOn_sample_history)
    ∧ preserves_InP_InPIdeal
    ∧ algebraic_InPIdeal_InPRefIdeal (hInPIdeal := hInPIdeal) (hInPRefIdeal := hInPRefIdeal)
-- ==== On_new_history.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S256x2816 : Shape := ⟨2, ![256, 2816]⟩
abbrev S_ : Shape := ⟨0, ![]⟩

class Facts : Prop where
  bcast_S_S16384x1024 : S_.BroadcastsInDim S16384x1024 (![] : Fin 0 → Fin S16384x1024.rank)
  bcast_S_S256x2816 : S_.BroadcastsInDim S256x2816 (![] : Fin 0 → Fin S256x2816.rank)

variable [Facts]

def fn {F : FTy → Type} [FloatOps F] (main_arg0 : FVec F S16384x1024 .f32) (main_arg1 : FVec F S16384x512 .bf16) (main_arg2 : FVec F S16384x512 .bf16) (main_arg3 : FVec F S16384x256 .f32) (main_arg4 : FVec F S1024x1024 .f32) (main_arg5 : FVec F S1024 .f32) (main_arg6 : FVec F S1024x2816 .f32) (main_arg7 : FVec F S1024x2816 .f32) (main_arg8 : FVec F S3x2816 .f32) (main_arg9 : FVec F S2816 .f32) (main_arg10 : FVec F S2816x1024 .f32) (main_arg11 : FVec F S1024 .f32) (main_arg12 : FVec F S1024x1024 .f32) (main_arg13 : FVec F S256x1024 .f32) : IVec S16384x1024 1 × IVec S256x2816 1 :=
  let main_v0 : IVec S256x2816 32 := iotaInDim S256x2816 32 0
  let main_c : IVec S_ 1 := constantI S_ 1 1#1
  let main_v1 : IVec S16384x1024 1 := broadcastInDim S16384x1024 ![] bcast_S_S16384x1024 main_c
  let main_c_0 : IVec S_ 32 := constantI S_ 32 32#32
  let main_v2 : IVec S256x2816 32 := broadcastInDim S256x2816 ![] bcast_S_S256x2816 main_c_0
  let main_v3 : IVec S256x2816 32 := Host.remsi main_v0 main_v2
  let main_c_1 : IVec S_ 32 := constantI S_ 32 30#32
  let main_v4 : IVec S256x2816 32 := broadcastInDim S256x2816 ![] bcast_S_S256x2816 main_c_1
  let main_v5 : IVec S256x2816 1 := cmpi .sge main_v3 main_v4
  (main_v1, main_v5)
-- ==== On_sample_history.lean ====
abbrev S256x1024 : Shape := ⟨2, ![256, 1024]⟩
abbrev S256x512 : Shape := ⟨2, ![256, 512]⟩
abbrev S256x256 : Shape := ⟨2, ![256, 256]⟩
abbrev S32x2x2816 : Shape := ⟨3, ![32, 2, 2816]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S256x2816 : Shape := ⟨2, ![256, 2816]⟩
abbrev S_ : Shape := ⟨0, ![]⟩

class Facts : Prop where
  bcast_S_S256x1024 : S_.BroadcastsInDim S256x1024 (![] : Fin 0 → Fin S256x1024.rank)
  bcast_S_S256x2816 : S_.BroadcastsInDim S256x2816 (![] : Fin 0 → Fin S256x2816.rank)

variable [Facts]

def fn {F : FTy → Type} [FloatOps F] (main_arg0 : FVec F S256x1024 .f32) (main_arg1 : FVec F S256x512 .bf16) (main_arg2 : FVec F S256x512 .bf16) (main_arg3 : FVec F S256x256 .f32) (main_arg4 : FVec F S32x2x2816 .f32) (main_arg5 : FVec F S1024x1024 .f32) (main_arg6 : FVec F S1024 .f32) (main_arg7 : FVec F S1024x2816 .f32) (main_arg8 : FVec F S1024x2816 .f32) (main_arg9 : FVec F S3x2816 .f32) (main_arg10 : FVec F S2816 .f32) (main_arg11 : FVec F S2816x1024 .f32) (main_arg12 : FVec F S1024 .f32) (main_arg13 : FVec F S1024x1024 .f32) (main_arg14 : FVec F S256x1024 .f32) : IVec S256x1024 1 × IVec S256x2816 1 :=
  let main_v0 : IVec S256x2816 32 := iotaInDim S256x2816 32 0
  let main_c : IVec S_ 1 := constantI S_ 1 1#1
  let main_v1 : IVec S256x1024 1 := broadcastInDim S256x1024 ![] bcast_S_S256x1024 main_c
  let main_c_0 : IVec S_ 32 := constantI S_ 32 8#32
  let main_v2 : IVec S256x2816 32 := broadcastInDim S256x2816 ![] bcast_S_S256x2816 main_c_0
  let main_v3 : IVec S256x2816 32 := Host.remsi main_v0 main_v2
  let main_c_1 : IVec S_ 32 := constantI S_ 32 6#32
  let main_v4 : IVec S256x2816 32 := broadcastInDim S256x2816 ![] bcast_S_S256x2816 main_c_1
  let main_v5 : IVec S256x2816 1 := cmpi .sge main_v3 main_v4
  (main_v1, main_v5)
-- ==== Pre_finite_gates.lean ====
abbrev S256x256 : Shape := ⟨2, ![256, 256]⟩
abbrev S256x512 : Shape := ⟨2, ![256, 512]⟩
abbrev S32x4x64x128 : Shape := ⟨4, ![32, 4, 64, 128]⟩
abbrev S1x128 : Shape := ⟨2, ![1, 128]⟩
abbrev S_ : Shape := ⟨0, ![]⟩

class Facts : Prop where
  bcast_S_S256x256 : S_.BroadcastsInDim S256x256 (![] : Fin 0 → Fin S256x256.rank)

variable [Facts]

def fn {F : FTy → Type} [FloatOps F] (main_arg0 : FVec F S256x256 .f32) (main_arg1 : FVec F S256x256 .f32) (main_arg2 : FVec F S256x512 .bf16) (main_arg3 : FVec F S256x512 .f32) (main_arg4 : FVec F S256x256 .f32) (main_arg5 : FVec F S32x4x64x128 .f32) (main_arg6 : FVec F S1x128 .f32) : IVec S256x256 1 :=
  let main_v0 : FVec F S256x256 .f32 := Host.absf main_arg4
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  main_v2
-- ==== Gla.lean ====
abbrev S256x256 : Shape := ⟨2, ![256, 256]⟩
abbrev S256x512 : Shape := ⟨2, ![256, 512]⟩
abbrev S32x4x64x128 : Shape := ⟨4, ![32, 4, 64, 128]⟩
abbrev S1x128 : Shape := ⟨2, ![1, 128]⟩
abbrev S16x8 : Shape := ⟨2, ![16, 8]⟩
abbrev S8x128 : Shape := ⟨2, ![8, 128]⟩
abbrev S32x8x256 : Shape := ⟨3, ![32, 8, 256]⟩
abbrev S32x8x512 : Shape := ⟨3, ![32, 8, 512]⟩
abbrev S8x8x256 : Shape := ⟨3, ![8, 8, 256]⟩
abbrev S8x8x512 : Shape := ⟨3, ![8, 8, 512]⟩
abbrev S8x4x64x128 : Shape := ⟨4, ![8, 4, 64, 128]⟩
abbrev S8x8 : Shape := ⟨2, ![8, 8]⟩
abbrev S1x8x256 : Shape := ⟨3, ![1, 8, 256]⟩
abbrev S8x256 : Shape := ⟨2, ![8, 256]⟩
abbrev S16x256 : Shape := ⟨2, ![16, 256]⟩
abbrev S256x128 : Shape := ⟨2, ![256, 128]⟩
abbrev S8x64 : Shape := ⟨2, ![8, 64]⟩
abbrev S1x8x512 : Shape := ⟨3, ![1, 8, 512]⟩
abbrev S8x512 : Shape := ⟨2, ![8, 512]⟩
abbrev S64x128 : Shape := ⟨2, ![64, 128]⟩
abbrev S1x1x64x128 : Shape := ⟨4, ![1, 1, 64, 128]⟩
abbrev S64x1 : Shape := ⟨2, ![64, 1]⟩
abbrev S8 : Shape := ⟨1, ![8]⟩
abbrev S8x1 : Shape := ⟨2, ![8, 1]⟩
abbrev S1x8x128 : Shape := ⟨3, ![1, 8, 128]⟩

abbrev nBuf : Space → Nat
  | .hbm => 16
  | .vmem => 20
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x512, .bf16⟩
  | .hbm, ⟨3, _⟩ => ⟨S256x512, .f32⟩
  | .hbm, ⟨4, _⟩ => ⟨S256x256, .f32⟩
  | .hbm, ⟨5, _⟩ => ⟨S32x4x64x128, .f32⟩
  | .hbm, ⟨6, _⟩ => ⟨S1x128, .f32⟩
  | .hbm, ⟨7, _⟩ => ⟨S16x8, .bf16⟩
  | .hbm, ⟨8, _⟩ => ⟨S8x128, .bf16⟩
  | .hbm, ⟨9, _⟩ => ⟨S32x8x256, .f32⟩
  | .hbm, ⟨10, _⟩ => ⟨S32x8x256, .f32⟩
  | .hbm, ⟨11, _⟩ => ⟨S32x8x512, .bf16⟩
  | .hbm, ⟨12, _⟩ => ⟨S32x8x512, .f32⟩
  | .hbm, ⟨13, _⟩ => ⟨S32x8x256, .f32⟩
  | .hbm, ⟨14, _⟩ => ⟨S32x8x512, .bf16⟩
  | .hbm, ⟨15, _⟩ => ⟨S32x4x64x128, .f32⟩
  | .local _ .vmem, ⟨0, _⟩ => ⟨S8x8x256, .f32⟩
  | .local _ .vmem, ⟨1, _⟩ => ⟨S8x8x256, .f32⟩
  | .local _ .vmem, ⟨2, _⟩ => ⟨S8x8x256, .f32⟩
  | .local _ .vmem, ⟨3, _⟩ => ⟨S8x8x256, .f32⟩
  | .local _ .vmem, ⟨4, _⟩ => ⟨S8x8x512, .bf16⟩
  | .local _ .vmem, ⟨5, _⟩ => ⟨S8x8x512, .bf16⟩
  | .local _ .vmem, ⟨6, _⟩ => ⟨S8x8x512, .f32⟩
  | .local _ .vmem, ⟨7, _⟩ => ⟨S8x8x512, .f32⟩
  | .local _ .vmem, ⟨8, _⟩ => ⟨S8x8x256, .f32⟩
  | .local _ .vmem, ⟨9, _⟩ => ⟨S8x8x256, .f32⟩
  | .local _ .vmem, ⟨10, _⟩ => ⟨S8x4x64x128, .f32⟩
  | .local _ .vmem, ⟨11, _⟩ => ⟨S8x4x64x128, .f32⟩
  | .local _ .vmem, ⟨12, _⟩ => ⟨S16x8, .bf16⟩
  | .local _ .vmem, ⟨13, _⟩ => ⟨S8x128, .bf16⟩
  | .local _ .vmem, ⟨14, _⟩ => ⟨S1x128, .f32⟩
  | .local _ .vmem, ⟨15, _⟩ => ⟨S8x8x512, .bf16⟩
  | .local _ .vmem, ⟨16, _⟩ => ⟨S8x8x512, .bf16⟩
  | .local _ .vmem, ⟨17, _⟩ => ⟨S8x4x64x128, .f32⟩
  | .local _ .vmem, ⟨18, _⟩ => ⟨S8x4x64x128, .f32⟩
  | .local _ .vmem, ⟨19, _⟩ => ⟨S8x4x64x128, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_815 : BitVec 32 := 0#32
  let v1747 : BitVec 1 := Scalar.cmpi .eq arg1 c0_i32_815
  let v1748 : BitVec 32 := Scalar.extui v1747
  let c0_i32_816 : BitVec 32 := 0#32
  let v1749 : BitVec 1 := Scalar.cmpi .ne v1748 c0_i32_816
  v1749

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S16x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x8x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GlaRefIdeal.lean ====
abbrev S256x256 : Shape := ⟨2, ![256, 256]⟩
abbrev S256x512 : Shape := ⟨2, ![256, 512]⟩
abbrev S32x4x64x128 : Shape := ⟨4, ![32, 4, 64, 128]⟩
abbrev S1x128 : Shape := ⟨2, ![1, 128]⟩
abbrev S32x8x4x64 : Shape := ⟨4, ![32, 8, 4, 64]⟩
abbrev S32x8x4x128 : Shape := ⟨4, ![32, 8, 4, 128]⟩
abbrev S_ : Shape := ⟨0, ![]⟩
abbrev S32x1x4x64 : Shape := ⟨4, ![32, 1, 4, 64]⟩
abbrev S8x8 : Shape := ⟨2, ![8, 8]⟩
abbrev S32x4x8x8 : Shape := ⟨4, ![32, 4, 8, 8]⟩
abbrev S32x4x128x8 : Shape := ⟨4, ![32, 4, 128, 8]⟩
abbrev S32x4x64 : Shape := ⟨3, ![32, 4, 64]⟩
abbrev S32x4x64x1 : Shape := ⟨4, ![32, 4, 64, 1]⟩
abbrev S128 : Shape := ⟨1, ![128]⟩
abbrev S32x8x4 : Shape := ⟨3, ![32, 8, 4]⟩
abbrev S32x8x4x1 : Shape := ⟨4, ![32, 8, 4, 1]⟩
abbrev S1x1x1x128 : Shape := ⟨4, ![1, 1, 1, 128]⟩
abbrev S32x8x512 : Shape := ⟨3, ![32, 8, 512]⟩

abbrev nBuf : Space → Nat
  | .hbm => 84
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x512, .bf16⟩
  | .hbm, ⟨3, _⟩ => ⟨S256x512, .f32⟩
  | .hbm, ⟨4, _⟩ => ⟨S256x256, .f32⟩
  | .hbm, ⟨5, _⟩ => ⟨S32x4x64x128, .f32⟩
  | .hbm, ⟨6, _⟩ => ⟨S1x128, .f32⟩
  | .hbm, ⟨7, _⟩ => ⟨S32x8x4x64, .f32⟩
  | .hbm, ⟨8, _⟩ => ⟨S32x8x4x64, .f32⟩
  | .hbm, ⟨9, _⟩ => ⟨S256x512, .f32⟩
  | .hbm, ⟨10, _⟩ => ⟨S32x8x4x128, .f32⟩
  | .hbm, ⟨11, _⟩ => ⟨S32x8x4x64, .f32⟩
  | .hbm, ⟨12, _⟩ => ⟨S_, .f32⟩
  | .hbm, ⟨13, _⟩ => ⟨S_, .f32⟩
  | .hbm, ⟨14, _⟩ => ⟨S32x8x4x64, .f32⟩
  | .hbm, ⟨15, _⟩ => ⟨S32x1x4x64, .f32⟩
  | .hbm, ⟨16, _⟩ => ⟨S32x8x4x64, .f32⟩
  | .hbm, ⟨17, _⟩ => ⟨S32x8x4x64, .f32⟩
  | .hbm, ⟨18, _⟩ => ⟨S32x8x4x64, .f32⟩
  | .hbm, ⟨19, _⟩ => ⟨S32x8x4x64, .f32⟩
  | .hbm, ⟨20, _⟩ => ⟨S32x8x4x64, .f32⟩
  | .hbm, ⟨21, _⟩ => ⟨S32x8x4x64, .f32⟩
  | .hbm, ⟨22, _⟩ => ⟨S32x8x4x64, .f32⟩
  | .hbm, ⟨23, _⟩ => ⟨S32x8x4x64, .f32⟩
  | .hbm, ⟨24, _⟩ => ⟨S32x8x4x64, .f32⟩
  | .hbm, ⟨25, _⟩ => ⟨S_, .i1⟩
  | .hbm, ⟨26, _⟩ => ⟨S8x8, .i1⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i32⟩
  | .hbm, ⟨32, _⟩ => ⟨S8x8, .i1⟩
  | .hbm, ⟨33, _⟩ => ⟨S_, .i1⟩
  | .hbm, ⟨34, _⟩ => ⟨S8x8, .i1⟩
  | .hbm, ⟨35, _⟩ => ⟨S8x8, .i1⟩
  | .hbm, ⟨36, _⟩ => ⟨S32x4x8x8, .f32⟩
  | .hbm, ⟨37, _⟩ => ⟨S_, .f32⟩
  | .hbm, ⟨38, _⟩ => ⟨S_, .f32⟩
  | .hbm, ⟨39, _⟩ => ⟨S32x4x8x8, .i1⟩
  | .hbm, ⟨40, _⟩ => ⟨S32x4x8x8, .f32⟩
  | .hbm, ⟨41, _⟩ => ⟨S32x4x8x8, .f32⟩
  | .hbm, ⟨42, _⟩ => ⟨S32x4x128x8, .f32⟩
  | .hbm, ⟨43, _⟩ => ⟨S32x8x4x128, .f32⟩
  | .hbm, ⟨44, _⟩ => ⟨S32x4x128x8, .f32⟩
  | .hbm, ⟨45, _⟩ => ⟨S32x8x4x128, .f32⟩
  | .hbm, ⟨46, _⟩ => ⟨S32x4x64, .f32⟩
  | .hbm, ⟨47, _⟩ => ⟨S32x4x64, .f32⟩
  | .hbm, ⟨48, _⟩ => ⟨S32x4x64x1, .f32⟩
  | .hbm, ⟨49, _⟩ => ⟨S32x4x64x128, .f32⟩
  | .hbm, ⟨50, _⟩ => ⟨S32x4x64x128, .f32⟩
  | .hbm, ⟨51, _⟩ => ⟨S32x4x64x128, .f32⟩
  | .hbm, ⟨52, _⟩ => ⟨S32x4x64x128, .f32⟩
  | .hbm, ⟨53, _⟩ => ⟨S32x8x4x128, .f32⟩
  | .hbm, ⟨54, _⟩ => ⟨S128, .f32⟩
  | .hbm, ⟨55, _⟩ => ⟨S32x8x4x128, .f32⟩
  | .hbm, ⟨56, _⟩ => ⟨S_, .f32⟩
  | .hbm, ⟨57, _⟩ => ⟨S32x8x4, .f32⟩
  | .hbm, ⟨58, _⟩ => ⟨S32x8x4x1, .f32⟩
  | .hbm, ⟨59, _⟩ => ⟨S_, .f32⟩
  | .hbm, ⟨60, _⟩ => ⟨S32x8x4x1, .f32⟩
  | .hbm, ⟨61, _⟩ => ⟨S32x8x4x1, .f32⟩
  | .hbm, ⟨62, _⟩ => ⟨S_, .f32⟩
  | .hbm, ⟨63, _⟩ => ⟨S32x8x4x1, .f32⟩
  | .hbm, ⟨64, _⟩ => ⟨S32x8x4x1, .f32⟩
  | .hbm, ⟨65, _⟩ => ⟨S32x8x4x1, .f32⟩
  | .hbm, ⟨66, _⟩ => ⟨S32x8x4x128, .f32⟩
  | .hbm, ⟨67, _⟩ => ⟨S32x8x4x128, .f32⟩
  | .hbm, ⟨68, _⟩ => ⟨S1x1x1x128, .f32⟩
  | .hbm, ⟨69, _⟩ => ⟨S32x8x4x128, .f32⟩
  | .hbm, ⟨70, _⟩ => ⟨S32x8x4x128, .f32⟩
  | .hbm, ⟨71, _⟩ => ⟨S32x8x512, .f32⟩
  | .hbm, ⟨72, _⟩ => ⟨S32x8x512, .f32⟩
  | .hbm, ⟨73, _⟩ => ⟨S32x8x512, .f32⟩
  | .hbm, ⟨74, _⟩ => ⟨S32x8x512, .f32⟩
  | .hbm, ⟨75, _⟩ => ⟨S_, .f32⟩
  | .hbm, ⟨76, _⟩ => ⟨S32x8x512, .f32⟩
  | .hbm, ⟨77, _⟩ => ⟨S32x8x512, .f32⟩
  | .hbm, ⟨78, _⟩ => ⟨S_, .f32⟩
  | .hbm, ⟨79, _⟩ => ⟨S32x8x512, .f32⟩
  | .hbm, ⟨80, _⟩ => ⟨S32x8x512, .f32⟩
  | .hbm, ⟨81, _⟩ => ⟨S32x8x512, .f32⟩
  | .hbm, ⟨82, _⟩ => ⟨S32x8x512, .f32⟩
  | .hbm, ⟨83, _⟩ => ⟨S32x8x512, .bf16⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_call0_cst : Ref sig .tc := ⟨.hbm, 12, rfl⟩
abbrev main_call0_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_0 : Ref sig .tc := ⟨.hbm, 33, rfl⟩
abbrev main_call1_v5 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_0 : Ref sig .tc := ⟨.hbm, 56, rfl⟩
abbrev main_v34 : Ref sig .tc := ⟨.hbm, 57, rfl⟩
abbrev main_v35 : Ref sig .tc := ⟨.hbm, 58, rfl⟩
abbrev main_cst_1 : Ref sig .tc := ⟨.hbm, 59, rfl⟩
abbrev main_v36 : Ref sig .tc := ⟨.hbm, 60, rfl⟩
abbrev main_v37 : Ref sig .tc := ⟨.hbm, 61, rfl⟩
abbrev main_cst_2 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call3_v0 : Ref sig .tc := ⟨.hbm, 73, rfl⟩
abbrev main_call3_v1 : Ref sig .tc := ⟨.hbm, 74, rfl⟩
abbrev main_call3_cst : Ref sig .tc := ⟨.hbm, 75, rfl⟩
abbrev main_call3_v2 : Ref sig .tc := ⟨.hbm, 76, rfl⟩
abbrev main_call3_v3 : Ref sig .tc := ⟨.hbm, 77, rfl⟩
abbrev main_call3_cst_0 : Ref sig .tc := ⟨.hbm, 78, rfl⟩
abbrev main_call3_v4 : Ref sig .tc := ⟨.hbm, 79, rfl⟩
abbrev main_call3_v5 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩

abbrev nD : Nat := 1
abbrev τ : Topo := Topo.v7x

variable {F : FTy → Type} [FloatOps F]
-- ==== Post.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S1x1024 : Shape := ⟨2, ![1, 1024]⟩
abbrev S1x2816 : Shape := ⟨2, ![1, 2816]⟩
abbrev S256x2816 : Shape := ⟨2, ![256, 2816]⟩
abbrev S512x1024 : Shape := ⟨2, ![512, 1024]⟩
abbrev S512x512 : Shape := ⟨2, ![512, 512]⟩
abbrev S512x256 : Shape := ⟨2, ![512, 256]⟩
abbrev S8x2816 : Shape := ⟨2, ![8, 2816]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1024x1280 : Shape := ⟨2, ![1024, 1280]⟩
abbrev S512x1280 : Shape := ⟨2, ![512, 1280]⟩
abbrev S8x1536 : Shape := ⟨2, ![8, 1536]⟩
abbrev S1x1536 : Shape := ⟨2, ![1, 1536]⟩
abbrev S1536x1024 : Shape := ⟨2, ![1536, 1024]⟩
abbrev S8x1280 : Shape := ⟨2, ![8, 1280]⟩
abbrev S1x1280 : Shape := ⟨2, ![1, 1280]⟩
abbrev S1280x1024 : Shape := ⟨2, ![1280, 1024]⟩

abbrev nBuf : Space → Nat
  | .hbm => 25
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S3x2816, .f32⟩
  | .hbm, ⟨9, _⟩ => ⟨S2816, .f32⟩
  | .hbm, ⟨10, _⟩ => ⟨S2816x1024, .f32⟩
  | .hbm, ⟨11, _⟩ => ⟨S1024, .f32⟩
  | .hbm, ⟨12, _⟩ => ⟨S1024x1024, .f32⟩
  | .hbm, ⟨13, _⟩ => ⟨S256x1024, .f32⟩
  | .hbm, ⟨14, _⟩ => ⟨S1024x1024, .bf16⟩
  | .hbm, ⟨15, _⟩ => ⟨S1x1024, .f32⟩
  | .hbm, ⟨16, _⟩ => ⟨S1024x2816, .bf16⟩
  | .hbm, ⟨17, _⟩ => ⟨S1024x2816, .bf16⟩
  | .hbm, ⟨18, _⟩ => ⟨S1x2816, .f32⟩
  | .hbm, ⟨19, _⟩ => ⟨S2816x1024, .bf16⟩
  | .hbm, ⟨20, _⟩ => ⟨S1x1024, .f32⟩
  | .hbm, ⟨21, _⟩ => ⟨S1024x1024, .bf16⟩
  | .hbm, ⟨22, _⟩ => ⟨S256x1024, .bf16⟩
  | .hbm, ⟨23, _⟩ => ⟨S16384x1024, .f32⟩
  | .hbm, ⟨24, _⟩ => ⟨S256x2816, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S3x2816, .f32⟩
  | .local _ .vmem, ⟨13, _⟩ => ⟨S1x2816, .f32⟩
  | .local _ .vmem, ⟨14, _⟩ => ⟨S2816x1024, .bf16⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S512x1024, .f32⟩
  | .local _ .vmem, ⟨19, _⟩ => ⟨S512x1024, .f32⟩
  | .local _ .vmem, ⟨20, _⟩ => ⟨S8x2816, .f32⟩
  | .local _ .vmem, ⟨21, _⟩ => ⟨S8x2816, .f32⟩
  | .local _ .vmem, ⟨22, _⟩ => ⟨S512x1024, .f32⟩
  | .local _ .vmem, ⟨23, _⟩ => ⟨S8x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PostRefIdeal.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S8x2048x1024 : Shape := ⟨3, ![8, 2048, 1024]⟩
abbrev S8x2048x512 : Shape := ⟨3, ![8, 2048, 512]⟩
abbrev S_ : Shape := ⟨0, ![]⟩
abbrev S8x2x2816 : Shape := ⟨3, ![8, 2, 2816]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S8x2050x2816 : Shape := ⟨3, ![8, 2050, 2816]⟩
abbrev S1x2816 : Shape := ⟨2, ![1, 2816]⟩
abbrev S1x1x2816 : Shape := ⟨3, ![1, 1, 2816]⟩
abbrev S8x2048x256 : Shape := ⟨3, ![8, 2048, 256]⟩
abbrev S8x30x2816 : Shape := ⟨3, ![8, 30, 2816]⟩
abbrev S8x32x2816 : Shape := ⟨3, ![8, 32, 2816]⟩
abbrev S256x2816 : Shape := ⟨2, ![256, 2816]⟩

abbrev nBuf : Space → Nat
  | .hbm => 116
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S3x2816, .f32⟩
  | .hbm, ⟨9, _⟩ => ⟨S2816, .f32⟩
  | .hbm, ⟨10, _⟩ => ⟨S2816x1024, .f32⟩
  | .hbm, ⟨11, _⟩ => ⟨S1024, .f32⟩
  | .hbm, ⟨12, _⟩ => ⟨S1024x1024, .f32⟩
  | .hbm, ⟨13, _⟩ => ⟨S256x1024, .f32⟩
  | .hbm, ⟨14, _⟩ => ⟨S8x2048x1024, .f32⟩
  | .hbm, ⟨15, _⟩ => ⟨S16384x512, .f32⟩
  | .hbm, ⟨16, _⟩ => ⟨S8x2048x512, .f32⟩
  | .hbm, ⟨17, _⟩ => ⟨S16384x512, .f32⟩
  | .hbm, ⟨18, _⟩ => ⟨S8x2048x512, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2x2816, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S8x2048x2816, .f32⟩
  | .hbm, ⟨41, _⟩ => ⟨S8x2048x2816, .f32⟩
  | .hbm, ⟨42, _⟩ => ⟨S8x2050x2816, .f32⟩
  | .hbm, ⟨43, _⟩ => ⟨S1x2816, .f32⟩
  | .hbm, ⟨44, _⟩ => ⟨S2816, .f32⟩
  | .hbm, ⟨45, _⟩ => ⟨S8x2048x2816, .f32⟩
  | .hbm, ⟨46, _⟩ => ⟨S1x1x2816, .f32⟩
  | .hbm, ⟨47, _⟩ => ⟨S8x2048x2816, .f32⟩
  | .hbm, ⟨48, _⟩ => ⟨S8x2048x2816, .f32⟩
  | .hbm, ⟨49, _⟩ => ⟨S_, .f32⟩
  | .hbm, ⟨50, _⟩ => ⟨S8x2048x2816, .f32⟩
  | .hbm, ⟨51, _⟩ => ⟨S8x2048x2816, .f32⟩
  | .hbm, ⟨52, _⟩ => ⟨S1x2816, .f32⟩
  | .hbm, ⟨53, _⟩ => ⟨S2816, .f32⟩
  | .hbm, ⟨54, _⟩ => ⟨S8x2048x2816, .f32⟩
  | .hbm, ⟨55, _⟩ => ⟨S1x1x2816, .f32⟩
  | .hbm, ⟨56, _⟩ => ⟨S8x2048x2816, .f32⟩
  | .hbm, ⟨57, _⟩ => ⟨S8x2048x2816, .f32⟩
  | .hbm, ⟨58, _⟩ => ⟨S8x2048x2816, .f32⟩
  | .hbm, ⟨59, _⟩ => ⟨S1x2816, .f32⟩
  | .hbm, ⟨60, _⟩ => ⟨S2816, .f32⟩
  | .hbm, ⟨61, _⟩ => ⟨S8x2048x2816, .f32⟩
  | .hbm, ⟨62, _⟩ => ⟨S1x1x2816, .f32⟩
  | .hbm, ⟨63, _⟩ => ⟨S8x2048x2816, .f32⟩
  | .hbm, ⟨64, _⟩ => ⟨S8x2048x2816, .f32⟩
  | .hbm, ⟨65, _⟩ => ⟨S8x2048x2816, .f32⟩
  | .hbm, ⟨66, _⟩ => ⟨S1x1x2816, .f32⟩
  | .hbm, ⟨67, _⟩ => ⟨S8x2048x2816, .f32⟩
  | .hbm, ⟨68, _⟩ => ⟨S8x2048x2816, .f32⟩
  | .hbm, ⟨69, _⟩ => ⟨S8x2048x2816, .f32⟩
  | .hbm, ⟨70, _⟩ => ⟨S8x2048x2816, .f32⟩
  | .hbm, ⟨71, _⟩ => ⟨S_, .f32⟩
  | .hbm, ⟨72, _⟩ => ⟨S8x2048x2816, .f32⟩
  | .hbm, ⟨73, _⟩ => ⟨S8x2048x2816, .f32⟩
  | .hbm, ⟨74, _⟩ => ⟨S_, .f32⟩
  | .hbm, ⟨75, _⟩ => ⟨S8x2048x2816, .f32⟩
  | .hbm, ⟨76, _⟩ => ⟨S8x2048x2816, .f32⟩
  | .hbm, ⟨77, _⟩ => ⟨S8x2048x2816, .f32⟩
  | .hbm, ⟨78, _⟩ => ⟨S8x2048x2816, .f32⟩
  | .hbm, ⟨79, _⟩ => ⟨S8x2048x1024, .f32⟩
  | .hbm, ⟨80, _⟩ => ⟨S8x2x2816, .f32⟩
  | .hbm, ⟨81, _⟩ => ⟨S8x2048x1024, .f32⟩
  | .hbm, ⟨82, _⟩ => ⟨S8x2048x256, .f32⟩
  | .hbm, ⟨83, _⟩ => ⟨S8x2048x1024, .f32⟩
  | .hbm, ⟨84, _⟩ => ⟨S8x2048x1024, .f32⟩
  | .hbm, ⟨85, _⟩ => ⟨S_, .f32⟩
  | .hbm, ⟨86, _⟩ => ⟨S8x2048, .f32⟩
  | .hbm, ⟨87, _⟩ => ⟨S8x2048x1, .f32⟩
  | .hbm, ⟨88, _⟩ => ⟨S_, .f32⟩
  | .hbm, ⟨89, _⟩ => ⟨S8x2048x1, .f32⟩
  | .hbm, ⟨90, _⟩ => ⟨S8x2048x1, .f32⟩
  | .hbm, ⟨91, _⟩ => ⟨S_, .f32⟩
  | .hbm, ⟨92, _⟩ => ⟨S8x2048x1, .f32⟩
  | .hbm, ⟨93, _⟩ => ⟨S8x2048x1, .f32⟩
  | .hbm, ⟨94, _⟩ => ⟨S8x2048x1, .f32⟩
  | .hbm, ⟨95, _⟩ => ⟨S8x2048x1024, .f32⟩
  | .hbm, ⟨96, _⟩ => ⟨S8x2048x1024, .f32⟩
  | .hbm, ⟨97, _⟩ => ⟨S1x1x1024, .f32⟩
  | .hbm, ⟨98, _⟩ => ⟨S8x2048x1024, .f32⟩
  | .hbm, ⟨99, _⟩ => ⟨S8x2048x1024, .f32⟩
  | .hbm, ⟨100, _⟩ => ⟨S8x2048x1024, .f32⟩
  | .hbm, ⟨101, _⟩ => ⟨S8x2048x1024, .f32⟩
  | .hbm, ⟨102, _⟩ => ⟨S8x2048x1024, .f32⟩
  | .hbm, ⟨103, _⟩ => ⟨S_, .f32⟩
  | .hbm, ⟨104, _⟩ => ⟨S8x2048x1024, .f32⟩
  | .hbm, ⟨105, _⟩ => ⟨S8x2048x1024, .f32⟩
  | .hbm, ⟨106, _⟩ => ⟨S_, .f32⟩
  | .hbm, ⟨107, _⟩ => ⟨S8x2048x1024, .f32⟩
  | .hbm, ⟨108, _⟩ => ⟨S8x2048x1024, .f32⟩
  | .hbm, ⟨109, _⟩ => ⟨S8x2048x1024, .f32⟩
  | .hbm, ⟨110, _⟩ => ⟨S8x2048x1024, .f32⟩
  | .hbm, ⟨111, _⟩ => ⟨S_, .f32⟩
  | .hbm, ⟨112, _⟩ => ⟨S8x30x2816, .f32⟩
  | .hbm, ⟨113, _⟩ => ⟨S8x32x2816, .f32⟩
  | .hbm, ⟨114, _⟩ => ⟨S16384x1024, .f32⟩
  | .hbm, ⟨115, _⟩ => ⟨S256x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_4 : Ref sig .tc := ⟨.hbm, 85, rfl⟩
abbrev main_v58 : Ref sig .tc := ⟨.hbm, 86, rfl⟩
abbrev main_v59 : Ref sig .tc := ⟨.hbm, 87, rfl⟩
abbrev main_cst_5 : Ref sig .tc := ⟨.hbm, 88, rfl⟩
abbrev main_v60 : Ref sig .tc := ⟨.hbm, 89, rfl⟩
abbrev main_v61 : Ref sig .tc := ⟨.hbm, 90, rfl⟩
abbrev main_cst_6 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_7 : Ref sig .tc := ⟨.hbm, 103, rfl⟩
abbrev main_v73 : Ref sig .tc := ⟨.hbm, 104, rfl⟩
abbrev main_v74 : Ref sig .tc := ⟨.hbm, 105, rfl⟩
abbrev main_cst_8 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_9 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]
-- ==== PostS.lean ====
abbrev S256x1024 : Shape := ⟨2, ![256, 1024]⟩
abbrev S256x512 : Shape := ⟨2, ![256, 512]⟩
abbrev S256x256 : Shape := ⟨2, ![256, 256]⟩
abbrev S32x2x2816 : Shape := ⟨3, ![32, 2, 2816]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S32x1x2816 : Shape := ⟨3, ![32, 1, 2816]⟩
abbrev S_ : Shape := ⟨0, ![]⟩
abbrev S32x8x2816 : Shape := ⟨3, ![32, 8, 2816]⟩
abbrev S256x2816 : Shape := ⟨2, ![256, 2816]⟩
abbrev S512x1024 : Shape := ⟨2, ![512, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1024x1280 : Shape := ⟨2, ![1024, 1280]⟩
abbrev S256x1280 : Shape := ⟨2, ![256, 1280]⟩
abbrev S1x1536 : Shape := ⟨2, ![1, 1536]⟩
abbrev S1536x1024 : Shape := ⟨2, ![1536, 1024]⟩
abbrev S1x1280 : Shape := ⟨2, ![1, 1280]⟩
abbrev S1280x1024 : Shape := ⟨2, ![1280, 1024]⟩

abbrev nBuf : Space → Nat
  | .hbm => 35
  | .vmem => 19
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .bf16⟩
  | .hbm, ⟨3, _⟩ => ⟨S256x256, .f32⟩
  | .hbm, ⟨4, _⟩ => ⟨S32x2x2816, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S3x2816, .f32⟩
  | .hbm, ⟨10, _⟩ => ⟨S2816, .f32⟩
  | .hbm, ⟨11, _⟩ => ⟨S2816x1024, .f32⟩
  | .hbm, ⟨12, _⟩ => ⟨S1024, .f32⟩
  | .hbm, ⟨13, _⟩ => ⟨S1024x1024, .f32⟩
  | .hbm, ⟨14, _⟩ => ⟨S256x1024, .f32⟩
  | .hbm, ⟨15, _⟩ => ⟨S1024x1024, .bf16⟩
  | .hbm, ⟨16, _⟩ => ⟨S1x1024, .f32⟩
  | .hbm, ⟨17, _⟩ => ⟨S1024x2816, .bf16⟩
  | .hbm, ⟨18, _⟩ => ⟨S1024x2816, .bf16⟩
  | .hbm, ⟨19, _⟩ => ⟨S1x2816, .f32⟩
  | .hbm, ⟨20, _⟩ => ⟨S2816x1024, .bf16⟩
  | .hbm, ⟨21, _⟩ => ⟨S1x1024, .f32⟩
  | .hbm, ⟨22, _⟩ => ⟨S1024x1024, .bf16⟩
  | .hbm, ⟨23, _⟩ => ⟨S256x1024, .bf16⟩
  | .hbm, ⟨24, _⟩ => ⟨S32x1x2816, .f32⟩
  | .hbm, ⟨25, _⟩ => ⟨S_, .i32⟩
  | .hbm, ⟨26, _⟩ => ⟨S_, .f32⟩
  | .hbm, ⟨27, _⟩ => ⟨S32x8x2816, .f32⟩
  | .hbm, ⟨28, _⟩ => ⟨S256x2816, .f32⟩
  | .hbm, ⟨29, _⟩ => ⟨S_, .i32⟩
  | .hbm, ⟨30, _⟩ => ⟨S_, .f32⟩
  | .hbm, ⟨31, _⟩ => ⟨S32x8x2816, .f32⟩
  | .hbm, ⟨32, _⟩ => ⟨S256x2816, .f32⟩
  | .hbm, ⟨33, _⟩ => ⟨S256x1024, .f32⟩
  | .hbm, ⟨34, _⟩ => ⟨S256x2816, .f32⟩
  | .local _ .vmem, ⟨0, _⟩ => ⟨S256x1024, .f32⟩
  | .local _ .vmem, ⟨1, _⟩ => ⟨S256x512, .bf16⟩
  | .local _ .vmem, ⟨2, _⟩ => ⟨S256x512, .bf16⟩
  | .local _ .vmem, ⟨3, _⟩ => ⟨S256x256, .f32⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S256x2816, .f32⟩
  | .local _ .vmem, ⟨15, _⟩ => ⟨S256x2816, .f32⟩
  | .local _ .vmem, ⟨16, _⟩ => ⟨S256x1024, .f32⟩
  | .local _ .vmem, ⟨17, _⟩ => ⟨S256x2816, .f32⟩
  | .local _ .vmem, ⟨18, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_call0_v0 : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_call1_v0 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== PostSRefIdeal.lean ====
abbrev S256x1024 : Shape := ⟨2, ![256, 1024]⟩
abbrev S256x512 : Shape := ⟨2, ![256, 512]⟩
abbrev S256x256 : Shape := ⟨2, ![256, 256]⟩
abbrev S32x2x2816 : Shape := ⟨3, ![32, 2, 2816]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S32x8x1024 : Shape := ⟨3, ![32, 8, 1024]⟩
abbrev S32x8x512 : Shape := ⟨3, ![32, 8, 512]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x2816 : Shape := ⟨3, ![32, 8, 2816]⟩
abbrev S32x10x2816 : Shape := ⟨3, ![32, 10, 2816]⟩
abbrev S1x2816 : Shape := ⟨2, ![1, 2816]⟩
abbrev S1x1x2816 : Shape := ⟨3, ![1, 1, 2816]⟩
abbrev S32x8x256 : Shape := ⟨3, ![32, 8, 256]⟩
abbrev S32x6x2816 : Shape := ⟨3, ![32, 6, 2816]⟩
abbrev S256x2816 : Shape := ⟨2, ![256, 2816]⟩

abbrev nBuf : Space → Nat
  | .hbm => 115
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .bf16⟩
  | .hbm, ⟨3, _⟩ => ⟨S256x256, .f32⟩
  | .hbm, ⟨4, _⟩ => ⟨S32x2x2816, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S3x2816, .f32⟩
  | .hbm, ⟨10, _⟩ => ⟨S2816, .f32⟩
  | .hbm, ⟨11, _⟩ => ⟨S2816x1024, .f32⟩
  | .hbm, ⟨12, _⟩ => ⟨S1024, .f32⟩
  | .hbm, ⟨13, _⟩ => ⟨S1024x1024, .f32⟩
  | .hbm, ⟨14, _⟩ => ⟨S256x1024, .f32⟩
  | .hbm, ⟨15, _⟩ => ⟨S32x8x1024, .f32⟩
  | .hbm, ⟨16, _⟩ => ⟨S256x512, .f32⟩
  | .hbm, ⟨17, _⟩ => ⟨S32x8x512, .f32⟩
  | .hbm, ⟨18, _⟩ => ⟨S256x512, .f32⟩
  | .hbm, ⟨19, _⟩ => ⟨S32x8x512, .f32⟩
  | .hbm, ⟨20, _⟩ => ⟨S32x8x1024, .f32⟩
  | .hbm, ⟨21, _⟩ => ⟨S32x8x1024, .f32⟩
  | .hbm, ⟨22, _⟩ => ⟨S32x8x1024, .f32⟩
  | .hbm, ⟨23, _⟩ => ⟨S32x8x1024, .f32⟩
  | .hbm, ⟨24, _⟩ => ⟨S_, .f32⟩
  | .hbm, ⟨25, _⟩ => ⟨S32x8, .f32⟩
  | .hbm, ⟨26, _⟩ => ⟨S32x8x1, .f32⟩
  | .hbm, ⟨27, _⟩ => ⟨S_, .f32⟩
  | .hbm, ⟨28, _⟩ => ⟨S32x8x1, .f32⟩
  | .hbm, ⟨29, _⟩ => ⟨S32x8x1, .f32⟩
  | .hbm, ⟨30, _⟩ => ⟨S_, .f32⟩
  | .hbm, ⟨31, _⟩ => ⟨S32x8x1, .f32⟩
  | .hbm, ⟨32, _⟩ => ⟨S32x8x1, .f32⟩
  | .hbm, ⟨33, _⟩ => ⟨S32x8x1, .f32⟩
  | .hbm, ⟨34, _⟩ => ⟨S32x8x1024, .f32⟩
  | .hbm, ⟨35, _⟩ => ⟨S32x8x1024, .f32⟩
  | .hbm, ⟨36, _⟩ => ⟨S1x1x1024, .f32⟩
  | .hbm, ⟨37, _⟩ => ⟨S32x8x1024, .f32⟩
  | .hbm, ⟨38, _⟩ => ⟨S32x8x1024, .f32⟩
  | .hbm, ⟨39, _⟩ => ⟨S32x8x2816, .f32⟩
  | .hbm, ⟨40, _⟩ => ⟨S32x8x2816, .f32⟩
  | .hbm, ⟨41, _⟩ => ⟨S32x10x2816, .f32⟩
  | .hbm, ⟨42, _⟩ => ⟨S1x2816, .f32⟩
  | .hbm, ⟨43, _⟩ => ⟨S2816, .f32⟩
  | .hbm, ⟨44, _⟩ => ⟨S32x8x2816, .f32⟩
  | .hbm, ⟨45, _⟩ => ⟨S1x1x2816, .f32⟩
  | .hbm, ⟨46, _⟩ => ⟨S32x8x2816, .f32⟩
  | .hbm, ⟨47, _⟩ => ⟨S32x8x2816, .f32⟩
  | .hbm, ⟨48, _⟩ => ⟨S_, .f32⟩
  | .hbm, ⟨49, _⟩ => ⟨S32x8x2816, .f32⟩
  | .hbm, ⟨50, _⟩ => ⟨S32x8x2816, .f32⟩
  | .hbm, ⟨51, _⟩ => ⟨S1x2816, .f32⟩
  | .hbm, ⟨52, _⟩ => ⟨S2816, .f32⟩
  | .hbm, ⟨53, _⟩ => ⟨S32x8x2816, .f32⟩
  | .hbm, ⟨54, _⟩ => ⟨S1x1x2816, .f32⟩
  | .hbm, ⟨55, _⟩ => ⟨S32x8x2816, .f32⟩
  | .hbm, ⟨56, _⟩ => ⟨S32x8x2816, .f32⟩
  | .hbm, ⟨57, _⟩ => ⟨S32x8x2816, .f32⟩
  | .hbm, ⟨58, _⟩ => ⟨S1x2816, .f32⟩
  | .hbm, ⟨59, _⟩ => ⟨S2816, .f32⟩
  | .hbm, ⟨60, _⟩ => ⟨S32x8x2816, .f32⟩
  | .hbm, ⟨61, _⟩ => ⟨S1x1x2816, .f32⟩
  | .hbm, ⟨62, _⟩ => ⟨S32x8x2816, .f32⟩
  | .hbm, ⟨63, _⟩ => ⟨S32x8x2816, .f32⟩
  | .hbm, ⟨64, _⟩ => ⟨S32x8x2816, .f32⟩
  | .hbm, ⟨65, _⟩ => ⟨S1x1x2816, .f32⟩
  | .hbm, ⟨66, _⟩ => ⟨S32x8x2816, .f32⟩
  | .hbm, ⟨67, _⟩ => ⟨S32x8x2816, .f32⟩
  | .hbm, ⟨68, _⟩ => ⟨S32x8x2816, .f32⟩
  | .hbm, ⟨69, _⟩ => ⟨S32x8x2816, .f32⟩
  | .hbm, ⟨70, _⟩ => ⟨S_, .f32⟩
  | .hbm, ⟨71, _⟩ => ⟨S32x8x2816, .f32⟩
  | .hbm, ⟨72, _⟩ => ⟨S32x8x2816, .f32⟩
  | .hbm, ⟨73, _⟩ => ⟨S_, .f32⟩
  | .hbm, ⟨74, _⟩ => ⟨S32x8x2816, .f32⟩
  | .hbm, ⟨75, _⟩ => ⟨S32x8x2816, .f32⟩
  | .hbm, ⟨76, _⟩ => ⟨S32x8x2816, .f32⟩
  | .hbm, ⟨77, _⟩ => ⟨S32x8x2816, .f32⟩
  | .hbm, ⟨78, _⟩ => ⟨S32x8x1024, .f32⟩
  | .hbm, ⟨79, _⟩ => ⟨S32x2x2816, .f32⟩
  | .hbm, ⟨80, _⟩ => ⟨S32x8x1024, .f32⟩
  | .hbm, ⟨81, _⟩ => ⟨S32x8x256, .f32⟩
  | .hbm, ⟨82, _⟩ => ⟨S32x8x1024, .f32⟩
  | .hbm, ⟨83, _⟩ => ⟨S32x8x1024, .f32⟩
  | .hbm, ⟨84, _⟩ => ⟨S_, .f32⟩
  | .hbm, ⟨85, _⟩ => ⟨S32x8, .f32⟩
  | .hbm, ⟨86, _⟩ => ⟨S32x8x1, .f32⟩
  | .hbm, ⟨87, _⟩ => ⟨S_, .f32⟩
  | .hbm, ⟨88, _⟩ => ⟨S32x8x1, .f32⟩
  | .hbm, ⟨89, _⟩ => ⟨S32x8x1, .f32⟩
  | .hbm, ⟨90, _⟩ => ⟨S_, .f32⟩
  | .hbm, ⟨91, _⟩ => ⟨S32x8x1, .f32⟩
  | .hbm, ⟨92, _⟩ => ⟨S32x8x1, .f32⟩
  | .hbm, ⟨93, _⟩ => ⟨S32x8x1, .f32⟩
  | .hbm, ⟨94, _⟩ => ⟨S32x8x1024, .f32⟩
  | .hbm, ⟨95, _⟩ => ⟨S32x8x1024, .f32⟩
  | .hbm, ⟨96, _⟩ => ⟨S1x1x1024, .f32⟩
  | .hbm, ⟨97, _⟩ => ⟨S32x8x1024, .f32⟩
  | .hbm, ⟨98, _⟩ => ⟨S32x8x1024, .f32⟩
  | .hbm, ⟨99, _⟩ => ⟨S32x8x1024, .f32⟩
  | .hbm, ⟨100, _⟩ => ⟨S32x8x1024, .f32⟩
  | .hbm, ⟨101, _⟩ => ⟨S32x8x1024, .f32⟩
  | .hbm, ⟨102, _⟩ => ⟨S_, .f32⟩
  | .hbm, ⟨103, _⟩ => ⟨S32x8x1024, .f32⟩
  | .hbm, ⟨104, _⟩ => ⟨S32x8x1024, .f32⟩
  | .hbm, ⟨105, _⟩ => ⟨S_, .f32⟩
  | .hbm, ⟨106, _⟩ => ⟨S32x8x1024, .f32⟩
  | .hbm, ⟨107, _⟩ => ⟨S32x8x1024, .f32⟩
  | .hbm, ⟨108, _⟩ => ⟨S32x8x1024, .f32⟩
  | .hbm, ⟨109, _⟩ => ⟨S32x8x1024, .f32⟩
  | .hbm, ⟨110, _⟩ => ⟨S_, .f32⟩
  | .hbm, ⟨111, _⟩ => ⟨S32x6x2816, .f32⟩
  | .hbm, ⟨112, _⟩ => ⟨S32x8x2816, .f32⟩
  | .hbm, ⟨113, _⟩ => ⟨S256x1024, .f32⟩
  | .hbm, ⟨114, _⟩ => ⟨S256x2816, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_3 : Ref sig .tc := ⟨.hbm, 84, rfl⟩
abbrev main_v57 : Ref sig .tc := ⟨.hbm, 85, rfl⟩
abbrev main_v58 : Ref sig .tc := ⟨.hbm, 86, rfl⟩
abbrev main_cst_4 : Ref sig .tc := ⟨.hbm, 87, rfl⟩
abbrev main_v59 : Ref sig .tc := ⟨.hbm, 88, rfl⟩
abbrev main_v60 : Ref sig .tc := ⟨.hbm, 89, rfl⟩
abbrev main_cst_5 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_6 : Ref sig .tc := ⟨.hbm, 102, rfl⟩
abbrev main_v72 : Ref sig .tc := ⟨.hbm, 103, rfl⟩
abbrev main_v73 : Ref sig .tc := ⟨.hbm, 104, rfl⟩
abbrev main_cst_7 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_8 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]
-- ==== InP.lean ====
abbrev S16384x1024 : Shape := ⟨2, ![16384, 1024]⟩
abbrev S1024 : Shape := ⟨1, ![1024]⟩
abbrev S1024x1968 : Shape := ⟨2, ![1024, 1968]⟩
abbrev S16x256 : Shape := ⟨2, ![16, 256]⟩
abbrev S256 : Shape := ⟨1, ![256]⟩
abbrev S1x256 : Shape := ⟨2, ![1, 256]⟩
abbrev S256x2048 : Shape := ⟨2, ![256, 2048]⟩
abbrev S256x256 : Shape := ⟨2, ![256, 256]⟩
abbrev S2x128 : Shape := ⟨2, ![2, 128]⟩
abbrev S128 : Shape := ⟨1, ![128]⟩
abbrev S32 : Shape := ⟨1, ![32]⟩
abbrev S128x1024 : Shape := ⟨2, ![128, 1024]⟩
abbrev S1x1024 : Shape := ⟨2, ![1, 1024]⟩
abbrev S512x128 : Shape := ⟨2, ![512, 128]⟩
abbrev S1024x16 : Shape := ⟨2, ![1024, 16]⟩
abbrev S_ : Shape := ⟨0, ![]⟩
abbrev S1024x48 : Shape := ⟨2, ![1024, 48]⟩
abbrev S1024x32 : Shape := ⟨2, ![1024, 32]⟩
abbrev S1024x128 : Shape := ⟨2, ![1024, 128]⟩
abbrev S1024x1536 : Shape := ⟨2, ![1024, 1536]⟩
abbrev S1024x256 : Shape := ⟨2, ![1024, 256]⟩
abbrev S1024x512 : Shape := ⟨2, ![1024, 512]⟩
abbrev S112x256 : Shape := ⟨2, ![112, 256]⟩
abbrev S128x256 : Shape := ⟨2, ![128, 256]⟩
abbrev S64 : Shape := ⟨1, ![64]⟩
abbrev S1x128 : Shape := ⟨2, ![1, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩
abbrev S16384x256 : Shape := ⟨2, ![16384, 256]⟩
abbrev S16384x512 : Shape := ⟨2, ![16384, 512]⟩
abbrev S16384x128 : Shape := ⟨2, ![16384, 128]⟩
abbrev S16384x32 : Shape := ⟨2, ![16384, 32]⟩
abbrev S512x16384 : Shape := ⟨2, ![512, 16384]⟩
abbrev S512x1024 : Shape := ⟨2, ![512, 1024]⟩
abbrev S512x256 : Shape := ⟨2, ![512, 256]⟩
abbrev S512x512 : Shape := ⟨2, ![512, 512]⟩
abbrev S512x32 : Shape := ⟨2, ![512, 32]⟩
abbrev S512 : Shape := ⟨1, ![512]⟩
abbrev S512x1 : Shape := ⟨2, ![512, 1]⟩
abbrev S512x2048 : Shape := ⟨2, ![512, 2048]⟩

abbrev nBuf : Space → Nat
  | .hbm => 79
  | .vmem => 40
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1968, .f32⟩
  | .hbm, ⟨3, _⟩ => ⟨S16x256, .f32⟩
  | .hbm, ⟨4, _⟩ => ⟨S256, .f32⟩
  | .hbm, ⟨5, _⟩ => ⟨S1x256, .f32⟩
  | .hbm, ⟨6, _⟩ => ⟨S256x2048, .bf16⟩
  | .hbm, ⟨7, _⟩ => ⟨S256x256, .bf16⟩
  | .hbm, ⟨8, _⟩ => ⟨S2x128, .f32⟩
  | .hbm, ⟨9, _⟩ => ⟨S128, .f32⟩
  | .hbm, ⟨10, _⟩ => ⟨S32, .f32⟩
  | .hbm, ⟨11, _⟩ => ⟨S128x1024, .bf16⟩
  | .hbm, ⟨12, _⟩ => ⟨S1x1024, .f32⟩
  | .hbm, ⟨13, _⟩ => ⟨S512x128, .bf16⟩
  | .hbm, ⟨14, _⟩ => ⟨S1024x16, .f32⟩
  | .hbm, ⟨15, _⟩ => ⟨S_, .f32⟩
  | .hbm, ⟨16, _⟩ => ⟨S1024x48, .f32⟩
  | .hbm, ⟨17, _⟩ => ⟨S1024x32, .f32⟩
  | .hbm, ⟨18, _⟩ => ⟨S_, .f32⟩
  | .hbm, ⟨19, _⟩ => ⟨S1024x32, .f32⟩
  | .hbm, ⟨20, _⟩ => ⟨S1024x128, .f32⟩
  | .hbm, ⟨21, _⟩ => ⟨S1024x1536, .f32⟩
  | .hbm, ⟨22, _⟩ => ⟨S1024x256, .f32⟩
  | .hbm, ⟨23, _⟩ => ⟨S1024x128, .f32⟩
  | .hbm, ⟨24, _⟩ => ⟨S1024x512, .f32⟩
  | .hbm, ⟨25, _⟩ => ⟨S_, .f32⟩
  | .hbm, ⟨26, _⟩ => ⟨S112x256, .f32⟩
  | .hbm, ⟨27, _⟩ => ⟨S128x256, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S32, .f32⟩
  | .hbm, ⟨32, _⟩ => ⟨S128, .f32⟩
  | .hbm, ⟨33, _⟩ => ⟨S1x1024, .f32⟩
  | .hbm, ⟨34, _⟩ => ⟨S1024x1536, .bf16⟩
  | .hbm, ⟨35, _⟩ => ⟨S1024x512, .bf16⟩
  | .hbm, ⟨36, _⟩ => ⟨S128x256, .bf16⟩
  | .hbm, ⟨37, _⟩ => ⟨S1x256, .f32⟩
  | .hbm, ⟨38, _⟩ => ⟨S1x128, .f32⟩
  | .hbm, ⟨39, _⟩ => ⟨S1x128, .f32⟩
  | .hbm, ⟨40, _⟩ => ⟨S2048, .i32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S2048, .f32⟩
  | .hbm, ⟨53, _⟩ => ⟨S2048x1, .f32⟩
  | .hbm, ⟨54, _⟩ => ⟨S1x16, .f32⟩
  | .hbm, ⟨55, _⟩ => ⟨S2048x16, .f32⟩
  | .hbm, ⟨56, _⟩ => ⟨S2048x16, .f32⟩
  | .hbm, ⟨57, _⟩ => ⟨S2048x16, .f32⟩
  | .hbm, ⟨58, _⟩ => ⟨S2048x16, .f32⟩
  | .hbm, ⟨59, _⟩ => ⟨S2048x16, .f32⟩
  | .hbm, ⟨60, _⟩ => ⟨S_, .f32⟩
  | .hbm, ⟨61, _⟩ => ⟨S2048x32, .f32⟩
  | .hbm, ⟨62, _⟩ => ⟨S_, .f32⟩
  | .hbm, ⟨63, _⟩ => ⟨S2048x64, .f32⟩
  | .hbm, ⟨64, _⟩ => ⟨S2048x128, .f32⟩
  | .hbm, ⟨65, _⟩ => ⟨S_, .f32⟩
  | .hbm, ⟨66, _⟩ => ⟨S2048x64, .f32⟩
  | .hbm, ⟨67, _⟩ => ⟨S2048x16, .f32⟩
  | .hbm, ⟨68, _⟩ => ⟨S2048x128, .f32⟩
  | .hbm, ⟨69, _⟩ => ⟨S16384x256, .f32⟩
  | .hbm, ⟨70, _⟩ => ⟨S16384x256, .f32⟩
  | .hbm, ⟨71, _⟩ => ⟨S16384x512, .bf16⟩
  | .hbm, ⟨72, _⟩ => ⟨S16384x512, .f32⟩
  | .hbm, ⟨73, _⟩ => ⟨S16384x256, .f32⟩
  | .hbm, ⟨74, _⟩ => ⟨S16384x1024, .bf16⟩
  | .hbm, ⟨75, _⟩ => ⟨S16384x128, .f32⟩
  | .hbm, ⟨76, _⟩ => ⟨S16384x32, .f32⟩
  | .hbm, ⟨77, _⟩ => ⟨S16384x1024, .bf16⟩
  | .hbm, ⟨78, _⟩ => ⟨S512x16384, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x1536, .bf16⟩
  | .local _ .vmem, ⟨8, _⟩ => ⟨S1024x512, .bf16⟩
  | .local _ .vmem, ⟨9, _⟩ => ⟨S128x256, .bf16⟩
  | .local _ .vmem, ⟨10, _⟩ => ⟨S1x256, .f32⟩
  | .local _ .vmem, ⟨11, _⟩ => ⟨S1x256, .f32⟩
  | .local _ .vmem, ⟨12, _⟩ => ⟨S256x2048, .bf16⟩
  | .local _ .vmem, ⟨13, _⟩ => ⟨S256x256, .bf16⟩
  | .local _ .vmem, ⟨14, _⟩ => ⟨S2x128, .f32⟩
  | .local _ .vmem, ⟨15, _⟩ => ⟨S1x128, .f32⟩
  | .local _ .vmem, ⟨16, _⟩ => ⟨S1x128, .f32⟩
  | .local _ .vmem, ⟨17, _⟩ => ⟨S128x1024, .bf16⟩
  | .local _ .vmem, ⟨18, _⟩ => ⟨S1x1024, .f32⟩
  | .local _ .vmem, ⟨19, _⟩ => ⟨S512x128, .bf16⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S512x256, .f32⟩
  | .local _ .vmem, ⟨29, _⟩ => ⟨S512x256, .f32⟩
  | .local _ .vmem, ⟨30, _⟩ => ⟨S512x1024, .bf16⟩
  | .local _ .vmem, ⟨31, _⟩ => ⟨S512x1024, .bf16⟩
  | .local _ .vmem, ⟨32, _⟩ => ⟨S512x128, .f32⟩
  | .local _ .vmem, ⟨33, _⟩ => ⟨S512x128, .f32⟩
  | .local _ .vmem, ⟨34, _⟩ => ⟨S512x32, .f32⟩
  | .local _ .vmem, ⟨35, _⟩ => ⟨S512x32, .f32⟩
  | .local _ .vmem, ⟨36, _⟩ => ⟨S512x1024, .bf16⟩
  | .local _ .vmem, ⟨37, _⟩ => ⟨S512x1024, .bf16⟩
  | .local _ .vmem, ⟨38, _⟩ => ⟨S512x512, .bf16⟩
  | .local _ .vmem, ⟨39, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44_0 : Ref sig .tc := ⟨.hbm, 69, rfl⟩
abbrev main_v44_1 : Ref sig .tc := ⟨.hbm, 70, rfl⟩
abbrev main_v44_2 : Ref sig .tc := ⟨.hbm, 71, rfl⟩
abbrev main_v44_3 : Ref sig .tc := ⟨.hbm, 72, rfl⟩
abbrev main_v44_4 : Ref sig .tc := ⟨.hbm, 73, rfl⟩
abbrev main_v44_5 : Ref sig .tc := ⟨.hbm, 74, rfl⟩
abbrev main_v44_6 : Ref sig .tc := ⟨.hbm, 75, rfl⟩
abbrev main_v44_7 : Ref sig .tc := ⟨.hbm, 76, rfl⟩
abbrev main_v44_8 : Ref sig .tc := ⟨.hbm, 77, rfl⟩
abbrev main_v44_9 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x32 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== InPRefIdeal.lean ====
abbrev S16384x1024 : Shape := ⟨2, ![16384, 1024]⟩
abbrev S1024 : Shape := ⟨1, ![1024]⟩
abbrev S1024x1968 : Shape := ⟨2, ![1024, 1968]⟩
abbrev S16x256 : Shape := ⟨2, ![16, 256]⟩
abbrev S256 : Shape := ⟨1, ![256]⟩
abbrev S1x256 : Shape := ⟨2, ![1, 256]⟩
abbrev S256x2048 : Shape := ⟨2, ![256, 2048]⟩
abbrev S256x256 : Shape := ⟨2, ![256, 256]⟩
abbrev S2x128 : Shape := ⟨2, ![2, 128]⟩
abbrev S128 : Shape := ⟨1, ![128]⟩
abbrev S32 : Shape := ⟨1, ![32]⟩
abbrev S128x1024 : Shape := ⟨2, ![128, 1024]⟩
abbrev S1x1024 : Shape := ⟨2, ![1, 1024]⟩
abbrev S512x128 : Shape := ⟨2, ![512, 128]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1968 : Shape := ⟨3, ![8, 2048, 1968]⟩
abbrev S8x2048x256 : Shape := ⟨3, ![8, 2048, 256]⟩
abbrev S8x2048x512 : Shape := ⟨3, ![8, 2048, 512]⟩
abbrev S8x2048x16 : Shape := ⟨3, ![8, 2048, 16]⟩
abbrev S8x2048x128 : Shape := ⟨3, ![8, 2048, 128]⟩
abbrev S8x2048x32 : Shape := ⟨3, ![8, 2048, 32]⟩
abbrev S1x1x128 : Shape := ⟨3, ![1, 1, 128]⟩
abbrev S1x1x32 : Shape := ⟨3, ![1, 1, 32]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x16 : Shape := ⟨3, ![1, 2048, 16]⟩
abbrev S16384x256 : Shape := ⟨2, ![16384, 256]⟩
abbrev S16384x512 : Shape := ⟨2, ![16384, 512]⟩
abbrev S16384x128 : Shape := ⟨2, ![16384, 128]⟩
abbrev S16384x32 : Shape := ⟨2, ![16384, 32]⟩

abbrev nBuf : Space → Nat
  | .hbm => 117
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1968, .f32⟩
  | .hbm, ⟨3, _⟩ => ⟨S16x256, .f32⟩
  | .hbm, ⟨4, _⟩ => ⟨S256, .f32⟩
  | .hbm, ⟨5, _⟩ => ⟨S1x256, .f32⟩
  | .hbm, ⟨6, _⟩ => ⟨S256x2048, .bf16⟩
  | .hbm, ⟨7, _⟩ => ⟨S256x256, .bf16⟩
  | .hbm, ⟨8, _⟩ => ⟨S2x128, .f32⟩
  | .hbm, ⟨9, _⟩ => ⟨S128, .f32⟩
  | .hbm, ⟨10, _⟩ => ⟨S32, .f32⟩
  | .hbm, ⟨11, _⟩ => ⟨S128x1024, .bf16⟩
  | .hbm, ⟨12, _⟩ => ⟨S1x1024, .f32⟩
  | .hbm, ⟨13, _⟩ => ⟨S512x128, .bf16⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S8x2048x1968, .f32⟩
  | .hbm, ⟨32, _⟩ => ⟨S8x2048x256, .f32⟩
  | .hbm, ⟨33, _⟩ => ⟨S8x2048x256, .f32⟩
  | .hbm, ⟨34, _⟩ => ⟨S8x2048x512, .f32⟩
  | .hbm, ⟨35, _⟩ => ⟨S8x2048x512, .f32⟩
  | .hbm, ⟨36, _⟩ => ⟨S8x2048x16, .f32⟩
  | .hbm, ⟨37, _⟩ => ⟨S8x2048x256, .f32⟩
  | .hbm, ⟨38, _⟩ => ⟨S8x2048x128, .f32⟩
  | .hbm, ⟨39, _⟩ => ⟨S8x2048x32, .f32⟩
  | .hbm, ⟨40, _⟩ => ⟨S_, .f32⟩
  | .hbm, ⟨41, _⟩ => ⟨S8x2048x256, .f32⟩
  | .hbm, ⟨42, _⟩ => ⟨S8x2048x256, .f32⟩
  | .hbm, ⟨43, _⟩ => ⟨S8x2048x128, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1, .f32⟩
  | .hbm, ⟨54, _⟩ => ⟨S8x2048x128, .f32⟩
  | .hbm, ⟨55, _⟩ => ⟨S8x2048x128, .f32⟩
  | .hbm, ⟨56, _⟩ => ⟨S1x1x128, .f32⟩
  | .hbm, ⟨57, _⟩ => ⟨S8x2048x128, .f32⟩
  | .hbm, ⟨58, _⟩ => ⟨S8x2048x128, .f32⟩
  | .hbm, ⟨59, _⟩ => ⟨S8x2048x32, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S8x2048x1, .f32⟩
  | .hbm, ⟨70, _⟩ => ⟨S8x2048x32, .f32⟩
  | .hbm, ⟨71, _⟩ => ⟨S8x2048x32, .f32⟩
  | .hbm, ⟨72, _⟩ => ⟨S1x1x32, .f32⟩
  | .hbm, ⟨73, _⟩ => ⟨S8x2048x32, .f32⟩
  | .hbm, ⟨74, _⟩ => ⟨S8x2048x32, .f32⟩
  | .hbm, ⟨75, _⟩ => ⟨S2048, .i32⟩
  | .hbm, ⟨76, _⟩ => ⟨S16, .f32⟩
  | .hbm, ⟨77, _⟩ => ⟨S16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S16, .f32⟩
  | .hbm, ⟨83, _⟩ => ⟨S16, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S2048, .f32⟩
  | .hbm, ⟨88, _⟩ => ⟨S2048x1, .f32⟩
  | .hbm, ⟨89, _⟩ => ⟨S1x16, .f32⟩
  | .hbm, ⟨90, _⟩ => ⟨S2048x16, .f32⟩
  | .hbm, ⟨91, _⟩ => ⟨S2048x16, .f32⟩
  | .hbm, ⟨92, _⟩ => ⟨S2048x16, .f32⟩
  | .hbm, ⟨93, _⟩ => ⟨S2048x16, .f32⟩
  | .hbm, ⟨94, _⟩ => ⟨S1x2048x16, .f32⟩
  | .hbm, ⟨95, _⟩ => ⟨S2048x16, .f32⟩
  | .hbm, ⟨96, _⟩ => ⟨S1x2048x16, .f32⟩
  | .hbm, ⟨97, _⟩ => ⟨S8x2048x16, .f32⟩
  | .hbm, ⟨98, _⟩ => ⟨S8x2048x16, .f32⟩
  | .hbm, ⟨99, _⟩ => ⟨S8x2048x16, .f32⟩
  | .hbm, ⟨100, _⟩ => ⟨S8x2048x16, .f32⟩
  | .hbm, ⟨101, _⟩ => ⟨S8x2048x16, .f32⟩
  | .hbm, ⟨102, _⟩ => ⟨S8x2048x16, .f32⟩
  | .hbm, ⟨103, _⟩ => ⟨S8x2048x16, .f32⟩
  | .hbm, ⟨104, _⟩ => ⟨S8x2048x16, .f32⟩
  | .hbm, ⟨105, _⟩ => ⟨S8x2048x16, .f32⟩
  | .hbm, ⟨106, _⟩ => ⟨S8x2048x16, .f32⟩
  | .hbm, ⟨107, _⟩ => ⟨S8x2048x16, .f32⟩
  | .hbm, ⟨108, _⟩ => ⟨S8x2048x16, .f32⟩
  | .hbm, ⟨109, _⟩ => ⟨S8x2048x32, .f32⟩
  | .hbm, ⟨110, _⟩ => ⟨S16384x256, .f32⟩
  | .hbm, ⟨111, _⟩ => ⟨S16384x256, .f32⟩
  | .hbm, ⟨112, _⟩ => ⟨S8x2048x512, .bf16⟩
  | .hbm, ⟨113, _⟩ => ⟨S16384x512, .bf16⟩
  | .hbm, ⟨114, _⟩ => ⟨S16384x512, .f32⟩
  | .hbm, ⟨115, _⟩ => ⟨S16384x128, .f32⟩
  | .hbm, ⟨116, _⟩ => ⟨S16384x32, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== Proof.InPIdealFrame.lean ====
/- The frame of the input projections (over the extended reals): the host operations before the launch, each window's block at a point, what
   the body leaves in each output block, the body's triple, the pipeline's data and the run. It follows the generated frames
   of the other kernels; the budgets of the two lemmas over all 27 windows are larger. -/
module

public import proofs.«01_k».proof.Proof.Gen.InPIdeal.Launch
public import proofs.«01_k».proof.Proof.Gen.InPIdeal.Skeleton
public import proofs.«01_k».proof.Proof.Gen.InPIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.InPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1620000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_InPIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 8).trans (((dats 0 c).arrAt_in 8 rfl _).trans ((hA c 8).trans (V_main_arg5 m c))),
      ((h c).1 9).trans (((dats 0 c).arrAt_in 9 rfl _).trans ((hA c 9).trans (V_main_arg6 m c))),
      ((h c).1 10).trans (((dats 0 c).arrAt_in 10 rfl _).trans ((hA c 10).trans (V_main_arg7 m c))),
      ((h c).1 11).trans (((dats 0 c).arrAt_in 11 rfl _).trans ((hA c 11).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 14).trans (((dats 0 c).arrAt_in 14 rfl _).trans ((hA c 14).trans (V_main_arg11 m c))),
      ((h c).1 15).trans (((dats 0 c).arrAt_in 15 rfl _).trans ((hA c 15).trans (V_main_arg12 m c))),
      ((h c).1 16).trans (((dats 0 c).arrAt_in 16 rfl _).trans ((hA c 16).trans (V_main_arg13 m c)))⟩) h

/-! ## The body's accesses -/

abbrev r0_0 : Rect S256x256 := Rect.unit (s := S256x256) ![0, 0] S256x256.size inb_S256x256_S256x256_0_0
abbrev r0_1 : Rect S2x128 := Rect.unit (s := S2x128) ![0, 0] S2x128.size inb_S2x128_S2x128_0_0
abbrev r0_2 : Rect S512x128 := Rect.unit (s := S512x128) ![0, 0] S512x128.size inb_S512x128_S512x128_0_0
abbrev r0_3 : Rect S512x1024 := Rect.unit (s := S512x1024) ![0, 0] S512x1024.size inb_S512x1024_S512x1024_0_0
abbrev r0_4 : Rect S1x1024 := Rect.unit (s := S1x1024) ![0, 0] S1x1024.size inb_S1x1024_S1x1024_0_0
abbrev r0_5 : Rect S1024x512 := Rect.unit (s := S1024x512) ![0, 0] S1024x512.size inb_S1024x512_S1024x512_0_0
abbrev r0_6 : Rect S1024x1536 := Rect.unit (s := S1024x1536) ![0, 0] S1024x512.size inb_S1024x1536_S1024x512_0_0
abbrev r0_7 : Rect S512x256 := Rect.unit (s := S512x256) ![0, 0] S512x256.size inb_S512x256_S512x256_0_0
abbrev r0_8 : Rect S128x256 := Rect.unit (s := S128x256) ![0, 0] S128x256.size inb_S128x256_S128x256_0_0
abbrev r0_9 : Rect S1x256 := Rect.unit (s := S1x256) ![0, 0] S1x256.size inb_S1x256_S1x256_0_0
abbrev r0_10 : Rect S1x128 := Rect.unit (s := S1x128) ![0, 0] S1x128.size inb_S1x128_S1x128_0_0
abbrev r0_11 : Rect S512x32 := Rect.unit (s := S512x32) ![0, 0] S512x32.size inb_S512x32_S512x32_0_0
abbrev r0_12 : Rect S128x1024 := Rect.unit (s := S128x1024) ![0, 0] S128x1024.size inb_S128x1024_S128x1024_0_0
abbrev r0_13 : Rect S512x512 := Rect.unit (s := S512x512) ![0, 0] S512x512.size inb_S512x512_S512x512_0_0
abbrev r0_14 : Rect S256x2048 := Rect.unit (s := S256x2048) ![0, 0] S256x2048.size inb_S256x2048_S256x2048_0_0
abbrev r0_15 : Rect S1024x1536 := Rect.unit (s := S1024x1536) ![0, 512] S1024x256.size inb_S1024x1536_S1024x256_0_512
abbrev r0_16 : Rect S512x512 := Rect.unit (s := S512x512) ![0, 0] S512x256.size inb_S512x512_S512x256_0_0
abbrev r0_17 : Rect S1x1024 := Rect.unit (s := S1x1024) ![0, 0] S1x256.size inb_S1x1024_S1x256_0_0
abbrev r0_18 : Rect S512x1024 := Rect.unit (s := S512x1024) ![0, 0] S512x128.size inb_S512x1024_S512x128_0_0
abbrev r0_19 : Rect S512x1024 := Rect.unit (s := S512x1024) ![0, 128] S512x128.size inb_S512x1024_S512x128_0_128
abbrev r0_20 : Rect S1024x1536 := Rect.unit (s := S1024x1536) ![0, 768] S1024x256.size inb_S1024x1536_S1024x256_0_768
abbrev r0_21 : Rect S512x512 := Rect.unit (s := S512x512) ![0, 256] S512x256.size inb_S512x512_S512x256_0_256
abbrev r0_22 : Rect S1x1024 := Rect.unit (s := S1x1024) ![0, 256] S1x256.size inb_S1x1024_S1x256_0_256
abbrev r0_23 : Rect S512x1024 := Rect.unit (s := S512x1024) ![0, 256] S512x128.size inb_S512x1024_S512x128_0_256
abbrev r0_24 : Rect S512x1024 := Rect.unit (s := S512x1024) ![0, 384] S512x128.size inb_S512x1024_S512x128_0_384
abbrev r0_25 : Rect S1024x1536 := Rect.unit (s := S1024x1536) ![0, 1024] S1024x256.size inb_S1024x1536_S1024x256_0_1024
abbrev r0_26 : Rect S1x1024 := Rect.unit (s := S1x1024) ![0, 512] S1x256.size inb_S1x1024_S1x256_0_512
abbrev r0_27 : Rect S512x1024 := Rect.unit (s := S512x1024) ![0, 512] S512x128.size inb_S512x1024_S512x128_0_512
abbrev r0_28 : Rect S512x1024 := Rect.unit (s := S512x1024) ![0, 640] S512x128.size inb_S512x1024_S512x128_0_640
abbrev r0_29 : Rect S1024x1536 := Rect.unit (s := S1024x1536) ![0, 1280] S1024x256.size inb_S1024x1536_S1024x256_0_1280
abbrev r0_30 : Rect S1x1024 := Rect.unit (s := S1x1024) ![0, 768] S1x256.size inb_S1x1024_S1x256_0_768
abbrev r0_31 : Rect S512x1024 := Rect.unit (s := S512x1024) ![0, 768] S512x128.size inb_S512x1024_S512x128_0_768
abbrev r0_32 : Rect S512x1024 := Rect.unit (s := S512x1024) ![0, 896] S512x128.size inb_S512x1024_S512x128_0_896

/-! ## What the body leaves in each output window's buffer -/

/-! ### Values of the body that the stores' payloads, spelt out, would write more than once

    Each is a vector the body binds (often a part call's result), stated over the input windows' blocks and
    numbered on from the skeleton's payload functions (`k0_pay55` …, after `k0_pay54`), so that
    `out0_W` and the values after it name it instead of spelling it out (`unfold_out out0_W` opens a canon
    with them, `unfold_payloads` opens them with the payloads); the comment after each is the printed function's
    name for the value (a count appended where that name is bound again). -/

def k0_pay55 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x128 .f32 :=
  k0_pay4 (View.ld x1 r0_2) -- `v3`
def k0_pay56 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x128 .f32 :=
  k0_pay5 (View.ld x2 r0_2) -- `v5`
def k0_pay57 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x1024 .bf16 :=
  k0_pay6 (View.ld x0 r0_3) (View.ld x3 r0_4) -- `v21`
def k0_pay58 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x512 .f32 :=
  k0_pay7 (View.ld x0 r0_3) (View.ld x3 r0_4) (View.ld x5 r0_5) -- `v24`
def k0_pay59 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x128 .f32 :=
  k0_pay13 (k0_pay58 x0 x1 x2 x3 x4 x5 x6 x7 x8 x9 x10 x11 x12 x13 x14 x15 x16) -- `v71`
def k0_pay60 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x128 .f32 :=
  k0_pay14 (k0_pay55 x0 x1 x2 x3 x4 x5 x6 x7 x8 x9 x10 x11 x12 x13 x14 x15 x16) (k0_pay56 x0 x1 x2 x3 x4 x5 x6 x7 x8 x9 x10 x11 x12 x13 x14 x15 x16) (k0_pay59 x0 x1 x2 x3 x4 x5 x6 x7 x8 x9 x10 x11 x12 x13 x14 x15 x16) (View.ld x13 r0_10) -- `v84`
def k0_pay61 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x128 .bf16 :=
  k0_pay17 (k0_pay58 x0 x1 x2 x3 x4 x5 x6 x7 x8 x9 x10 x11 x12 x13 x14 x15 x16) (View.ld x12 r0_10) -- `v103`
def k0_pay62 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x256 .f32 :=
  k0_pay18 (k0_pay58 x0 x1 x2 x3 x4 x5 x6 x7 x8 x9 x10 x11 x12 x13 x14 x15 x16) -- `v104`
def k0_pay63 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x1 .f32 :=
  k0_pay19 (k0_pay58 x0 x1 x2 x3 x4 x5 x6 x7 x8 x9 x10 x11 x12 x13 x14 x15 x16) -- `v112`
def k0_pay64 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x1024 .f32 :=
  k0_pay20 (k0_pay61 x0 x1 x2 x3 x4 x5 x6 x7 x8 x9 x10 x11 x12 x13 x14 x15 x16) (View.ld x14 r0_12) -- `v120`
def k0_pay65 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x2048 .f32 :=
  k0_pay22 (k0_pay62 x0 x1 x2 x3 x4 x5 x6 x7 x8 x9 x10 x11 x12 x13 x14 x15 x16) (View.ld x8 r0_9) (k0_pay63 x0 x1 x2 x3 x4 x5 x6 x7 x8 x9 x10 x11 x12 x13 x14 x15 x16) (View.ld x9 r0_14) -- `v126`
def k0_pay66 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x128 .f32 :=
  k0_pay23 (View.ld x11 r0_1) (k0_pay55 x0 x1 x2 x3 x4 x5 x6 x7 x8 x9 x10 x11 x12 x13 x14 x15 x16) -- `v131`
def k0_pay67 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x128 .f32 :=
  k0_pay24 (View.ld x11 r0_1) (k0_pay56 x0 x1 x2 x3 x4 x5 x6 x7 x8 x9 x10 x11 x12 x13 x14 x15 x16) -- `v136`
def k0_pay68 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x256 .f32 :=
  k0_pay26 (View.ld x10 r0_0) (k0_pay62 x0 x1 x2 x3 x4 x5 x6 x7 x8 x9 x10 x11 x12 x13 x14 x15 x16) (View.ld x8 r0_9) (k0_pay63 x0 x1 x2 x3 x4 x5 x6 x7 x8 x9 x10 x11 x12 x13 x14 x15 x16) (View.ld x9 r0_14) -- `v148`
def k0_pay69 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x256 .f32 :=
  k0_pay27 (k0_pay61 x0 x1 x2 x3 x4 x5 x6 x7 x8 x9 x10 x11 x12 x13 x14 x15 x16) (View.ld x14 r0_12) -- `v149`
def k0_pay70 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x256 .f32 :=
  k0_pay28 (k0_pay61 x0 x1 x2 x3 x4 x5 x6 x7 x8 x9 x10 x11 x12 x13 x14 x15 x16) (View.ld x14 r0_12) -- `v150`
def k0_pay71 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : FVec F S512x256 .f32 :=
  k0_pay53 (View.ld x10 r0_0) (k0_pay64 x0 x1 x2 x3 x4 x5 x6 x7 x8 x9 x10 x11 x12 x13 x14 x15 x16) (View.ld x15 r0_30) -- `v304`

/-- Window 17's staging buffer after the body, from the input windows' blocks: its 1 store as pieces, LAST
    FIRST (Lib/Pipeline/FrameBody.lean `View.canon`; the payloads are the skeleton's and the values stated above). -/
def out0_17 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : Vec F S512x256 .f32 :=
  View.canon [⟨r0_7, k0_pay9 (View.ld x0 r0_3) (View.ld x3 r0_4) (View.ld x4 r0_6)⟩]

/-- Its stores tile the buffer (checked by evaluation), so they cover it. -/
theorem cover0_17 (p0 : Vec F S512x256 .f32) (y : S512x256.Idx) :
    ∃ pc ∈ ([⟨r0_7, p0⟩] : List (View.Piece (Elt F) S512x256 .f32)), y ∈ pc.1.set :=
  View.cover_of_tiled [⟨r0_7, p0⟩] S512x256.size (by rfl) y

/-- Window 18's staging buffer after the body, from the input windows' blocks: its 1 store as pieces, LAST
    FIRST (Lib/Pipeline/FrameBody.lean `View.canon`; the payloads are the skeleton's and the values stated above). -/
def out0_18 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : Vec F S512x256 .f32 :=
  View.canon [⟨r0_7, k0_pay10 (View.ld x0 r0_3) (View.ld x3 r0_4) (View.ld x4 r0_6)⟩]

/-- Its stores tile the buffer (checked by evaluation), so they cover it. -/
theorem cover0_18 (p0 : Vec F S512x256 .f32) (y : S512x256.Idx) :
    ∃ pc ∈ ([⟨r0_7, p0⟩] : List (View.Piece (Elt F) S512x256 .f32)), y ∈ pc.1.set :=
  View.cover_of_tiled [⟨r0_7, p0⟩] S512x256.size (by rfl) y

/-- Window 19's staging buffer after the body, from the input windows' blocks: its 2 stores as pieces, LAST
    FIRST (Lib/Pipeline/FrameBody.lean `View.canon`; the payloads are the skeleton's and the values stated above). -/
def out0_19 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : Vec F S512x512 .bf16 :=
  View.canon [⟨r0_21, k0_pay34 (k0_pay57 x0 x1 x2 x3 x4 x5 x6 x7 x8 x9 x10 x11 x12 x13 x14 x15 x16) (View.ld x4 r0_20)⟩,
    ⟨r0_16, k0_pay25 (k0_pay57 x0 x1 x2 x3 x4 x5 x6 x7 x8 x9 x10 x11 x12 x13 x14 x15 x16) (View.ld x4 r0_15)⟩]

/-- Its stores tile the buffer (checked by evaluation), so they cover it. -/
theorem cover0_19 (p0 : Vec F S512x256 .bf16) (p1 : Vec F S512x256 .bf16) (y : S512x512.Idx) :
    ∃ pc ∈ ([⟨r0_21, p0⟩, ⟨r0_16, p1⟩] : List (View.Piece (Elt F) S512x512 .bf16)), y ∈ pc.1.set :=
  View.cover_of_tiled [⟨r0_21, p0⟩, ⟨r0_16, p1⟩] S512x256.size (by rfl) y

/-- Window 20's staging buffer after the body, from the input windows' blocks: its 2 stores as pieces, LAST
    FIRST (Lib/Pipeline/FrameBody.lean `View.canon`; the payloads are the skeleton's and the values stated above). -/
def out0_20 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : Vec F S512x512 .f32 :=
  View.canon [⟨r0_21, k0_pay51 (k0_pay57 x0 x1 x2 x3 x4 x5 x6 x7 x8 x9 x10 x11 x12 x13 x14 x15 x16) (View.ld x4 r0_29)⟩,
    ⟨r0_16, k0_pay41 (k0_pay57 x0 x1 x2 x3 x4 x5 x6 x7 x8 x9 x10 x11 x12 x13 x14 x15 x16) (View.ld x4 r0_25)⟩]

/-- Its stores tile the buffer (checked by evaluation), so they cover it. -/
theorem cover0_20 (p0 : Vec F S512x256 .f32) (p1 : Vec F S512x256 .f32) (y : S512x512.Idx) :
    ∃ pc ∈ ([⟨r0_21, p0⟩, ⟨r0_16, p1⟩] : List (View.Piece (Elt F) S512x512 .f32)), y ∈ pc.1.set :=
  View.cover_of_tiled [⟨r0_21, p0⟩, ⟨r0_16, p1⟩] S512x256.size (by rfl) y

/-- Window 21's staging buffer after the body, from the input windows' blocks: its 1 store as pieces, LAST
    FIRST (Lib/Pipeline/FrameBody.lean `View.canon`; the payloads are the skeleton's and the values stated above). -/
def out0_21 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : Vec F S512x256 .f32 :=
  View.canon [⟨r0_7, k0_pay12 (k0_pay58 x0 x1 x2 x3 x4 x5 x6 x7 x8 x9 x10 x11 x12 x13 x14 x15 x16) (View.ld x6 r0_8) (View.ld x7 r0_9)⟩]

/-- Its stores tile the buffer (checked by evaluation), so they cover it. -/
theorem cover0_21 (p0 : Vec F S512x256 .f32) (y : S512x256.Idx) :
    ∃ pc ∈ ([⟨r0_7, p0⟩] : List (View.Piece (Elt F) S512x256 .f32)), y ∈ pc.1.set :=
  View.cover_of_tiled [⟨r0_7, p0⟩] S512x256.size (by rfl) y

/-- Window 22's staging buffer after the body, from the input windows' blocks: its 8 stores as pieces, LAST
    FIRST (Lib/Pipeline/FrameBody.lean `View.canon`; the payloads are the skeleton's and the values stated above). -/
def out0_22 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : Vec F S512x1024 .bf16 :=
  View.canon [⟨r0_32, k0_pay2 (k0_pay65 x0 x1 x2 x3 x4 x5 x6 x7 x8 x9 x10 x11 x12 x13 x14 x15 x16) (k0_pay66 x0 x1 x2 x3 x4 x5 x6 x7 x8 x9 x10 x11 x12 x13 x14 x15 x16) (k0_pay67 x0 x1 x2 x3 x4 x5 x6 x7 x8 x9 x10 x11 x12 x13 x14 x15 x16) (k0_pay52 (View.ld x10 r0_0) (k0_pay65 x0 x1 x2 x3 x4 x5 x6 x7 x8 x9 x10 x11 x12 x13 x14 x15 x16))⟩,
    ⟨r0_31, k0_pay54 (View.ld x10 r0_0) (k0_pay65 x0 x1 x2 x3 x4 x5 x6 x7 x8 x9 x10 x11 x12 x13 x14 x15 x16) (k0_pay66 x0 x1 x2 x3 x4 x5 x6 x7 x8 x9 x10 x11 x12 x13 x14 x15 x16) (k0_pay67 x0 x1 x2 x3 x4 x5 x6 x7 x8 x9 x10 x11 x12 x13 x14 x15 x16)⟩,
    ⟨r0_28, k0_pay49 (k0_pay66 x0 x1 x2 x3 x4 x5 x6 x7 x8 x9 x10 x11 x12 x13 x14 x15 x16) (k0_pay67 x0 x1 x2 x3 x4 x5 x6 x7 x8 x9 x10 x11 x12 x13 x14 x15 x16) (k0_pay46 (k0_pay65 x0 x1 x2 x3 x4 x5 x6 x7 x8 x9 x10 x11 x12 x13 x14 x15 x16)) (k0_pay47 (View.ld x10 r0_0) (k0_pay65 x0 x1 x2 x3 x4 x5 x6 x7 x8 x9 x10 x11 x12 x13 x14 x15 x16)) (k0_pay48 (k0_pay65 x0 x1 x2 x3 x4 x5 x6 x7 x8 x9 x10 x11 x12 x13 x14 x15 x16))⟩,
    ⟨r0_27, k0_pay44 (View.ld x10 r0_0) (k0_pay65 x0 x1 x2 x3 x4 x5 x6 x7 x8 x9 x10 x11 x12 x13 x14 x15 x16) (k0_pay66 x0 x1 x2 x3 x4 x5 x6 x7 x8 x9 x10 x11 x12 x13 x14 x15 x16) (k0_pay67 x0 x1 x2 x3 x4 x5 x6 x7 x8 x9 x10 x11 x12 x13 x14 x15 x16)⟩,
    ⟨r0_24, k0_pay39 (View.ld x10 r0_0) (k0_pay65 x0 x1 x2 x3 x4 x5 x6 x7 x8 x9 x10 x11 x12 x13 x14 x15 x16) (k0_pay66 x0 x1 x2 x3 x4 x5 x6 x7 x8 x9 x10 x11 x12 x13 x14 x15 x16) (k0_pay67 x0 x1 x2 x3 x4 x5 x6 x7 x8 x9 x10 x11 x12 x13 x14 x15 x16)⟩,
    ⟨r0_23, k0_pay37 (View.ld x10 r0_0) (k0_pay65 x0 x1 x2 x3 x4 x5 x6 x7 x8 x9 x10 x11 x12 x13 x14 x15 x16) (k0_pay66 x0 x1 x2 x3 x4 x5 x6 x7 x8 x9 x10 x11 x12 x13 x14 x15 x16) (k0_pay67 x0 x1 x2 x3 x4 x5 x6 x7 x8 x9 x10 x11 x12 x13 x14 x15 x16)⟩,
    ⟨r0_19, k0_pay32 (k0_pay65 x0 x1 x2 x3 x4 x5 x6 x7 x8 x9 x10 x11 x12 x13 x14 x15 x16) (k0_pay66 x0 x1 x2 x3 x4 x5 x6 x7 x8 x9 x10 x11 x12 x13 x14 x15 x16) (k0_pay67 x0 x1 x2 x3 x4 x5 x6 x7 x8 x9 x10 x11 x12 x13 x14 x15 x16) (k0_pay68 x0 x1 x2 x3 x4 x5 x6 x7 x8 x9 x10 x11 x12 x13 x14 x15 x16)⟩,
    ⟨r0_18, k0_pay30 (k0_pay65 x0 x1 x2 x3 x4 x5 x6 x7 x8 x9 x10 x11 x12 x13 x14 x15 x16) (k0_pay66 x0 x1 x2 x3 x4 x5 x6 x7 x8 x9 x10 x11 x12 x13 x14 x15 x16) (k0_pay67 x0 x1 x2 x3 x4 x5 x6 x7 x8 x9 x10 x11 x12 x13 x14 x15 x16) (k0_pay68 x0 x1 x2 x3 x4 x5 x6 x7 x8 x9 x10 x11 x12 x13 x14 x15 x16)⟩]

/-- Its stores tile the buffer (checked by evaluation), so they cover it. -/
theorem cover0_22 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_32, p0⟩, ⟨r0_31, p1⟩, ⟨r0_28, p2⟩, ⟨r0_27, p3⟩, ⟨r0_24, p4⟩, ⟨r0_23, p5⟩, ⟨r0_19, p6⟩, ⟨r0_18, p7⟩] : List (View.Piece (Elt F) S512x1024 .bf16)), y ∈ pc.1.set :=
  View.cover_of_tiled [⟨r0_32, p0⟩, ⟨r0_31, p1⟩, ⟨r0_28, p2⟩, ⟨r0_27, p3⟩, ⟨r0_24, p4⟩, ⟨r0_23, p5⟩, ⟨r0_19, p6⟩, ⟨r0_18, p7⟩] S512x128.size (by rfl) y

/-- Window 23's staging buffer after the body, from the input windows' blocks: its 1 store as pieces, LAST
    FIRST (Lib/Pipeline/FrameBody.lean `View.canon`; the payloads are the skeleton's and the values stated above). -/
def out0_23 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : Vec F S512x128 .f32 :=
  View.canon [⟨r0_2, k0_pay16 (k0_pay58 x0 x1 x2 x3 x4 x5 x6 x7 x8 x9 x10 x11 x12 x13 x14 x15 x16) (View.ld x12 r0_10)⟩]

/-- Its stores tile the buffer (checked by evaluation), so they cover it. -/
theorem cover0_23 (p0 : Vec F S512x128 .f32) (y : S512x128.Idx) :
    ∃ pc ∈ ([⟨r0_2, p0⟩] : List (View.Piece (Elt F) S512x128 .f32)), y ∈ pc.1.set :=
  View.cover_of_tiled [⟨r0_2, p0⟩] S512x128.size (by rfl) y

/-- Window 24's staging buffer after the body, from the input windows' blocks: its 1 store as pieces, LAST
    FIRST (Lib/Pipeline/FrameBody.lean `View.canon`; the payloads are the skeleton's and the values stated above). -/
def out0_24 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : Vec F S512x32 .f32 :=
  View.canon [⟨r0_11, k0_pay15 (k0_pay55 x0 x1 x2 x3 x4 x5 x6 x7 x8 x9 x10 x11 x12 x13 x14 x15 x16) (k0_pay56 x0 x1 x2 x3 x4 x5 x6 x7 x8 x9 x10 x11 x12 x13 x14 x15 x16) (k0_pay59 x0 x1 x2 x3 x4 x5 x6 x7 x8 x9 x10 x11 x12 x13 x14 x15 x16) (View.ld x13 r0_10)⟩]

/-- Its stores tile the buffer (checked by evaluation), so they cover it. -/
theorem cover0_24 (p0 : Vec F S512x32 .f32) (y : S512x32.Idx) :
    ∃ pc ∈ ([⟨r0_11, p0⟩] : List (View.Piece (Elt F) S512x32 .f32)), y ∈ pc.1.set :=
  View.cover_of_tiled [⟨r0_11, p0⟩] S512x32.size (by rfl) y

/-- Window 25's staging buffer after the body, from the input windows' blocks: its 8 stores as pieces, LAST
    FIRST (Lib/Pipeline/FrameBody.lean `View.canon`; the payloads are the skeleton's and the values stated above). -/
def out0_25 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : Vec F S512x1024 .bf16 :=
  View.canon [⟨r0_32, k0_pay3 (k0_pay60 x0 x1 x2 x3 x4 x5 x6 x7 x8 x9 x10 x11 x12 x13 x14 x15 x16) (k0_pay71 x0 x1 x2 x3 x4 x5 x6 x7 x8 x9 x10 x11 x12 x13 x14 x15 x16)⟩,
    ⟨r0_31, k0_pay1 (k0_pay60 x0 x1 x2 x3 x4 x5 x6 x7 x8 x9 x10 x11 x12 x13 x14 x15 x16) (k0_pay71 x0 x1 x2 x3 x4 x5 x6 x7 x8 x9 x10 x11 x12 x13 x14 x15 x16)⟩,
    ⟨r0_28, k0_pay50 (k0_pay60 x0 x1 x2 x3 x4 x5 x6 x7 x8 x9 x10 x11 x12 x13 x14 x15 x16) (k0_pay43 (View.ld x10 r0_0) (k0_pay64 x0 x1 x2 x3 x4 x5 x6 x7 x8 x9 x10 x11 x12 x13 x14 x15 x16) (View.ld x15 r0_26))⟩,
    ⟨r0_27, k0_pay45 (View.ld x10 r0_0) (k0_pay60 x0 x1 x2 x3 x4 x5 x6 x7 x8 x9 x10 x11 x12 x13 x14 x15 x16) (k0_pay64 x0 x1 x2 x3 x4 x5 x6 x7 x8 x9 x10 x11 x12 x13 x14 x15 x16) (View.ld x15 r0_26)⟩,
    ⟨r0_24, k0_pay40 (View.ld x10 r0_0) (k0_pay60 x0 x1 x2 x3 x4 x5 x6 x7 x8 x9 x10 x11 x12 x13 x14 x15 x16) (k0_pay64 x0 x1 x2 x3 x4 x5 x6 x7 x8 x9 x10 x11 x12 x13 x14 x15 x16) (View.ld x15 r0_22)⟩,
    ⟨r0_23, k0_pay38 (View.ld x10 r0_0) (k0_pay60 x0 x1 x2 x3 x4 x5 x6 x7 x8 x9 x10 x11 x12 x13 x14 x15 x16) (k0_pay64 x0 x1 x2 x3 x4 x5 x6 x7 x8 x9 x10 x11 x12 x13 x14 x15 x16) (View.ld x15 r0_22)⟩,
    ⟨r0_19, k0_pay33 (View.ld x10 r0_0) (k0_pay60 x0 x1 x2 x3 x4 x5 x6 x7 x8 x9 x10 x11 x12 x13 x14 x15 x16) (k0_pay69 x0 x1 x2 x3 x4 x5 x6 x7 x8 x9 x10 x11 x12 x13 x14 x15 x16) (k0_pay70 x0 x1 x2 x3 x4 x5 x6 x7 x8 x9 x10 x11 x12 x13 x14 x15 x16) (View.ld x15 r0_17)⟩,
    ⟨r0_18, k0_pay31 (View.ld x10 r0_0) (k0_pay60 x0 x1 x2 x3 x4 x5 x6 x7 x8 x9 x10 x11 x12 x13 x14 x15 x16) (k0_pay69 x0 x1 x2 x3 x4 x5 x6 x7 x8 x9 x10 x11 x12 x13 x14 x15 x16) (k0_pay70 x0 x1 x2 x3 x4 x5 x6 x7 x8 x9 x10 x11 x12 x13 x14 x15 x16) (View.ld x15 r0_17)⟩]

/-- Its stores tile the buffer (checked by evaluation), so they cover it. -/
theorem cover0_25 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_32, p0⟩, ⟨r0_31, p1⟩, ⟨r0_28, p2⟩, ⟨r0_27, p3⟩, ⟨r0_24, p4⟩, ⟨r0_23, p5⟩, ⟨r0_19, p6⟩, ⟨r0_18, p7⟩] : List (View.Piece (Elt F) S512x1024 .bf16)), y ∈ pc.1.set :=
  View.cover_of_tiled [⟨r0_32, p0⟩, ⟨r0_31, p1⟩, ⟨r0_28, p2⟩, ⟨r0_27, p3⟩, ⟨r0_24, p4⟩, ⟨r0_23, p5⟩, ⟨r0_19, p6⟩, ⟨r0_18, p7⟩] S512x128.size (by rfl) y

/-- Window 26's staging buffer after the body, from the input windows' blocks: its 1 store as pieces, LAST
    FIRST (Lib/Pipeline/FrameBody.lean `View.canon`; the payloads are the skeleton's and the values stated above). -/
def out0_26 (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) : Vec F S512x512 .bf16 :=
  View.canon [⟨r0_13, k0_pay21 (k0_pay61 x0 x1 x2 x3 x4 x5 x6 x7 x8 x9 x10 x11 x12 x13 x14 x15 x16) (View.ld x16 r0_2)⟩]

/-- Its stores tile the buffer (checked by evaluation), so they cover it. -/
theorem cover0_26 (p0 : Vec F S512x512 .bf16) (y : S512x512.Idx) :
    ∃ pc ∈ ([⟨r0_13, p0⟩] : List (View.Piece (Elt F) S512x512 .bf16)), y ∈ pc.1.set :=
  View.cover_of_tiled [⟨r0_13, p0⟩] S512x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x512 .bf16) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S256x2048 .bf16) (harg10 : arg10.IsWhole) (arg11 : Memref sig .tc .vmem S256x256 .bf16) (harg11 : arg11.IsWhole) (arg12 : Memref sig .tc .vmem S2x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S512x128 .bf16) (harg17 : arg17.IsWhole) (arg18 : Memref sig .tc .vmem S512x256 .f32) (harg18 : arg18.IsWhole) (arg19 : Memref sig .tc .vmem S512x256 .f32) (harg19 : arg19.IsWhole) (arg20 : Memref sig .tc .vmem S512x512 .bf16) (harg20 : arg20.IsWhole) (arg21 : Memref sig .tc .vmem S512x512 .f32) (harg21 : arg21.IsWhole) (arg22 : Memref sig .tc .vmem S512x256 .f32) (harg22 : arg22.IsWhole) (arg23 : Memref sig .tc .vmem S512x1024 .bf16) (harg23 : arg23.IsWhole) (arg24 : Memref sig .tc .vmem S512x128 .f32) (harg24 : arg24.IsWhole) (arg25 : Memref sig .tc .vmem S512x32 .f32) (harg25 : arg25.IsWhole) (arg26 : Memref sig .tc .vmem S512x1024 .bf16) (harg26 : arg26.IsWhole) (arg27 : Memref sig .tc .vmem S512x512 .bf16) (harg27 : arg27.IsWhole)
    (x0 : Vec F S512x1024 .f32) (x1 : Vec F S512x128 .f32) (x2 : Vec F S512x128 .f32) (x3 : Vec F S1x1024 .f32) (x4 : Vec F S1024x1536 .bf16) (x5 : Vec F S1024x512 .bf16) (x6 : Vec F S128x256 .bf16) (x7 : Vec F S1x256 .f32) (x8 : Vec F S1x256 .f32) (x9 : Vec F S256x2048 .bf16) (x10 : Vec F S256x256 .bf16) (x11 : Vec F S2x128 .f32) (x12 : Vec F S1x128 .f32) (x13 : Vec F S1x128 .f32) (x14 : Vec F S128x1024 .bf16) (x15 : Vec F S1x1024 .f32) (x16 : Vec F S512x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16) ∗ owns (c : Thread nD τ) arg20 fullShare (out0_19 x0 x1 x2 x3 x4 x5 x6 x7 x8 x9 x10 x11 x12 x13 x14 x15 x16) ∗ owns (c : Thread nD τ) arg21 fullShare (out0_20 x0 x1 x2 x3 x4 x5 x6 x7 x8 x9 x10 x11 x12 x13 x14 x15 x16) ∗ owns (c : Thread nD τ) arg22 fullShare (out0_21 x0 x1 x2 x3 x4 x5 x6 x7 x8 x9 x10 x11 x12 x13 x14 x15 x16) ∗ owns (c : Thread nD τ) arg23 fullShare (out0_22 x0 x1 x2 x3 x4 x5 x6 x7 x8 x9 x10 x11 x12 x13 x14 x15 x16) ∗ owns (c : Thread nD τ) arg24 fullShare (out0_23 x0 x1 x2 x3 x4 x5 x6 x7 x8 x9 x10 x11 x12 x13 x14 x15 x16) ∗ owns (c : Thread nD τ) arg25 fullShare (out0_24 x0 x1 x2 x3 x4 x5 x6 x7 x8 x9 x10 x11 x12 x13 x14 x15 x16) ∗ owns (c : Thread nD τ) arg26 fullShare (out0_25 x0 x1 x2 x3 x4 x5 x6 x7 x8 x9 x10 x11 x12 x13 x14 x15 x16) ∗ owns (c : Thread nD τ) arg27 fullShare (out0_26 x0 x1 x2 x3 x4 x5 x6 x7 x8 x9 x10 x11 x12 x13 x14 x15 x16)) -∗ K ⟨⟩))
      ⊢ wp frame (wpE (defs₀ (F := F)) Variants.none c none) E (cc0_in_proj_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_in_proj_prompt_eq_skeleton]; unfold cc0_in_proj_prompt_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _ _ _ _ _ _ _ _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _ _ _ _ _ _ _ _)).trans ?_
    rfl
  iexists _; isplitr
  swap; · iexact H26
  ipureintro
  refine (View.read_writes_eq_canon _ _ _ (cover0_26 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 2000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- THE FRAME: `Cert.quiescent_InPIdeal`'s statement (Defs.lean) at any `F` — Proof.lean cites it at `Bits`:
    `theorem Cert.Proof.claim : Cert.Claim := ⟨Cert.InPIdeal.Gen.facts, fun m ρ _ => Cert.InPIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.InPIdeal.Gen

end
-- ==== Proof.GlaTile.lean ====
/- What the gated linear attention kernel computes for one sequence and one head, read at an index over the extended
   reals. The kernel writes the same arithmetic out for each of its eight sequences and four heads; here it is stated
   once, with the sequence and the head as parameters. -/
module

public import proofs.«01_k».proof.Proof.Gen.GlaIdeal.Skeleton
public import Idealize.ShloMosaic.Lib.Pointwise

@[expose] public section

set_option maxRecDepth 16384

noncomputable section

namespace Cert.GlaValue

open Idealize.ShloMosaic Cert.GlaIdeal Cert.GlaIdeal.Gen

/-! ## The arithmetic of one head of one sequence -/

/-- Feature `d` of head `h` among the 256 features of the queries, keys and gates. -/
def kd (h : Fin 4) (d : Fin 64) : Fin 256 := ⟨64 * h.val + d.val, by omega⟩

/-- Feature `e` of head `h` among the 512 features of the values. -/
def vd (h : Fin 4) (e : Fin 128) : Fin 512 := ⟨128 * h.val + e.val, by omega⟩

/-- The cumulative gate: the log gates of the tokens up to `t`. -/
def gateSum (la : Fin 8 → Fin 64 → EReal) (t : Fin 8) (d : Fin 64) : EReal := ∑ s, if s ≤ t then la s d else 0

/-- The log gates of all the tokens. -/
def gateAll (la : Fin 8 → Fin 64 → EReal) (d : Fin 64) : EReal := ∑ s, la s d

/-- The decayed score of token `s` for token `t`, zero for a token not yet seen. -/
def score (la q k : Fin 8 → Fin 64 → EReal) (t s : Fin 8) : EReal :=
  if s ≤ t then ∑ d, q t d * Ideal.exp (gateSum la t d) * (k s d * Ideal.exp (-gateSum la s d)) else 0

/-- One token's read of the recurrence: its own chunk through the scores, the state before it through its query. -/
def readOut (la q k : Fin 8 → Fin 64 → EReal) (v : Fin 8 → Fin 128 → EReal) (st : Fin 64 → Fin 128 → EReal)
    (t : Fin 8) (e : Fin 128) : EReal :=
  (∑ s, score la q k t s * v s e) + ∑ d, q t d * Ideal.exp (gateSum la t d) * st d e

/-- The state after the chunk. -/
def newState (la k : Fin 8 → Fin 64 → EReal) (v : Fin 8 → Fin 128 → EReal) (st : Fin 64 → Fin 128 → EReal)
    (d : Fin 64) (e : Fin 128) : EReal :=
  st d e * Ideal.exp (gateAll la d) + ∑ s, k s d * Ideal.exp (gateAll la d - gateSum la s d) * v s e

/-- A row of 128 scaled by the reciprocal root of its mean square (plus the small constant), by the gain `g`, and by
    the gate `z` through silu. -/
def gated (o : Fin 128 → EReal) (g z : EReal) (e : Fin 128) : EReal :=
  o e * Ideal.rsqrt (Ideal.div (∑ i, o i * o i) (Ideal.ofBits .f32 0x43000000#32) + Ideal.ofBits .f32 0x358637BD#32) * g
    * Ideal.div z (1 + Ideal.exp (0 - z))

/-! ## The kernel's arithmetic, one head of one sequence -/

theorem slices64 (h : Fin 4) : S8x256.Slices ![0, 64 * h.val] S8x64 := by revert h; decide

theorem slices128 (h : Fin 4) : S8x512.Slices ![0, 128 * h.val] S8x128 := by revert h; decide

theorem slicesDec (h : Fin 4) : S256x128.Slices ![64 * h.val, 0] S64x1 := by revert h; decide

def headK (h : Fin 4) (x : FVec Ideal S8x256 .bf16) : FVec Ideal S8x64 .bf16 :=
  extractStridedSlice S8x64 ![0, 64 * h.val] x (slices64 h)

def headV {f : FTy} (h : Fin 4) (x : FVec Ideal S8x512 f) : FVec Ideal S8x128 f :=
  extractStridedSlice S8x128 ![0, 128 * h.val] x (slices128 h)

def headDec (h : Fin 4) (x : FVec Ideal S256x128 .f32) : FVec Ideal S64x1 .f32 :=
  extractStridedSlice S64x1 ![64 * h.val, 0] x (slicesDec h)

theorem headK_apply (h : Fin 4) (x : FVec Ideal S8x256 .bf16) (t : Fin 8) (d : Fin 64) :
    headK h x (ix2 t d) = x (ix2 t (kd h d)) := by
  unfold headK kd
  pointwise

theorem headV_apply {f : FTy} (h : Fin 4) (x : FVec Ideal S8x512 f) (t : Fin 8) (d : Fin 128) :
    headV h x (ix2 t d) = x (ix2 t (vd h d)) := by
  unfold headV vd
  pointwise

theorem headDec_apply (h : Fin 4) (x : FVec Ideal S256x128 .f32) (d : Fin 64) (z : Fin 1) :
    headDec h x (ix2 d z) = x (ix2 (kd h d) 0) := by
  unfold headDec kd
  pointwise

/-- The causal mask of the chunk. -/
def mask : IVec S8x8 1 :=
  k0_pay7 (iota .tc S8x8 32 [1] iota_S8x8_d1_w32) k0_pay3 k0_pay4 8#32 k0_pay5 k0_pay6

theorem mask_apply (t s : Fin 8) : mask (ix2 t s) = if s ≤ t then 1#1 else 0#1 := by
  revert t s
  decide +kernel

/-- The chunk's scores before the mask. -/
def rawScore (h : Fin 4) (qd ki : FVec Ideal S8x256 .bf16) : FVec Ideal S8x8 .f32 :=
  matmul dot_S8x64_S8x64_S8x8_1_1_0_0_n_n none (headK h qd) (headK h ki) (constant S8x8 .f32 0x00000000#32)

theorem rawScore_apply (h : Fin 4) (qd ki : FVec Ideal S8x256 .bf16) (t s : Fin 8) :
    rawScore h qd ki (ix2 t s) = ∑ d, qd (ix2 t (kd h d)) * ki (ix2 s (kd h d)) := by
  unfold rawScore
  simp only [← headK_apply]
  generalize headK h qd = a
  generalize headK h ki = b
  pointwise

/-- The values of one sequence, as a matrix. -/
def vMat (v : Vec Ideal S1x8x512 .bf16) : FVec Ideal S8x512 .bf16 := shapeCast S8x512 v shapeCasts_S1x8x512_S8x512

theorem vMat_apply (v : Vec Ideal S1x8x512 .bf16) (s : Fin 8) (f : Fin 512) : vMat v (ix2 s f) = v (ix3 0 s f) := by
  pointwise [vMat]

def intra (h : Fin 4) (qd ki : FVec Ideal S8x256 .bf16) (v : Vec Ideal S1x8x512 .bf16) : FVec Ideal S8x128 .f32 :=
  matmul dot_S8x8_S8x128_S8x128_1_0_0_1_n_n none
    (truncf .bf16 (select mask (rawScore h qd ki) (broadcast S8x8 (Scalar.ofBits (F := Ideal) .f32 0x00000000#32)))
      bitsLt_bf16_f32)
    (headV h (vMat v)) (constant S8x128 .f32 0x00000000#32)

theorem intra_apply (h : Fin 4) (qd ki : FVec Ideal S8x256 .bf16) (v : Vec Ideal S1x8x512 .bf16) (t : Fin 8)
    (e : Fin 128) :
    intra h qd ki v (ix2 t e)
      = ∑ s, (if s ≤ t then rawScore h qd ki (ix2 t s) else 0) * v (ix3 0 s (vd h e)) := by
  unfold intra
  generalize rawScore h qd ki = a
  have hv : ∀ s : Fin 8, v (ix3 0 s (vd h e))
      = headV h (vMat v) (ix2 s e) := fun s => by
    rw [headV_apply, vMat_apply]
  simp only [hv]
  generalize headV h (vMat v) = w
  have hm := mask_apply
  generalize mask = mk at hm ⊢
  pointwise
  simp only [hm]
  refine Finset.sum_congr rfl fun s _ => ?_
  by_cases hs : s ≤ t <;> simp [hs, Scalar.select]

/-- The state of one head of one sequence, as a matrix. -/
def stMat (st : Vec Ideal S1x1x64x128 .f32) : FVec Ideal S64x128 .f32 :=
  shapeCast S64x128 st shapeCasts_S1x1x64x128_S64x128

theorem stMat_apply (st : Vec Ideal S1x1x64x128 .f32) (d : Fin 64) (e : Fin 128) :
    stMat st (ix2 d e) = st (ix4 0 0 d e) := by
  pointwise [stMat]

def chunkRead (h : Fin 4) (qd ki : FVec Ideal S8x256 .bf16) (v : Vec Ideal S1x8x512 .bf16)
    (st : Vec Ideal S1x1x64x128 .f32) : FVec Ideal S8x128 .f32 :=
  addf (intra h qd ki v) (matmul dot_S8x64_S64x128_S8x128_1_0_0_1_n_n none (headK h qd)
    (truncf .bf16 (stMat st) bitsLt_bf16_f32) (constant S8x128 .f32 0x00000000#32))

theorem chunkRead_apply (h : Fin 4) (qd ki : FVec Ideal S8x256 .bf16) (v : Vec Ideal S1x8x512 .bf16)
    (st : Vec Ideal S1x1x64x128 .f32) (t : Fin 8) (e : Fin 128) :
    chunkRead h qd ki v st (ix2 t e)
      = intra h qd ki v (ix2 t e) + ∑ d, qd (ix2 t (kd h d)) * st (ix4 0 0 d e) := by
  unfold chunkRead
  simp only [← headK_apply, ← stMat_apply]
  generalize intra h qd ki v = a
  generalize headK h qd = b
  generalize stMat st = c
  pointwise

/-- The output gate through silu. -/
def siluGate (z : Vec Ideal S1x8x512 .f32) : FVec Ideal S8x512 .f32 := k0_pay342 z

theorem siluGate_apply (z : Vec Ideal S1x8x512 .f32) (t : Fin 8) (f : Fin 512) :
    siluGate z (ix2 t f) = Ideal.div (z (ix3 0 t f)) (1 + Ideal.exp (0 - z (ix3 0 t f))) := by
  unfold siluGate
  pointwise [k0_pay342]

def finish (h : Fin 4) (g : Vec Ideal S1x128 .f32) (o : FVec Ideal S8x128 .f32) (z : Vec Ideal S1x8x512 .f32) :
    FVec Ideal S1x8x128 .bf16 :=
  shapeCast S1x8x128 (truncf .bf16 (mulf (mulf (mulf o (broadcastTo S8x128
    (rsqrt (addf (divf (shapeCast S8x1 (multiReduction .add [1] S8 (mulf o o) 0x00000000#32 reduces_S8x128_S8 (.inl rfl) rfl)
        shapeCasts_S8_S8x1) (broadcast S8x1 (Scalar.ofBits (F := Ideal) .f32 0x43000000#32)))
      (broadcast S8x1 (Scalar.ofBits (F := Ideal) .f32 0x358637BD#32)))) broadcasts_S8x1_S8x128))
    (broadcastTo S8x128 g broadcasts_S1x128_S8x128)) (headV h (siluGate z))) bitsLt_bf16_f32) shapeCasts_S8x128_S1x8x128

theorem finish_apply (h : Fin 4) (g : Vec Ideal S1x128 .f32) (o : FVec Ideal S8x128 .f32) (z : Vec Ideal S1x8x512 .f32)
    (i : Fin 1) (t : Fin 8) (e : Fin 128) :
    finish h g o z (ix3 i t e) = gated (fun j => o (ix2 t j)) (g (ix2 0 e)) (z (ix3 0 t (vd h e))) e := by
  have hw : Ideal.div (z (ix3 0 t (vd h e))) (1 + Ideal.exp (0 - z (ix3 0 t (vd h e))))
      = headV h (siluGate z) (ix2 t e) := by
    rw [headV_apply, siluGate_apply]
  unfold finish gated
  rw [hw]
  generalize headV h (siluGate z) = w
  pointwise

def stateOut (h : Fin 4) (dec : FVec Ideal S256x128 .f32) (ke : FVec Ideal S8x256 .bf16) (v : Vec Ideal S1x8x512 .bf16)
    (st : Vec Ideal S1x1x64x128 .f32) : FVec Ideal S1x1x64x128 .f32 :=
  shapeCast S1x1x64x128 (addf (mulf (stMat st) (broadcastTo S64x128 (headDec h dec) broadcasts_S64x1_S64x128))
    (matmul dot_S8x64_S8x128_S64x128_0_0_1_1_n_n none (headK h ke)
      (headV h (vMat v)) (constant S64x128 .f32 0x00000000#32)))
    shapeCasts_S64x128_S1x1x64x128

theorem stateOut_apply (h : Fin 4) (dec : FVec Ideal S256x128 .f32) (ke : FVec Ideal S8x256 .bf16)
    (v : Vec Ideal S1x8x512 .bf16) (st : Vec Ideal S1x1x64x128 .f32) (i j : Fin 1) (d : Fin 64) (e : Fin 128) :
    stateOut h dec ke v st (ix4 i j d e) = st (ix4 0 0 d e) * dec (ix2 (kd h d) 0)
      + ∑ s, ke (ix2 s (kd h d)) * v (ix3 0 s (vd h e)) := by
  unfold stateOut
  have hv : ∀ s : Fin 8, v (ix3 0 s (vd h e))
      = headV h (vMat v) (ix2 s e) := fun s => by
    rw [headV_apply, vMat_apply]
  simp only [hv, ← headK_apply, ← stMat_apply, ← headDec_apply h dec d 0]
  generalize headV h (vMat v) = w
  generalize headK h ke = b
  generalize stMat st = c
  generalize headDec h dec = f
  pointwise

/-! ## The gates -/

section Gates

variable (cum : Vec Ideal S16x8 .bf16) (sel : Vec Ideal S8x128 .bf16) (la : Vec Ideal S1x8x256 .f32)
  (hcum : ∀ r s, cum (ix2 r s) = if s.val ≤ r.val then 1 else 0) (hsel : ∀ s, sel (ix2 s 0) = 1)
  (hla : ∀ s f, la (ix3 0 s f) - la (ix3 0 s f) = 0)

theorem pay11_apply (r : Fin 16) (f : Fin 256) :
    k0_pay11 cum la (ix2 r f) = (∑ s, cum (ix2 r s) * la (ix3 0 s f))
      + ∑ s, cum (ix2 r s) * (la (ix3 0 s f) - la (ix3 0 s f)) := by
  pointwise [k0_pay11, k0_pay10, k0_pay9, k0_pay8]

theorem pay12_apply (f : Fin 256) (j : Fin 128) :
    k0_pay12 sel la (ix2 f j) = Ideal.exp ((∑ s, la (ix3 0 s f) * sel (ix2 s j))
      + ∑ s, (la (ix3 0 s f) - la (ix3 0 s f)) * sel (ix2 s j)) := by
  pointwise [k0_pay12, k0_pay10, k0_pay9, k0_pay8]

include hcum hla in
/-- Row `r` of the cumulative product: the two halves of the log gates add up to the sum of the tokens up to `r`. -/
theorem bb_apply (r : Fin 16) (f : Fin 256) :
    k0_pay11 cum la (ix2 r f) = ∑ s : Fin 8, if s.val ≤ r.val then la (ix3 0 s f) else 0 := by
  rw [pay11_apply]
  simp only [hla, hcum, mul_zero, Finset.sum_const_zero, add_zero]
  refine Finset.sum_congr rfl fun s _ => ?_
  by_cases hs : s.val ≤ r.val <;> simp [hs]

include hsel hla in
theorem dec_apply (h : Fin 4) (d : Fin 64) :
    k0_pay12 sel la (ix2 (kd h d) 0) = Ideal.exp (gateAll (fun s e => la (ix3 0 s (kd h e))) d) := by
  rw [pay12_apply]
  simp only [hla, hsel, mul_one, Finset.sum_const_zero, add_zero, gateAll]

theorem pay53_apply (bb : FVec Ideal S16x256 .f32) (q : Vec Ideal S1x8x256 .f32) (t : Fin 8) (f : Fin 256) :
    k0_pay53 bb q (ix2 t f) = q (ix3 0 t f) * Ideal.exp (bb (ix2 ⟨t.val, by omega⟩ f)) := by
  pointwise [k0_pay53, k0_pay51]

theorem pay54_apply (bb : FVec Ideal S16x256 .f32) (k : Vec Ideal S1x8x256 .f32) (t : Fin 8) (f : Fin 256) :
    k0_pay54 bb k (ix2 t f) = k (ix3 0 t f) * Ideal.exp (0 - bb (ix2 ⟨t.val, by omega⟩ f)) := by
  pointwise [k0_pay54, k0_pay52, k0_pay51]

theorem pay55_apply (bb : FVec Ideal S16x256 .f32) (k : Vec Ideal S1x8x256 .f32) (t : Fin 8) (f : Fin 256) :
    k0_pay55 bb k (ix2 t f) = k (ix3 0 t f)
      * Ideal.exp (bb (ix2 ⟨8 + t.val, by omega⟩ f) - bb (ix2 ⟨t.val, by omega⟩ f)) := by
  pointwise [k0_pay55, k0_pay52, k0_pay51]

variable (q k : Vec Ideal S1x8x256 .f32) (v : Vec Ideal S1x8x512 .bf16) (st : Vec Ideal S1x1x64x128 .f32)
  (g : Vec Ideal S1x128 .f32) (z : Vec Ideal S1x8x512 .f32)

/-- The output block of one head of one sequence. -/
def outTile (h : Fin 4) : FVec Ideal S1x8x128 .bf16 :=
  finish h g (chunkRead h (k0_pay53 (k0_pay11 cum la) q) (k0_pay54 (k0_pay11 cum la) k) v st) z

/-- The state block of one head of one sequence. -/
def stateTile (h : Fin 4) : FVec Ideal S1x1x64x128 .f32 :=
  stateOut h (k0_pay12 sel la) (k0_pay55 (k0_pay11 cum la) k) v st

include hcum hla in
theorem outTile_apply (h : Fin 4) (i : Fin 1) (t : Fin 8) (e : Fin 128) :
    outTile cum la q k v st g z h (ix3 i t e)
      = gated (readOut (fun s d => la (ix3 0 s (kd h d))) (fun s d => q (ix3 0 s (kd h d)))
          (fun s d => k (ix3 0 s (kd h d))) (fun s d => v (ix3 0 s (vd h d))) (fun d x => st (ix4 0 0 d x)) t)
        (g (ix2 0 e)) (z (ix3 0 t (vd h e))) e := by
  unfold outTile
  rw [finish_apply]
  congr 1
  funext j
  rw [chunkRead_apply, intra_apply]
  simp only [rawScore_apply, pay53_apply, pay54_apply, bb_apply cum la hcum hla, zero_sub, readOut, score, gateSum,
    Fin.le_def]

include hcum hsel hla in
theorem stateTile_apply (h : Fin 4) (i j : Fin 1) (d : Fin 64) (e : Fin 128) :
    stateTile cum sel la k v st h (ix4 i j d e)
      = newState (fun s d => la (ix3 0 s (kd h d))) (fun s d => k (ix3 0 s (kd h d)))
          (fun s d => v (ix3 0 s (vd h d))) (fun d x => st (ix4 0 0 d x)) d e := by
  unfold stateTile
  have hall : ∀ t s : Fin 8, (s.val ≤ 8 + t.val) = True := fun t s => by
    have := s.isLt
    simp only [eq_iff_iff, iff_true]
    omega
  rw [stateOut_apply, dec_apply sel la hsel hla]
  simp only [pay55_apply, bb_apply cum la hcum hla, newState, gateAll, gateSum, Fin.le_def, hall, if_true]

end Gates

end Cert.GlaValue
-- ==== Proof.GlaBlock.lean ====
/- What the gated linear attention kernel leaves at one grid point (eight sequences of four heads): every store of its
   body is the tile of one sequence and one head. -/
module

public import proofs.«01_k».proof.Proof.GlaTile
public import proofs.«01_k».proof.Proof.Gen.GlaIdeal.Value
public import Idealize.ShloMosaic.Lib.Pipeline.ValueKit
public import Idealize.ShloMosaic.Lib.Pipeline.ReadBack

@[expose] public section

set_option maxRecDepth 16384

noncomputable section

namespace Cert.GlaValue

open Idealize.ShloMosaic Cert.GlaIdeal Cert.GlaIdeal.Gen Idealize.ShloMosaic.TcCoe Idealize.SL.Sem

/-- Indices of rank three are equal when their coordinates are. -/
theorem ext3 {d : Fin 3 → ℕ} {x y : (⟨3, d⟩ : Shape).Idx} (h0 : (x 0).val = (y 0).val) (h1 : (x 1).val = (y 1).val)
    (h2 : (x 2).val = (y 2).val) : x = y := by
  funext a
  fin_cases a
  exacts [Fin.ext h0, Fin.ext h1, Fin.ext h2]

/-- Indices of rank four are equal when their coordinates are. -/
theorem ext4 {d : Fin 4 → ℕ} {x y : (⟨4, d⟩ : Shape).Idx} (h0 : (x 0).val = (y 0).val) (h1 : (x 1).val = (y 1).val)
    (h2 : (x 2).val = (y 2).val) (h3 : (x 3).val = (y 3).val) : x = y := by
  funext a
  fin_cases a
  exacts [Fin.ext h0, Fin.ext h1, Fin.ext h2, Fin.ext h3]

/-! ## One sequence of a block -/

theorem inbK (i : Fin 8) : ∀ a, (![i.val, 0, 0] : Fin 3 → ℕ) a + (![1, 8, 256] : Fin 3 → ℕ) a ≤ S8x8x256.size a := by
  revert i; decide

theorem inbV (i : Fin 8) : ∀ a, (![i.val, 0, 0] : Fin 3 → ℕ) a + (![1, 8, 512] : Fin 3 → ℕ) a ≤ S8x8x512.size a := by
  revert i; decide

theorem inbO (i : Fin 8) (h : Fin 4) :
    ∀ a, (![i.val, 0, 128 * h.val] : Fin 3 → ℕ) a + (![1, 8, 128] : Fin 3 → ℕ) a ≤ S8x8x512.size a := by
  revert i h; decide

theorem inbS (i : Fin 8) (h : Fin 4) :
    ∀ a, (![i.val, h.val, 0, 0] : Fin 4 → ℕ) a + (![1, 1, 64, 128] : Fin 4 → ℕ) a ≤ S8x4x64x128.size a := by
  revert i h; decide

/-- The rectangle of sequence `i`, head `h` in the block of read-outs. -/
abbrev rectO (i : Fin 8) (h : Fin 4) : Rect S8x8x512 := Rect.unit ![i.val, 0, 128 * h.val] ![1, 8, 128] (inbO i h)

/-- The rectangle of sequence `i`, head `h` in the block of states. -/
abbrev rectS (i : Fin 8) (h : Fin 4) : Rect S8x4x64x128 := Rect.unit ![i.val, h.val, 0, 0] ![1, 1, 64, 128] (inbS i h)

def seqK (x : Vec Ideal S8x8x256 .f32) (i : Fin 8) : Vec Ideal S1x8x256 .f32 :=
  View.ld x (Rect.unit ![i.val, 0, 0] ![1, 8, 256] (inbK i))

def seqV {e : EltTy} (x : Vec Ideal S8x8x512 e) (i : Fin 8) : Vec Ideal S1x8x512 e :=
  View.ld x (Rect.unit ![i.val, 0, 0] ![1, 8, 512] (inbV i))

def seqS (x : Vec Ideal S8x4x64x128 .f32) (i : Fin 8) (h : Fin 4) : Vec Ideal S1x1x64x128 .f32 :=
  View.ld (Val := Elt Ideal) (e' := .f32) (k0_pay2 x) (rectS i h)

theorem seqK_apply (x : Vec Ideal S8x8x256 .f32) (i : Fin 8) (z : Fin 1) (s : Fin 8) (f : Fin 256) :
    seqK x i (ix3 z s f) = x (ix3 i s f) := by
  refine View.ld_unit_apply_of x _ _ (inbK i) (ix3 z s f) (ix3 i s f) fun a => ?_
  fin_cases a
  · show i.val = i.val + z.val; omega
  · show s.val = 0 + s.val; omega
  · show f.val = 0 + f.val; omega

theorem seqV_apply {e : EltTy} (x : Vec Ideal S8x8x512 e) (i : Fin 8) (z : Fin 1) (s : Fin 8) (f : Fin 512) :
    seqV x i (ix3 z s f) = x (ix3 i s f) := by
  refine View.ld_unit_apply_of x _ _ (inbV i) (ix3 z s f) (ix3 i s f) fun a => ?_
  fin_cases a
  · show i.val = i.val + z.val; omega
  · show s.val = 0 + s.val; omega
  · show f.val = 0 + f.val; omega

theorem pay2_eq (x : Vec Ideal S8x4x64x128 .f32) (i : Fin 8) (h : Fin 4) (d : Fin 64) (e : Fin 128) :
    k0_pay2 x (ix4 i h d e) = x (ix4 i h d e) := by
  pointwise [k0_pay2]

theorem seqS_apply (x : Vec Ideal S8x4x64x128 .f32) (i : Fin 8) (h : Fin 4) (y z : Fin 1) (d : Fin 64) (e : Fin 128) :
    seqS x i h (ix4 y z d e) = x (ix4 i h d e) := by
  refine (View.ld_unit_apply_of (Val := Elt Ideal) (e := .f32) (S := S8x4x64x128) (k0_pay2 x) ![i.val, h.val, 0, 0] ![1, 1, 64, 128] (inbS i h) (ix4 y z d e) (ix4 i h d e) fun a => ?_).trans
    (pay2_eq x i h d e)
  fin_cases a
  · show i.val = i.val + y.val; omega
  · show h.val = h.val + z.val; omega
  · show d.val = 0 + d.val; omega
  · show e.val = 0 + e.val; omega

/-! ## The block's contents -/

/-- Row `r` has ones up to column `r`. -/
def IsPrefix (cum : Vec Ideal S16x8 .bf16) : Prop := ∀ r s, (cum (ix2 r s) : EReal) = if s.val ≤ r.val then 1 else 0

/-- The first column is all ones. -/
def IsOnes (sel : Vec Ideal S8x128 .bf16) : Prop := ∀ s, (sel (ix2 s 0) : EReal) = 1

/-- Every element minus itself is zero: none is infinite. -/
def IsFinite (la : Vec Ideal S8x8x256 .f32) : Prop := ∀ i s f, (la (ix3 i s f) : EReal) - la (ix3 i s f) = 0

section Block

variable (q k : Vec Ideal S8x8x256 .f32) (v : Vec Ideal S8x8x512 .bf16) (z : Vec Ideal S8x8x512 .f32)
  (la : Vec Ideal S8x8x256 .f32) (st : Vec Ideal S8x4x64x128 .f32) (cum : Vec Ideal S16x8 .bf16)
  (sel : Vec Ideal S8x128 .bf16) (g : Vec Ideal S1x128 .f32)
  (hcum : IsPrefix cum) (hsel : IsOnes sel) (hla : IsFinite la)

/-- What the read-out stores at sequence `i`, head `h`. -/
def outPiece (i : Fin 8) (h : Fin 4) : FVec Ideal S1x8x128 .bf16 :=
  outTile cum (seqK la i) (seqK q i) (seqK k i) (seqV v i) (seqS st i h) g (seqV z i) h

/-- What the state stores at sequence `i`, head `h`. -/
def statePiece (i : Fin 8) (h : Fin 4) : FVec Ideal S1x1x64x128 .f32 :=
  stateTile cum sel (seqK la i) (seqK k i) (seqV v i) (seqS st i h) h

/-- One head of one sequence of the block: the read-out. -/
def headOut (i : Fin 8) (h : Fin 4) (t : Fin 8) (e : Fin 128) : EReal :=
  gated (readOut (fun s d => la (ix3 i s (kd h d))) (fun s d => q (ix3 i s (kd h d))) (fun s d => k (ix3 i s (kd h d)))
    (fun s d => v (ix3 i s (vd h d))) (fun d x => st (ix4 i h d x)) t) (g (ix2 0 e)) (z (ix3 i t (vd h e))) e

/-- One head of one sequence of the block: the state. -/
def headState (i : Fin 8) (h : Fin 4) (d : Fin 64) (e : Fin 128) : EReal :=
  newState (fun s d => la (ix3 i s (kd h d))) (fun s d => k (ix3 i s (kd h d))) (fun s d => v (ix3 i s (vd h d)))
    (fun d x => st (ix4 i h d x)) d e

def blockOut (y : S8x8x512.Idx) : EReal :=
  headOut q k v z la st g (y 0) ⟨(y 2).val / 128, by have h : (y 2).val < 512 := (y 2).isLt; omega⟩ (y 1)
    ⟨(y 2).val % 128, Nat.mod_lt _ (by decide)⟩

def blockState (y : S8x4x64x128.Idx) : EReal := headState k v la st (y 0) (y 1) (y 2) (y 3)

theorem blockOut_vd (i t : Fin 8) (h : Fin 4) (e : Fin 128) :
    blockOut q k v z la st g (ix3 i t (vd h e)) = headOut q k v z la st g i h t e := by
  unfold blockOut
  have h1 : (128 * h.val + e.val) / 128 = h.val := by omega
  have h2 : (128 * h.val + e.val) % 128 = e.val := by omega
  exact congrArg₂ (fun a b => headOut q k v z la st g i a t b) (Fin.ext h1) (Fin.ext h2)

include hcum hla in
theorem outPiece_eq (i : Fin 8) (h : Fin 4) (x : (rectO i h).shape.Idx) :
    outPiece q k v z la st cum g i h x
      = blockOut q k v z la st g ((rectO i h).emb x) := by
  obtain ⟨a, t, e, rfl⟩ : ∃ (a : Fin 1) (t : Fin 8) (e : Fin 128), x = ix3 a t e :=
    ⟨x 0, x 1, x 2, ext3 rfl rfl rfl⟩
  have hx : (rectO i h).emb (ix3 a t e)
      = ix3 i t (vd h e) := by
    refine ext3 ?_ ?_ ?_
    · show i.val + 1 * a.val = i.val; omega
    · show 0 + 1 * t.val = t.val; omega
    · show 128 * h.val + 1 * e.val = 128 * h.val + e.val; omega
  rw [hx, blockOut_vd]
  refine (outTile_apply cum (seqK la i) hcum (fun s f => ?_) (seqK q i) (seqK k i) (seqV v i) (seqS st i h) g (seqV z i)
    h a t e).trans ?_
  · rw [seqK_apply]
    exact hla i s f
  · simp only [seqK_apply, seqV_apply, seqS_apply, headOut]

include hcum hsel hla in
theorem statePiece_eq (i : Fin 8) (h : Fin 4)
    (x : (rectS i h).shape.Idx) :
    statePiece k v la st cum sel i h x
      = blockState k v la st ((rectS i h).emb x) := by
  obtain ⟨a, b, d, e, rfl⟩ : ∃ (a b : Fin 1) (d : Fin 64) (e : Fin 128), x = ix4 a b d e :=
    ⟨x 0, x 1, x 2, x 3, ext4 rfl rfl rfl rfl⟩
  have hx : (rectS i h).emb (ix4 a b d e)
      = ix4 i h d e := by
    refine ext4 ?_ ?_ ?_ ?_
    · show i.val + 1 * a.val = i.val; omega
    · show h.val + 1 * b.val = h.val; omega
    · show 0 + 1 * d.val = d.val; omega
    · show 0 + 1 * e.val = e.val; omega
  rw [hx]
  refine (stateTile_apply cum sel (seqK la i) hcum hsel (fun s f => ?_) (seqK k i) (seqV v i) (seqS st i h) h a b d
    e).trans ?_
  · rw [seqK_apply]
    exact hla i s f
  · simp only [seqK_apply, seqV_apply, seqS_apply]
    rfl

end Block

end Cert.GlaValue
-- ==== Proof.GlaPoint.lean ====
/- The two outputs of one grid point of the gated linear attention kernel, from the stores its body makes. -/
module

public import proofs.«01_k».proof.Proof.GlaBlock

@[expose] public section

set_option maxRecDepth 16384
set_option maxHeartbeats 4000000

noncomputable section

namespace Cert.GlaValue

open Idealize.ShloMosaic Cert.GlaIdeal Cert.GlaIdeal.Gen Idealize.ShloMosaic.TcCoe Idealize.SL.Sem

variable (m : (ℓ : Loc nD τ sig) → Buf (Elt Ideal) ℓ) (c : Dev nD) (t : Fin cfg0.N)
  (hcum : IsPrefix (iblk m c 6 t)) (hsel : IsOnes (iblk m c 7 t)) (hla : IsFinite (iblk m c 4 t))

/-- Stores that are blocks of `G` over one earlier store leave `G` at every index they cover. -/
theorem canon_over_fill {s : Shape} {e : EltTy} (G : s.Idx → Elt Ideal e) (L : List (View.Piece (Elt Ideal) s e))
    (hL : L ≠ []) (h : View.PiecesOf G L.dropLast) (y : s.Idx) (hc : ∃ p ∈ L.dropLast, y ∈ p.1.set) :
    View.canon L y = G y := by
  have e := View.canon_append_of_piecesOf G [L.getLast hL] L.dropLast h y hc
  rwa [List.dropLast_append_getLast] at e

theorem whole_idx (inb : ∀ a, (![0, 0, 0, 0] : Fin 4 → ℕ) a + (![8, 4, 64, 128] : Fin 4 → ℕ) a ≤ S8x4x64x128.size a)
    (y : S8x4x64x128.Idx) :
    (Rect.unit (s := S8x4x64x128) ![0, 0, 0, 0] ![8, 4, 64, 128] inb).idx y = y := by
  refine ext4 ?_ ?_ ?_ ?_
  · show 0 + 1 * (y 0).val = (y 0).val; omega
  · show 0 + 1 * (y 1).val = (y 1).val; omega
  · show 0 + 1 * (y 2).val = (y 2).val; omega
  · show 0 + 1 * (y 3).val = (y 3).val; omega

include hcum hla in
theorem out_eq (y : S8x8x512.Idx) : (outsAt0 m c t).1 y
    = blockOut (iblk m c 0 t) (iblk m c 1 t) (iblk m c 2 t) (iblk m c 3 t) (iblk m c 4 t) (iblk m c 5 t) (iblk m c 8 t) y := by
  have h := outPiece_eq (iblk m c 0 t) (iblk m c 1 t) (iblk m c 2 t) (iblk m c 3 t) (iblk m c 4 t) (iblk m c 5 t)
    (iblk m c 6 t) (iblk m c 8 t) hcum hla
  unfold outsAt0
  frame_open
  simp (disch := decide) only [↓ View.readCov_skip, ↓ View.readCov_cons_toLoadRect, ↓ View.readCov_fill]
  frame_out
  refine View.canon_apply_of_pieces _ _ (View.PiecesOf.mem ?_) y
    (View.cover_of_tiledL _ ![1, 8, 128] (by sl_kernel_rfl) y)
  · exact ⟨h 7 3, h 7 2, h 7 1, h 7 0,
      h 6 3, h 6 2, h 6 1, h 6 0,
      h 5 3, h 5 2, h 5 1, h 5 0,
      h 4 3, h 4 2, h 4 1, h 4 0,
      h 3 3, h 3 2, h 3 1, h 3 0,
      h 2 3, h 2 2, h 2 1, h 2 0,
      h 1 3, h 1 2, h 1 1, h 1 0,
      h 0 3, h 0 2, h 0 1, h 0 0, trivial⟩

include hcum hsel hla in
theorem state_eq (y : S8x4x64x128.Idx) : (outsAt0 m c t).2 y
    = blockState (iblk m c 1 t) (iblk m c 2 t) (iblk m c 4 t) (iblk m c 5 t) y := by
  have h := statePiece_eq (iblk m c 1 t) (iblk m c 2 t) (iblk m c 4 t) (iblk m c 5 t) (iblk m c 6 t) (iblk m c 7 t)
    hcum hsel hla
  unfold outsAt0
  frame_open
  simp (disch := decide) only [↓ View.readCov_skip, ↓ View.readCov_cons_toLoadRect, ↓ View.readCov_fill]
  frame_out
  rw [View.readCov_eq_canon']
  refine (congrArg _ ?_).trans
    (canon_over_fill _ _ (List.cons_ne_nil _ _) ?_ y (View.cover_of_tiledL _ ![1, 1, 64, 128] (by sl_kernel_rfl) y))
  · exact whole_idx _ y
  · exact ⟨h 7 3, h 7 2, h 7 1, h 7 0,
      h 6 3, h 6 2, h 6 1, h 6 0,
      h 5 3, h 5 2, h 5 1, h 5 0,
      h 4 3, h 4 2, h 4 1, h 4 0,
      h 3 3, h 3 2, h 3 1, h 3 0,
      h 2 3, h 2 2, h 2 1, h 2 0,
      h 1 3, h 1 2, h 1 1, h 1 0,
      h 0 3, h 0 2, h 0 1, h 0 0, trivial⟩

end Cert.GlaValue
-- ==== Proof.GlaRun.lean ====
/- The arrays the gated linear attention kernel leaves, from its arguments. -/
module

public import proofs.«01_k».proof.Proof.GlaPoint

@[expose] public section

set_option maxRecDepth 16384

noncomputable section

namespace Cert.GlaValue

open Idealize.ShloMosaic Cert.GlaIdeal Cert.GlaIdeal.Gen Idealize.ShloMosaic.TcCoe Idealize.SL.Sem

variable (m : (ℓ : Loc nD τ sig) → Buf (Elt Ideal) ℓ)

theorem lt4 (t : Fin cfg0.N) : t.val < 4 := lt_of_lt_of_eq t.isLt (show cfg0.N = 4 from N_0)

theorem idx3 : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_9.index t = ![t.val, 0, 0] :=
  (by decide +kernel : ∀ t : Fin grid0.N, _)
theorem idx4 : ∀ t : Fin cfg0.N, win0_5.index t = ![t.val, 0, 0, 0] ∧ win0_10.index t = ![t.val, 0, 0, 0] :=
  (by decide +kernel : ∀ t : Fin grid0.N, _)
theorem idx0 : ∀ t : Fin cfg0.N, win0_6.index t = ![0, 0] ∧ win0_7.index t = ![0, 0] ∧ win0_8.index t = ![0, 0] :=
  (by decide +kernel : ∀ t : Fin grid0.N, _)

/-- Sequence `i` of block `t` among the thirty-two. -/
abbrev seqAt (t : Fin cfg0.N) (i : Fin 8) : Fin 32 := ⟨8 * t.val + i.val, by have := lt4 t; omega⟩

/-- Token `s` of sequence `b` among all rows. -/
abbrev tok (b : Fin 32) (s : Fin 8) : Fin 256 := ⟨8 * b.val + s.val, by omega⟩

theorem q_blk (c : Dev nD) (t : Fin cfg0.N) (i s : Fin 8) (f : Fin 256) :
    iblk m c 0 t (ix3 i s f) = m ((c : Thread nD τ).loc main_arg0) (ix2 (tok (seqAt t i) s) f) := by
  blk_ext! [iblk, V, idx3 t]

theorem k_blk (c : Dev nD) (t : Fin cfg0.N) (i s : Fin 8) (f : Fin 256) :
    iblk m c 1 t (ix3 i s f) = m ((c : Thread nD τ).loc main_arg1) (ix2 (tok (seqAt t i) s) f) := by
  blk_ext! [iblk, V, idx3 t]

theorem v_blk (c : Dev nD) (t : Fin cfg0.N) (i s : Fin 8) (f : Fin 512) :
    iblk m c 2 t (ix3 i s f) = m ((c : Thread nD τ).loc main_arg2) (ix2 (tok (seqAt t i) s) f) := by
  blk_ext! [iblk, V, idx3 t]

theorem gg_blk (c : Dev nD) (t : Fin cfg0.N) (i s : Fin 8) (f : Fin 512) :
    iblk m c 3 t (ix3 i s f) = m ((c : Thread nD τ).loc main_arg3) (ix2 (tok (seqAt t i) s) f) := by
  blk_ext! [iblk, V, idx3 t]

theorem la_blk (c : Dev nD) (t : Fin cfg0.N) (i s : Fin 8) (f : Fin 256) :
    iblk m c 4 t (ix3 i s f) = m ((c : Thread nD τ).loc main_arg4) (ix2 (tok (seqAt t i) s) f) := by
  blk_ext! [iblk, V, idx3 t]

theorem st_blk (c : Dev nD) (t : Fin cfg0.N) (i : Fin 8) (h : Fin 4) (d : Fin 64) (e : Fin 128) :
    iblk m c 5 t (ix4 i h d e) = m ((c : Thread nD τ).loc main_arg5) (ix4 (seqAt t i) h d e) := by
  blk_ext! [iblk, V, idx4 t]

theorem g_blk (c : Dev nD) (t : Fin cfg0.N) (e : Fin 128) :
    iblk m c 8 t (ix2 0 e) = m ((c : Thread nD τ).loc main_arg6) (ix2 0 e) := by
  blk_ext! [iblk, V, idx0 t]

theorem lit0_eq : ∀ k : Fin 128, lit0 k = if k.val % 8 ≤ k.val / 8 then 0x3F80#16 else 0#16 := by decide +kernel

theorem lit1_eq : ∀ k : Fin 1024, k.val % 128 = 0 → lit1 k = 0x3F80#16 := by decide +kernel

theorem bf16_one : Ideal.ofBits .bf16 0x3F80#16 = 1 := by
  simp

theorem bf16_zero : Ideal.ofBits .bf16 0#16 = 0 := by
  simp

theorem cum_blk (c : Dev nD) (t : Fin cfg0.N) (r : Fin 16) (s : Fin 8) :
    iblk m c 6 t (ix2 r s) = Ideal.ofBits .bf16 (lit0 (S16x8.rowMajor (ix2 r s))) := by
  blk_ext! [iblk, V, idx0 t]

theorem sel_blk (c : Dev nD) (t : Fin cfg0.N) (r : Fin 8) (s : Fin 128) :
    iblk m c 7 t (ix2 r s) = Ideal.ofBits .bf16 (lit1 (S8x128.rowMajor (ix2 r s))) := by
  blk_ext! [iblk, V, idx0 t]

theorem lit0_at (k : Fin 128) (r : Fin 16) (s : Fin 8) (hk : k.val = r.val * 8 + s.val) :
    Ideal.ofBits .bf16 (lit0 k) = if s.val ≤ r.val then 1 else 0 := by
  have h1 : (r.val * 8 + s.val) % 8 = s.val := by omega
  have h2 : (r.val * 8 + s.val) / 8 = r.val := by omega
  rw [lit0_eq, hk, h1, h2]
  by_cases h : s.val ≤ r.val
  · rw [if_pos h, if_pos h, bf16_one]
  · rw [if_neg h, if_neg h, bf16_zero]

theorem lit1_at (k : Fin 1024) (s : ℕ) (hk : k.val = s * 128 + 0) : Ideal.ofBits .bf16 (lit1 k) = 1 := by
  rw [lit1_eq k (by omega), bf16_one]

theorem cum_prefix (c : Dev nD) (t : Fin cfg0.N) : IsPrefix (iblk m c 6 t) := fun r s =>
  (cum_blk m c t r s).trans (lit0_at _ r s (Shape.rowMajor_val_two _))

theorem sel_ones (c : Dev nD) (t : Fin cfg0.N) : IsOnes (iblk m c 7 t) := fun s =>
  (sel_blk m c t s 0).trans (lit1_at _ s.val (Shape.rowMajor_val_two _))

/-! ## The outputs -/

section

variable (q k : Fin 256 → Fin 256 → EReal) (v z : Fin 256 → Fin 512 → EReal) (la : Fin 256 → Fin 256 → EReal)
  (st : Fin 32 → Fin 4 → Fin 64 → Fin 128 → EReal) (g : Fin 128 → EReal)

/-- The read-out of sequence `b`, head `h`, token `t`, over whole arrays. -/
def glaOut (b : Fin 32) (t : Fin 8) (h : Fin 4) (e : Fin 128) : EReal :=
  gated (readOut (fun s d => la (tok b s) (kd h d)) (fun s d => q (tok b s) (kd h d)) (fun s d => k (tok b s) (kd h d))
    (fun s d => v (tok b s) (vd h d)) (fun d x => st b h d x) t) (g e) (z (tok b t) (vd h e)) e

/-- The state of sequence `b`, head `h`, over whole arrays. -/
def glaState (b : Fin 32) (h : Fin 4) (d : Fin 64) (e : Fin 128) : EReal :=
  newState (fun s d => la (tok b s) (kd h d)) (fun s d => k (tok b s) (kd h d)) (fun s d => v (tok b s) (vd h d))
    (fun d x => st b h d x) d e

end

section

variable (c : Dev nD)

def argQ (r f : Fin 256) : EReal := m ((c : Thread nD τ).loc main_arg0) (ix2 r f)
def argK (r f : Fin 256) : EReal := m ((c : Thread nD τ).loc main_arg1) (ix2 r f)
def argV (r : Fin 256) (f : Fin 512) : EReal := m ((c : Thread nD τ).loc main_arg2) (ix2 r f)
def argZ (r : Fin 256) (f : Fin 512) : EReal := m ((c : Thread nD τ).loc main_arg3) (ix2 r f)
def argLa (r f : Fin 256) : EReal := m ((c : Thread nD τ).loc main_arg4) (ix2 r f)
def argSt (b : Fin 32) (h : Fin 4) (d : Fin 64) (e : Fin 128) : EReal := m ((c : Thread nD τ).loc main_arg5) (ix4 b h d e)
def argG (e : Fin 128) : EReal := m ((c : Thread nD τ).loc main_arg6) (ix2 0 e)

variable (hla : ∀ r f, argLa m c r f - argLa m c r f = 0)

include hla in
theorem la_finite (t : Fin cfg0.N) : IsFinite (iblk m c 4 t) := fun i s f => by
  rw [la_blk]
  exact hla _ _

theorem flush9 : ∀ t : Fin cfg0.N, (cfg0.win 9).flush t = true := (by decide +kernel : ∀ t : Fin grid0.N, _)
theorem flush10 : ∀ t : Fin cfg0.N, (cfg0.win 10).flush t = true := (by decide +kernel : ∀ t : Fin grid0.N, _)

theorem read9 (A : S32x8x512.Idx → EReal) (t : Fin cfg0.N) (i s : Fin 8) (f : Fin 512) :
    ((cfg0.win 9).blk t).view.read (Elt Ideal) A (ix3 i s f) = A (ix3 (seqAt t i) s f) := by
  blk_ext! [idx3 t]

theorem read10 (A : S32x4x64x128.Idx → EReal) (t : Fin cfg0.N) (i : Fin 8) (h : Fin 4) (d : Fin 64) (e : Fin 128) :
    ((cfg0.win 10).blk t).view.read (Elt Ideal) A (ix4 i h d e) = A (ix4 (seqAt t i) h d e) := by
  blk_ext! [idx4 t]

/-- The block and the place in it of sequence `b`. -/
theorem seq_split (b : Fin 32) : ∃ (t : Fin cfg0.N) (i : Fin 8), seqAt t i = b := by
  have hN : cfg0.N = 4 := N_0
  refine ⟨⟨b.val / 8, by omega⟩, ⟨b.val % 8, by omega⟩, Fin.ext ?_⟩
  show 8 * (b.val / 8) + b.val % 8 = b.val
  omega

include hla in
/-- The first output array. -/
theorem arr9 (b : Fin 32) (s : Fin 8) (h : Fin 4) (e : Fin 128) :
    (dats m 0 c).arrAt 9 cfg0.N (ix3 b s (vd h e))
      = glaOut (argQ m c) (argK m c) (argV m c) (argZ m c) (argLa m c) (argSt m c) (argG m c) b s h e := by
  obtain ⟨t, i, rfl⟩ := seq_split b
  have h2 := congrFun (GlaIdeal.Value.blocks9 m c t (flush9 t)) (ix3 i s (vd h e))
  rw [GlaIdeal.Value.flushed9] at h2
  refine (read9 _ t i s (vd h e)).symm.trans (h2.trans ?_)
  refine (show _ = (outsAt0 m c t).1 (ix3 i s (vd h e)) from rfl).trans ?_
  rw [out_eq m c t (cum_prefix m c t) (la_finite m c hla t), blockOut_vd]
  unfold headOut glaOut argQ argK argV argZ argLa argSt argG
  simp only [q_blk, k_blk, v_blk, gg_blk, la_blk, st_blk, g_blk]

include hla in
/-- The second output array. -/
theorem arr10 (b : Fin 32) (h : Fin 4) (d : Fin 64) (e : Fin 128) :
    (dats m 0 c).arrAt 10 cfg0.N (ix4 b h d e)
      = glaState (argK m c) (argV m c) (argLa m c) (argSt m c) b h d e := by
  obtain ⟨t, i, rfl⟩ := seq_split b
  have h2 := congrFun (GlaIdeal.Value.blocks10 m c t (flush10 t)) (ix4 i h d e)
  rw [GlaIdeal.Value.flushed10] at h2
  refine (read10 _ t i h d e).symm.trans (h2.trans ?_)
  refine (show _ = (outsAt0 m c t).2 (ix4 i h d e) from rfl).trans ?_
  rw [state_eq m c t (cum_prefix m c t) (sel_ones m c t) (la_finite m c hla t)]
  refine (show _ = headState (iblk m c 1 t) (iblk m c 2 t) (iblk m c 4 t) (iblk m c 5 t) i h d e from rfl).trans ?_
  unfold headState glaState argK argV argLa argSt
  simp only [k_blk, v_blk, la_blk, st_blk]

end

end Cert.GlaValue
-- ==== Proof.PostPayload.lean ====
/- What the body of the block after the mixers computes, read at an index over the extended reals: every stored value
   as sums and products of the elements of the blocks it was computed from. -/
module

public import proofs.«01_k».proof.Proof.Gen.PostIdeal.Skeleton
public import Idealize.ShloMosaic.Lib.Pointwise

@[expose] public section

set_option maxRecDepth 16384

noncomputable section

namespace Cert.PostValue

open Idealize.ShloMosaic Cert.PostIdeal Cert.PostIdeal.Gen

/-- A row scaled by the reciprocal root of its mean square (plus the small constant) and by the gains `g`. -/
def normRow (h g : Fin 1024 → EReal) (d : Fin 1024) : EReal :=
  h d * Ideal.rsqrt (Ideal.div (∑ e, h e * h e) (Ideal.ofBits .f32 0x44800000#32) + Ideal.ofBits .f32 0x358637BD#32) * g d

/-- The activation times the other half of the feed-forward layer, one element: the convolution of the three gate rows
    `a0 a1 a2` with taps `w0 w1 w2` and bias `b`, through silu, times `c`. -/
def ffnElt (b w0 w1 w2 a0 a1 a2 c : EReal) : EReal :=
  Ideal.div (b + w0 * a0 + w1 * a1 + w2 * a2) (1 + Ideal.exp (0 - (b + w0 * a0 + w1 * a1 + w2 * a2))) * c

theorem pay2_apply (v0 : Vec Ideal S512x1024 .f32) (v1 : Vec Ideal S512x512 .bf16) (v2 : Vec Ideal S512x1024 .bf16)
    (v6 : Vec Ideal S512x512 .bf16) (v7 : Vec Ideal S512x1024 .bf16) (r : Fin 512) (d : Fin 1024) :
    k0_pay2 v0 v1 v2 v6 v7 (ix2 r d) = v0 (ix2 r d) + (∑ k : Fin 512, v1 (ix2 r k) * v2 (ix2 k d))
      + ∑ k : Fin 512, v6 (ix2 r k) * v7 (ix2 k d) := by
  pointwise [k0_pay2]

theorem pay3_apply (v0 : Vec Ideal S512x1024 .f32) (v1 : Vec Ideal S512x512 .bf16) (v2 : Vec Ideal S512x1024 .bf16)
    (v6 : Vec Ideal S512x512 .bf16) (v7 : Vec Ideal S512x1024 .bf16) (v11 : Vec Ideal S1x1024 .f32) (r : Fin 512)
    (d : Fin 1024) :
    k0_pay3 v0 v1 v2 v6 v7 v11 (ix2 r d)
      = normRow (fun e => k0_pay2 v0 v1 v2 v6 v7 (ix2 r e)) (fun e => v11 (ix2 0 e)) d := by
  unfold k0_pay3 normRow
  generalize k0_pay2 v0 v1 v2 v6 v7 = h
  pointwise

theorem pay5_apply (v25 : FVec Ideal S512x1024 .bf16) (w : Vec Ideal S1024x1536 .bf16) (r : Fin 512) (f : Fin 1536) :
    k0_pay5 v25 w (ix2 r f) = ∑ k : Fin 1024, v25 (ix2 r k) * w (ix2 k f) := by
  pointwise [k0_pay5]

theorem pay6_apply (v25 : FVec Ideal S512x1024 .bf16) (w : Vec Ideal S1024x1536 .bf16) (r : Fin 512) (f : Fin 1536) :
    k0_pay6 v25 w (ix2 r f) = ∑ k : Fin 1024, v25 (ix2 r k) * w (ix2 k f) := by
  pointwise [k0_pay6]

theorem pay7_apply (v25 : FVec Ideal S512x1024 .bf16) (w : Vec Ideal S1024x1280 .bf16) (r : Fin 512) (f : Fin 1280) :
    k0_pay7 v25 w (ix2 r f) = ∑ k : Fin 1024, v25 (ix2 r k) * w (ix2 k f) := by
  pointwise [k0_pay7]

theorem pay8_apply (v25 : FVec Ideal S512x1024 .bf16) (w : Vec Ideal S1024x1280 .bf16) (r : Fin 512) (f : Fin 1280) :
    k0_pay8 v25 w (ix2 r f) = ∑ k : Fin 1024, v25 (ix2 r k) * w (ix2 k f) := by
  pointwise [k0_pay8]

/-- A store of the gate's last eight rows, left half. -/
theorem pay21_apply (a : FVec Ideal S512x1536 .f32) (r : Fin 8) (f : Fin 1536) :
    k0_pay21 a (ix2 r f) = a (ix2 ⟨504 + r.val, by omega⟩ f) := by
  pointwise [k0_pay21]

theorem pay22_apply (a : FVec Ideal S512x1536 .f32) (r : Fin 8) (f : Fin 1536) :
    k0_pay22 a (ix2 r f) = a (ix2 ⟨504 + r.val, by omega⟩ f) := by
  pointwise [k0_pay22]

theorem pay37_apply (a : FVec Ideal S512x1280 .f32) (r : Fin 8) (f : Fin 1280) :
    k0_pay37 a (ix2 r f) = a (ix2 ⟨504 + r.val, by omega⟩ f) := by
  pointwise [k0_pay37]

theorem pay38_apply (a : FVec Ideal S512x1280 .f32) (r : Fin 8) (f : Fin 1280) :
    k0_pay38 a (ix2 r f) = a (ix2 ⟨504 + r.val, by omega⟩ f) := by
  pointwise [k0_pay38]

theorem pay4_apply (i : S8x2816.Idx) : k0_pay4 (F := Ideal) i = 0 := by
  pointwise [k0_pay4]

theorem pay41_apply (h y : FVec Ideal S512x1024 .f32) (r : Fin 512) (d : Fin 1024) :
    k0_pay41 h y (ix2 r d) = h (ix2 r d) + y (ix2 r d) := by
  pointwise [k0_pay41]

theorem pay40_apply (g : FVec Ideal S512x1280 .bf16) (w : Vec Ideal S1280x1024 .bf16) (acc : Vec Ideal S512x1024 .f32)
    (r : Fin 512) (d : Fin 1024) :
    k0_pay40 g w acc (ix2 r d) = acc (ix2 r d) + ∑ f : Fin 1280, g (ix2 r f) * w (ix2 f d) := by
  pointwise [k0_pay40]

theorem pay42_apply (h y : FVec Ideal S512x1024 .f32) (g : Vec Ideal S1x1024 .f32) (w : Vec Ideal S1024x1024 .bf16)
    (r : Fin 512) (d : Fin 1024) :
    k0_pay42 h y g w (ix2 r d)
      = Ideal.div 1 (1 + Ideal.exp (0 - ∑ k : Fin 1024,
          normRow (fun e => k0_pay41 h y (ix2 r e)) (fun e => g (ix2 0 e)) k * w (ix2 k d))) := by
  unfold k0_pay42 normRow
  generalize k0_pay41 h y = h2
  pointwise

theorem pay43_apply (p : Vec Ideal S512x256 .f32) (r : Fin 512) (k : Fin 256) :
    k0_pay43 p (ix2 r k) = p (ix2 r k) := by
  pointwise [k0_pay43]

theorem pay1_apply (h z : FVec Ideal S512x1024 .f32) (p : FVec Ideal S512x256 .bf16) (w : Vec Ideal S256x1024 .bf16)
    (r : Fin 512) (d : Fin 1024) :
    k0_pay1 h z p w (ix2 r d) = h (ix2 r d) + (∑ k : Fin 256, p (ix2 r k) * w (ix2 k d)) * z (ix2 r d) := by
  pointwise [k0_pay1]

end Cert.PostValue

end
-- ==== Proof.PostConv.lean ====
/- The causal convolution of the block after the mixers: rows rolled by one and two places, their wrapped rows replaced by
   the rows carried from the tile before, and the activated product, read at an index. -/
module
public import proofs.«01_k».proof.Proof.PostPayload
@[expose] public section
set_option maxRecDepth 16384
noncomputable section
namespace Cert.PostValue
open Idealize.ShloMosaic Cert.PostIdeal Cert.PostIdeal.Gen

theorem cat6_apply (v0 v1 v2 v3 v4 v5 : FVec Ideal S512x256 .f32)
    (h : Shape.Concatenates [S512x256, S512x256, S512x256, S512x256, S512x256, S512x256] S512x1536 1)
    (g : Fin 512 → Fin 1536 → EReal)
    (h0 : ∀ r (c : Fin 256), v0 (ix2 r c) = g r ⟨0 + c.val, by omega⟩)
    (h1 : ∀ r (c : Fin 256), v1 (ix2 r c) = g r ⟨256 + c.val, by omega⟩)
    (h2 : ∀ r (c : Fin 256), v2 (ix2 r c) = g r ⟨512 + c.val, by omega⟩)
    (h3 : ∀ r (c : Fin 256), v3 (ix2 r c) = g r ⟨768 + c.val, by omega⟩)
    (h4 : ∀ r (c : Fin 256), v4 (ix2 r c) = g r ⟨1024 + c.val, by omega⟩)
    (h5 : ∀ r (c : Fin 256), v5 (ix2 r c) = g r ⟨1280 + c.val, by omega⟩) (r : Fin 512) (c : Fin 1536) :
    concatenate S512x1536 1 [⟨S512x256, v0⟩, ⟨S512x256, v1⟩, ⟨S512x256, v2⟩, ⟨S512x256, v3⟩, ⟨S512x256, v4⟩, ⟨S512x256, v5⟩] h
      (ix2 r c) = g r c := by
  pointwise
  simp only [h0, h1, h2, h3, h4, h5]
  split_ifs <;> (congr 1; apply Fin.ext; simp only []; omega)

theorem cat5_apply (v0 v1 v2 v3 v4 : FVec Ideal S512x256 .f32)
    (h : Shape.Concatenates [S512x256, S512x256, S512x256, S512x256, S512x256] S512x1280 1)
    (g : Fin 512 → Fin 1280 → EReal)
    (h0 : ∀ r (c : Fin 256), v0 (ix2 r c) = g r ⟨0 + c.val, by omega⟩)
    (h1 : ∀ r (c : Fin 256), v1 (ix2 r c) = g r ⟨256 + c.val, by omega⟩)
    (h2 : ∀ r (c : Fin 256), v2 (ix2 r c) = g r ⟨512 + c.val, by omega⟩)
    (h3 : ∀ r (c : Fin 256), v3 (ix2 r c) = g r ⟨768 + c.val, by omega⟩)
    (h4 : ∀ r (c : Fin 256), v4 (ix2 r c) = g r ⟨1024 + c.val, by omega⟩) (r : Fin 512) (c : Fin 1280) :
    concatenate S512x1280 1 [⟨S512x256, v0⟩, ⟨S512x256, v1⟩, ⟨S512x256, v2⟩, ⟨S512x256, v3⟩, ⟨S512x256, v4⟩] h
      (ix2 r c) = g r c := by
  pointwise
  simp only [h0, h1, h2, h3, h4]
  split_ifs <;> (congr 1; apply Fin.ext; simp only []; omega)

/-- One slice of 256 columns rolled down by `s` rows. -/
theorem roll6_apply (s : ℕ) (hs : s < 512) (o : ℕ) (a : FVec Ideal S512x1536 .f32)
    (h : S512x1536.Slices ![0, o] S512x256) (h' : S512x256.Rotates 0 none) (ho : ∀ c : Fin 256, o + c.val < 1536)
    (r : Fin 512) (c : Fin 256) :
    dynamicRotate 0 (BitVec.ofNat 32 s) none (extractStridedSlice S512x256 ![0, o] a h) h' (ix2 r c)
     = a (ix2 ⟨(r.val + 512 - s) % 512, Nat.mod_lt _ (by decide)⟩ ⟨o + c.val, ho c⟩) := by
  pointwise
  simp only [BitVec.toNat_ofNat, show s % 2 ^ 32 % 512 = s by omega]

theorem roll5_apply (s : ℕ) (hs : s < 512) (o : ℕ) (a : FVec Ideal S512x1280 .f32)
    (h : S512x1280.Slices ![0, o] S512x256) (h' : S512x256.Rotates 0 none) (ho : ∀ c : Fin 256, o + c.val < 1280)
    (r : Fin 512) (c : Fin 256) :
    dynamicRotate 0 (BitVec.ofNat 32 s) none (extractStridedSlice S512x256 ![0, o] a h) h' (ix2 r c)
     = a (ix2 ⟨(r.val + 512 - s) % 512, Nat.mod_lt _ (by decide)⟩ ⟨o + c.val, ho c⟩) := by
  pointwise
  simp only [BitVec.toNat_ofNat, show s % 2 ^ 32 % 512 = s by omega]

/-- The gate rolled down by one row, left half. -/
theorem pay15_apply (v25 : FVec Ideal S512x1024 .bf16) (w : Vec Ideal S1024x1536 .bf16) (r : Fin 512) (f : Fin 1536) :
    k0_pay15 v25 w (ix2 r f) = k0_pay5 v25 w (ix2 ⟨(r.val + 512 - 1) % 512, Nat.mod_lt _ (by decide)⟩ f) := by
  unfold k0_pay15
  exact cat6_apply (dynamicRotate 0 1#32 none (k0_pay9 v25 w) rotates_S512x256_d0)
    (dynamicRotate 0 1#32 none (k0_pay10 v25 w) rotates_S512x256_d0)
    (dynamicRotate 0 1#32 none (k0_pay11 v25 w) rotates_S512x256_d0)
    (dynamicRotate 0 1#32 none (k0_pay12 v25 w) rotates_S512x256_d0)
    (dynamicRotate 0 1#32 none (k0_pay13 v25 w) rotates_S512x256_d0)
    (dynamicRotate 0 1#32 none (k0_pay14 v25 w) rotates_S512x256_d0)
    concatenates_S512x256_S512x256_S512x256_S512x256_S512x256_S512x256_S512x1536_d1
    (fun r f => k0_pay5 v25 w (ix2 ⟨(r.val + 512 - 1) % 512, Nat.mod_lt _ (by decide)⟩ f))
    (fun r c => roll6_apply 1 (by decide) 0 (k0_pay5 v25 w) slices_S512x1536_o0_0_S512x256 rotates_S512x256_d0 (fun c => by omega) r c)
    (fun r c => roll6_apply 1 (by decide) 256 (k0_pay5 v25 w) slices_S512x1536_o0_256_S512x256 rotates_S512x256_d0 (fun c => by omega) r c)
    (fun r c => roll6_apply 1 (by decide) 512 (k0_pay5 v25 w) slices_S512x1536_o0_512_S512x256 rotates_S512x256_d0 (fun c => by omega) r c)
    (fun r c => roll6_apply 1 (by decide) 768 (k0_pay5 v25 w) slices_S512x1536_o0_768_S512x256 rotates_S512x256_d0 (fun c => by omega) r c)
    (fun r c => roll6_apply 1 (by decide) 1024 (k0_pay5 v25 w) slices_S512x1536_o0_1024_S512x256 rotates_S512x256_d0 (fun c => by omega) r c)
    (fun r c => roll6_apply 1 (by decide) 1280 (k0_pay5 v25 w) slices_S512x1536_o0_1280_S512x256 rotates_S512x256_d0 (fun c => by omega) r c) r f

/-- The gate rolled down by one row, right half. -/
theorem pay31_apply (a : FVec Ideal S512x1280 .f32) (r : Fin 512) (f : Fin 1280) :
    k0_pay31 a (ix2 r f) = a (ix2 ⟨(r.val + 512 - 1) % 512, Nat.mod_lt _ (by decide)⟩ f) := by
  unfold k0_pay31
  exact cat5_apply (dynamicRotate 0 1#32 none (k0_pay26 a) rotates_S512x256_d0)
    (dynamicRotate 0 1#32 none (k0_pay27 a) rotates_S512x256_d0)
    (dynamicRotate 0 1#32 none (k0_pay28 a) rotates_S512x256_d0)
    (dynamicRotate 0 1#32 none (k0_pay29 a) rotates_S512x256_d0)
    (dynamicRotate 0 1#32 none (k0_pay30 a) rotates_S512x256_d0)
    concatenates_S512x256_S512x256_S512x256_S512x256_S512x256_S512x1280_d1
    (fun r f => a (ix2 ⟨(r.val + 512 - 1) % 512, Nat.mod_lt _ (by decide)⟩ f))
    (fun r c => roll5_apply 1 (by decide) 0 a slices_S512x1280_o0_0_S512x256 rotates_S512x256_d0 (fun c => by omega) r c)
    (fun r c => roll5_apply 1 (by decide) 256 a slices_S512x1280_o0_256_S512x256 rotates_S512x256_d0 (fun c => by omega) r c)
    (fun r c => roll5_apply 1 (by decide) 512 a slices_S512x1280_o0_512_S512x256 rotates_S512x256_d0 (fun c => by omega) r c)
    (fun r c => roll5_apply 1 (by decide) 768 a slices_S512x1280_o0_768_S512x256 rotates_S512x256_d0 (fun c => by omega) r c)
    (fun r c => roll5_apply 1 (by decide) 1024 a slices_S512x1280_o0_1024_S512x256 rotates_S512x256_d0 (fun c => by omega) r c) r f

/-- The gate rolled down by two rows, right half. -/
theorem pay32_apply (a : FVec Ideal S512x1280 .f32) (r : Fin 512) (f : Fin 1280) :
    k0_pay32 a (ix2 r f) = a (ix2 ⟨(r.val + 512 - 2) % 512, Nat.mod_lt _ (by decide)⟩ f) := by
  unfold k0_pay32
  exact cat5_apply (dynamicRotate 0 2#32 none (k0_pay26 a) rotates_S512x256_d0)
    (dynamicRotate 0 2#32 none (k0_pay27 a) rotates_S512x256_d0)
    (dynamicRotate 0 2#32 none (k0_pay28 a) rotates_S512x256_d0)
    (dynamicRotate 0 2#32 none (k0_pay29 a) rotates_S512x256_d0)
    (dynamicRotate 0 2#32 none (k0_pay30 a) rotates_S512x256_d0)
    concatenates_S512x256_S512x256_S512x256_S512x256_S512x256_S512x1280_d1
    (fun r f => a (ix2 ⟨(r.val + 512 - 2) % 512, Nat.mod_lt _ (by decide)⟩ f))
    (fun r c => roll5_apply 2 (by decide) 0 a slices_S512x1280_o0_0_S512x256 rotates_S512x256_d0 (fun c => by omega) r c)
    (fun r c => roll5_apply 2 (by decide) 256 a slices_S512x1280_o0_256_S512x256 rotates_S512x256_d0 (fun c => by omega) r c)
    (fun r c => roll5_apply 2 (by decide) 512 a slices_S512x1280_o0_512_S512x256 rotates_S512x256_d0 (fun c => by omega) r c)
    (fun r c => roll5_apply 2 (by decide) 768 a slices_S512x1280_o0_768_S512x256 rotates_S512x256_d0 (fun c => by omega) r c)
    (fun r c => roll5_apply 2 (by decide) 1024 a slices_S512x1280_o0_1024_S512x256 rotates_S512x256_d0 (fun c => by omega) r c) r f

theorem sge_one : ∀ r : Fin 512, IntOp.cmpi .sge (BitVec.ofNat 32 r.val) 1#32 = if r.val = 0 then 0#1 else 1#1 := by
  decide +kernel
theorem sge_two : ∀ r : Fin 512, IntOp.cmpi .sge (BitVec.ofNat 32 r.val) 2#32 = if r.val < 2 then 0#1 else 1#1 := by
  decide +kernel
theorem eq_zero : ∀ r : Fin 512, IntOp.cmpi .eq (BitVec.ofNat 32 r.val) 0#32 = if r.val = 0 then 1#1 else 0#1 := by
  decide +kernel

/-- The gate one row before row `r` of a tile whose last eight rows before it are `prev`. -/
def back1 (a : Fin 512 → EReal) (prev : Fin 8 → EReal) (r : Fin 512) : EReal :=
  if r.val = 0 then prev 7 else a ⟨(r.val + 512 - 1) % 512, Nat.mod_lt _ (by decide)⟩

/-- The gate two rows before. -/
def back2 (a : Fin 512 → EReal) (prev : Fin 8 → EReal) (r : Fin 512) : EReal :=
  if r.val < 2 then (if r.val = 0 then prev 6 else prev 7) else a ⟨(r.val + 512 - 2) % 512, Nat.mod_lt _ (by decide)⟩

theorem sel1 (r : Fin 512) (x y : EReal) :
    Scalar.select (IntOp.cmpi .sge (BitVec.ofNat 32 r.val) 1#32) x y = if r.val = 0 then y else x := by
  rw [sge_one]; split_ifs <;> rfl
theorem sel2 (r : Fin 512) (x y : EReal) :
    Scalar.select (IntOp.cmpi .sge (BitVec.ofNat 32 r.val) 2#32) x y = if r.val < 2 then y else x := by
  rw [sge_two]; split_ifs <;> rfl
theorem sel0 (r : Fin 512) (x y : EReal) :
    Scalar.select (IntOp.cmpi .eq (BitVec.ofNat 32 r.val) 0#32) x y = if r.val = 0 then x else y := by
  rw [eq_zero]; split_ifs <;> rfl

theorem pay23_aux (v57 : FVec Ideal S512x256 .f32) (v64 : FVec Ideal S512x1536 .f32)
    (v65 v66 v67 v68 v69 : FVec Ideal S512x256 .f32) (v72 : Vec Ideal S8x1536 .f32) (b w0 w1 : Vec Ideal S1x1536 .f32)
    (it : IVec S512x1536 32) (hit : ∀ r f, it (ix2 r f) = BitVec.ofNat 32 r.val)
    (g : Fin 512 → Fin 1536 → EReal)
    (h0 : ∀ r (c : Fin 256), v65 (ix2 r c) = g r ⟨0 + c.val, by omega⟩)
    (h1 : ∀ r (c : Fin 256), v66 (ix2 r c) = g r ⟨256 + c.val, by omega⟩)
    (h2 : ∀ r (c : Fin 256), v67 (ix2 r c) = g r ⟨512 + c.val, by omega⟩)
    (h3 : ∀ r (c : Fin 256), v68 (ix2 r c) = g r ⟨768 + c.val, by omega⟩)
    (h4 : ∀ r (c : Fin 256), v69 (ix2 r c) = g r ⟨1024 + c.val, by omega⟩)
    (h5 : ∀ r (c : Fin 256), dynamicRotate 0 2#32 none v57 Cert.PostIdeal.Gen.facts.rotates_S512x256_d0 (ix2 r c) = g r ⟨1280 + c.val, by omega⟩)
    (r : Fin 512) (f : Fin 1536) :
    k0_pay23 it v57 v64 v65 v66 v67 v68 v69 v72 b w0 w1 (ix2 r f)
      = b (ix2 0 f) + w0 (ix2 0 f) * (if r.val < 2 then (if r.val = 0 then v72 (ix2 6 f) else v72 (ix2 7 f)) else g r f)
         + w1 (ix2 0 f) * (if r.val = 0 then v72 (ix2 7 f) else v64 (ix2 r f)) := by
  unfold k0_pay23
  have hc := cat6_apply v65 v66 v67 v68 v69 _ Cert.PostIdeal.Gen.facts.concatenates_S512x256_S512x256_S512x256_S512x256_S512x256_S512x256_S512x1536_d1 g h0 h1 h2 h3 h4 h5 r f
  generalize concatenate S512x1536 1 _ _ = v71 at hc ⊢
  pointwise
  simp only [hit, hc, sel0, sel1, sel2]

theorem pay23_apply (v25 : FVec Ideal S512x1024 .bf16) (w : Vec Ideal S1024x1536 .bf16) (v72 : Vec Ideal S8x1536 .f32)
   (b w0 w1 : Vec Ideal S1x1536 .f32) (it : IVec S512x1536 32) (hit : ∀ r f, it (ix2 r f) = BitVec.ofNat 32 r.val)
   (r : Fin 512) (f : Fin 1536) :
    k0_pay23 it (k0_pay14 v25 w) (k0_pay15 v25 w) (k0_pay16 v25 w) (k0_pay17 v25 w) (k0_pay18 v25 w)
     (k0_pay19 v25 w) (k0_pay20 v25 w) v72 b w0 w1 (ix2 r f) =
      b (ix2 0 f) + w0 (ix2 0 f) * back2 (fun r => k0_pay5 v25 w (ix2 r f)) (fun j => v72 (ix2 j f)) r
         + w1 (ix2 0 f) * back1 (fun r => k0_pay5 v25 w (ix2 r f)) (fun j => v72 (ix2 j f)) r := by
  rw [pay23_aux (k0_pay14 v25 w) (k0_pay15 v25 w) (k0_pay16 v25 w) (k0_pay17 v25 w) (k0_pay18 v25 w)
     (k0_pay19 v25 w) (k0_pay20 v25 w) v72 b w0 w1 it hit (fun r f => k0_pay5 v25 w (ix2 ⟨(r.val + 512 - 2) % 512, Nat.mod_lt _ (by decide)⟩ f))
    (fun r c => roll6_apply 2 (by decide) 0 (k0_pay5 v25 w) slices_S512x1536_o0_0_S512x256 rotates_S512x256_d0 (fun c => by omega) r c)
    (fun r c => roll6_apply 2 (by decide) 256 (k0_pay5 v25 w) slices_S512x1536_o0_256_S512x256 rotates_S512x256_d0 (fun c => by omega) r c)
    (fun r c => roll6_apply 2 (by decide) 512 (k0_pay5 v25 w) slices_S512x1536_o0_512_S512x256 rotates_S512x256_d0 (fun c => by omega) r c)
    (fun r c => roll6_apply 2 (by decide) 768 (k0_pay5 v25 w) slices_S512x1536_o0_768_S512x256 rotates_S512x256_d0 (fun c => by omega) r c)
    (fun r c => roll6_apply 2 (by decide) 1024 (k0_pay5 v25 w) slices_S512x1536_o0_1024_S512x256 rotates_S512x256_d0 (fun c => by omega) r c)
    (fun r c => roll6_apply 2 (by decide) 1280 (k0_pay5 v25 w) slices_S512x1536_o0_1280_S512x256 rotates_S512x256_d0 (fun c => by omega) r c), pay15_apply]
  rfl

/-- The left half's contribution to the down product. -/
theorem pay25_apply (c : FVec Ideal S512x1536 .f32) (v106 v109 : FVec Ideal S512x1536 .f32) (w : Vec Ideal S1536x1024 .bf16)
    (r : Fin 512) (d : Fin 1024) :
    k0_pay25 c v106 v109 w (ix2 r d) = ∑ f : Fin 1536,
      (Ideal.div (v106 (ix2 r f) + v109 (ix2 r f)) (1 + Ideal.exp (0 - (v106 (ix2 r f) + v109 (ix2 r f)))) * c (ix2 r f))
        * w (ix2 f d) := by
  pointwise [k0_pay25]

theorem pay24_apply (a : FVec Ideal S512x1536 .f32) (w2 : Vec Ideal S1x1536 .f32) (r : Fin 512) (f : Fin 1536) :
    k0_pay24 a w2 (ix2 r f) = w2 (ix2 0 f) * a (ix2 r f) := by
  pointwise [k0_pay24]

/-- The activated right half. -/
theorem pay39_apply (a c : FVec Ideal S512x1280 .f32) (it : IVec S512x1280 32)
    (hit : ∀ r f, it (ix2 r f) = BitVec.ofNat 32 r.val) (v143 : Vec Ideal S8x1280 .f32)
    (b w0 w1 w2 : Vec Ideal S1x1280 .f32) (r : Fin 512) (f : Fin 1280) :
    k0_pay39 a c it (k0_pay31 a) (k0_pay32 a) (k0_pay33 v143) (k0_pay34 v143) k0_pay35 (k0_pay36 v143) b w0 w1 w2 (ix2 r f)
      = ffnElt (b (ix2 0 f)) (w0 (ix2 0 f)) (w1 (ix2 0 f)) (w2 (ix2 0 f))
          (back2 (fun r => a (ix2 r f)) (fun j => v143 (ix2 j f)) r) (back1 (fun r => a (ix2 r f)) (fun j => v143 (ix2 j f)) r)
          (a (ix2 r f)) (c (ix2 r f)) := by
  have h1 := pay31_apply a r f
  have h2 := pay32_apply a r f
  unfold k0_pay39 k0_pay36 k0_pay35 k0_pay34 k0_pay33 ffnElt back1 back2
  generalize k0_pay31 a = a1 at h1 ⊢
  generalize k0_pay32 a = a2 at h2 ⊢
  pointwise
  simp only [hit, h1, h2, sel0, sel1, sel2]

end Cert.PostValue
end
-- ==== Proof.PostTile.lean ====
/- One tile of the block after the mixers (512 rows): what its body leaves in the two outputs and in the carried rows,
   row by row, as the mathematics of one row of the layer (`postRow`). -/
module

public import proofs.«01_k».proof.Proof.PostConv
public import proofs.«01_k».proof.Proof.Gen.PostIdeal.Value
public import Idealize.ShloMosaic.Lib.Pipeline.ValueKit
public import Idealize.ShloMosaic.Lib.Pipeline.ReadBack

@[expose] public section

set_option maxRecDepth 16384

noncomputable section

namespace Cert.PostValue

open Idealize.ShloMosaic Cert.PostIdeal Cert.PostIdeal.Gen Idealize.ShloMosaic.TcCoe Idealize.SL.Sem

/-- The weights of the block, as functions of their coordinates. -/
structure Weights where
  wo : Fin 1024 → Fin 1024 → EReal
  gffn : Fin 1024 → EReal
  wg : Fin 1024 → Fin 2816 → EReal
  wu : Fin 1024 → Fin 2816 → EReal
  cw : Fin 3 → Fin 2816 → EReal
  cb : Fin 2816 → EReal
  wd : Fin 2816 → Fin 1024 → EReal
  gple : Fin 1024 → EReal
  wpg : Fin 1024 → Fin 1024 → EReal
  wpp : Fin 256 → Fin 1024 → EReal

/-- The residual after the mixers: `x + [og, om] @ wo`, one row. -/
def hRow (W : Weights) (x : Fin 1024 → EReal) (og om : Fin 512 → EReal) (d : Fin 1024) : EReal :=
  x d + (∑ k : Fin 512, og k * W.wo ⟨k.val, by omega⟩ d) + ∑ k : Fin 512, om k * W.wo ⟨512 + k.val, by omega⟩ d

/-- One row of the gate (and, with the other matrix, of the up projection). -/
def projRow (g : Fin 1024 → EReal) (w : Fin 1024 → Fin 2816 → EReal) (h : Fin 1024 → EReal) (f : Fin 2816) : EReal :=
  ∑ k : Fin 1024, normRow h g k * w k f

/-- The residual after the feed-forward layer, one row; `a0`, `a1` the gate two rows and one row before. -/
def ffnRow (W : Weights) (h : Fin 1024 → EReal) (a0 a1 : Fin 2816 → EReal) (d : Fin 1024) : EReal :=
  h d + ∑ f : Fin 2816, ffnElt (W.cb f) (W.cw 0 f) (W.cw 1 f) (W.cw 2 f) (a0 f) (a1 f) (projRow W.gffn W.wg h f)
    (projRow W.gffn W.wu h f) * W.wd f d

/-- The gated per-layer embedding added, one row. -/
def pleRow (W : Weights) (h : Fin 1024 → EReal) (p : Fin 256 → EReal) (d : Fin 1024) : EReal :=
  h d + (∑ k : Fin 256, p k * W.wpp k d)
    * Ideal.div 1 (1 + Ideal.exp (0 - ∑ k : Fin 1024, normRow h W.gple k * W.wpg k d))

/-- One row of the block's result. -/
def postRow (W : Weights) (h : Fin 1024 → EReal) (a0 a1 : Fin 2816 → EReal) (p : Fin 256 → EReal) (d : Fin 1024) : EReal :=
  pleRow W (ffnRow W h a0 a1) p d

/-- A sum over the 2816 columns, the two halves apart. -/
theorem sum_cols (f : Fin 2816 → EReal) :
    ∑ i : Fin 2816, f i = (∑ i : Fin 1536, f ⟨i.val, by omega⟩) + ∑ i : Fin 1280, f ⟨1536 + i.val, by omega⟩ :=
  Fin.sum_univ_add (a := 1536) (b := 1280) f

/-! ## The stored values of a tile over its input blocks -/

section Tile

variable (x0 : Vec Ideal S512x1024 .f32) (x1 x2 : Vec Ideal S512x512 .bf16) (x3 : Vec Ideal S512x256 .f32)
  (x4 : Vec Ideal S1024x1024 .bf16) (x5 : Vec Ideal S1x1024 .f32) (x6 x7 : Vec Ideal S1024x2816 .bf16)
  (x8 : Vec Ideal S3x2816 .f32) (x9 : Vec Ideal S1x2816 .f32) (x10 : Vec Ideal S2816x1024 .bf16)
  (x11 : Vec Ideal S1x1024 .f32) (x12 : Vec Ideal S1024x1024 .bf16) (x13 : Vec Ideal S256x1024 .bf16)
  (prev : Vec Ideal S8x2816 .f32)

/-- The tile's weights, read off its input blocks. -/
def tW : Weights where
  wo := fun k d => x4 (ix2 k d)
  gffn := fun d => x5 (ix2 0 d)
  wg := fun k f => x6 (ix2 k f)
  wu := fun k f => x7 (ix2 k f)
  cw := fun j f => x8 (ix2 j f)
  cb := fun f => x9 (ix2 0 f)
  wd := fun f d => x10 (ix2 f d)
  gple := fun d => x11 (ix2 0 d)
  wpg := fun k d => x12 (ix2 k d)
  wpp := fun k d => x13 (ix2 k d)

/-- The tile's residual after the mixers. -/
def tH : FVec Ideal S512x1024 .f32 :=
  k0_pay2 x0 x1 (View.ld x4 (Rect.unit ![0, 0] ![512, 1024] inb_S1024x1024_S512x1024_0_0)) x2
    (View.ld x4 (Rect.unit ![512, 0] ![512, 1024] inb_S1024x1024_S512x1024_512_0))

/-- … normalized. -/
def tN : FVec Ideal S512x1024 .bf16 :=
  k0_pay3 x0 x1 (View.ld x4 (Rect.unit ![0, 0] ![512, 1024] inb_S1024x1024_S512x1024_0_0)) x2
    (View.ld x4 (Rect.unit ![512, 0] ![512, 1024] inb_S1024x1024_S512x1024_512_0)) x5

/-- The gate, left and right columns. -/
def tAL (n : FVec Ideal S512x1024 .bf16) : FVec Ideal S512x1536 .f32 :=
  k0_pay5 n (View.ld x6 (Rect.unit ![0, 0] ![1024, 1536] inb_S1024x2816_S1024x1536_0_0))
def tAR (n : FVec Ideal S512x1024 .bf16) : FVec Ideal S512x1280 .f32 :=
  k0_pay7 n (View.ld x6 (Rect.unit ![0, 1536] ![1024, 1280] inb_S1024x2816_S1024x1280_0_1536))

/-- The right columns after the activation. -/
def tActR (n : FVec Ideal S512x1024 .bf16) : FVec Ideal S512x1280 .bf16 :=
  k0_pay39 (tAR x6 n) (k0_pay8 n (View.ld x7 (Rect.unit ![0, 1536] ![1024, 1280] inb_S1024x2816_S1024x1280_0_1536)))
    (iota Kind.tc S512x1280 32 [0] iota_S512x1280_d0_w32) (k0_pay31 (tAR x6 n)) (k0_pay32 (tAR x6 n))
    (k0_pay33 (View.ld prev (Rect.unit ![0, 1536] ![8, 1280] inb_S8x2816_S8x1280_0_1536)))
    (k0_pay34 (View.ld prev (Rect.unit ![0, 1536] ![8, 1280] inb_S8x2816_S8x1280_0_1536))) k0_pay35
    (k0_pay36 (View.ld prev (Rect.unit ![0, 1536] ![8, 1280] inb_S8x2816_S8x1280_0_1536)))
    (View.ld x9 (Rect.unit ![0, 1536] ![1, 1280] inb_S1x2816_S1x1280_0_1536))
    (View.ld x8 (Rect.unit ![0, 1536] ![1, 1280] inb_S3x2816_S1x1280_0_1536))
    (View.ld x8 (Rect.unit ![1, 1536] ![1, 1280] inb_S3x2816_S1x1280_1_1536))
    (View.ld x8 (Rect.unit ![2, 1536] ![1, 1280] inb_S3x2816_S1x1280_2_1536))

/-- The left columns' share of the down projection. -/
def tDownL (n : FVec Ideal S512x1024 .bf16) : FVec Ideal S512x1024 .f32 :=
  k0_pay25 (k0_pay6 n (View.ld x7 (Rect.unit ![0, 0] ![1024, 1536] inb_S1024x2816_S1024x1536_0_0)))
    (k0_pay23 (iota Kind.tc S512x1536 32 [0] iota_S512x1536_d0_w32)
      (k0_pay14 n (View.ld x6 (Rect.unit ![0, 0] ![1024, 1536] inb_S1024x2816_S1024x1536_0_0)))
      (k0_pay15 n (View.ld x6 (Rect.unit ![0, 0] ![1024, 1536] inb_S1024x2816_S1024x1536_0_0)))
      (k0_pay16 n (View.ld x6 (Rect.unit ![0, 0] ![1024, 1536] inb_S1024x2816_S1024x1536_0_0)))
      (k0_pay17 n (View.ld x6 (Rect.unit ![0, 0] ![1024, 1536] inb_S1024x2816_S1024x1536_0_0)))
      (k0_pay18 n (View.ld x6 (Rect.unit ![0, 0] ![1024, 1536] inb_S1024x2816_S1024x1536_0_0)))
      (k0_pay19 n (View.ld x6 (Rect.unit ![0, 0] ![1024, 1536] inb_S1024x2816_S1024x1536_0_0)))
      (k0_pay20 n (View.ld x6 (Rect.unit ![0, 0] ![1024, 1536] inb_S1024x2816_S1024x1536_0_0)))
      (View.ld prev (Rect.unit ![0, 0] ![8, 1536] inb_S8x2816_S8x1536_0_0))
      (View.ld x9 (Rect.unit ![0, 0] ![1, 1536] inb_S1x2816_S1x1536_0_0))
      (View.ld x8 (Rect.unit ![0, 0] ![1, 1536] inb_S3x2816_S1x1536_0_0))
      (View.ld x8 (Rect.unit ![1, 0] ![1, 1536] inb_S3x2816_S1x1536_1_0)))
    (k0_pay24 (tAL x6 n) (View.ld x8 (Rect.unit ![2, 0] ![1, 1536] inb_S3x2816_S1x1536_2_0)))
    (View.ld x10 (Rect.unit ![0, 0] ![1536, 1024] inb_S2816x1024_S1536x1024_0_0))

/-- The down projection. -/
def tAcc (n : FVec Ideal S512x1024 .bf16) : FVec Ideal S512x1024 .f32 :=
  k0_pay40 (tActR x6 x7 x8 x9 prev n)
    (View.ld x10 (Rect.unit ![1536, 0] ![1280, 1024] inb_S2816x1024_S1280x1024_1536_0))
    (tDownL x6 x7 x8 x9 x10 prev n)

/-- The tile of the result. -/
def tOut : FVec Ideal S512x1024 .f32 :=
  k0_pay1 (k0_pay41 (tH x0 x1 x2 x4) (tAcc x6 x7 x8 x9 x10 prev (tN x0 x1 x2 x4 x5)))
    (k0_pay42 (tH x0 x1 x2 x4) (tAcc x6 x7 x8 x9 x10 prev (tN x0 x1 x2 x4 x5)) x11 x12) (k0_pay43 x3) x13

/-- A row of the tile's residual. -/
def tRow (r : Fin 512) : Fin 1024 → EReal :=
  hRow (tW x4 x5 x6 x7 x8 x9 x10 x11 x12 x13) (fun d => x0 (ix2 r d)) (fun k => x1 (ix2 r k)) (fun k => x2 (ix2 r k))

/-- A row of the tile's gate. -/
def tGate (r : Fin 512) : Fin 2816 → EReal :=
  projRow (tW x4 x5 x6 x7 x8 x9 x10 x11 x12 x13).gffn (tW x4 x5 x6 x7 x8 x9 x10 x11 x12 x13).wg
    (tRow x0 x1 x2 x4 x5 x6 x7 x8 x9 x10 x11 x12 x13 r)

theorem tH_apply (r : Fin 512) (d : Fin 1024) :
    tH x0 x1 x2 x4 (ix2 r d) = tRow x0 x1 x2 x4 x5 x6 x7 x8 x9 x10 x11 x12 x13 r d := by
  unfold tH tRow hRow tW
  rw [pay2_apply]
  pointwise

theorem tN_apply (r : Fin 512) (d : Fin 1024) :
    tN x0 x1 x2 x4 x5 (ix2 r d)
      = normRow (tRow x0 x1 x2 x4 x5 x6 x7 x8 x9 x10 x11 x12 x13 r) (tW x4 x5 x6 x7 x8 x9 x10 x11 x12 x13).gffn d := by
  unfold tN
  rw [pay3_apply]
  have h : ∀ e, k0_pay2 x0 x1 (View.ld x4 (Rect.unit ![0, 0] ![512, 1024] inb_S1024x1024_S512x1024_0_0)) x2
    (View.ld x4 (Rect.unit ![512, 0] ![512, 1024] inb_S1024x1024_S512x1024_512_0)) (ix2 r e) = _ :=
    fun e => tH_apply x0 x1 x2 x4 x5 x6 x7 x8 x9 x10 x11 x12 x13 r e
  simp only [h]
  rfl

theorem tAL_apply (r : Fin 512) (f : Fin 1536) :
    tAL x6 (tN x0 x1 x2 x4 x5) (ix2 r f) = tGate x0 x1 x2 x4 x5 x6 x7 x8 x9 x10 x11 x12 x13 r ⟨f.val, by omega⟩ := by
  unfold tAL tGate projRow
  rw [pay5_apply]
  simp only [tN_apply x0 x1 x2 x4 x5 x6 x7 x8 x9 x10 x11 x12 x13]
  refine Finset.sum_congr rfl fun k _ => congrArg _ ?_
  unfold tW
  pointwise

theorem tAR_apply (r : Fin 512) (f : Fin 1280) :
    tAR x6 (tN x0 x1 x2 x4 x5) (ix2 r f)
      = tGate x0 x1 x2 x4 x5 x6 x7 x8 x9 x10 x11 x12 x13 r ⟨1536 + f.val, by omega⟩ := by
  unfold tAR tGate projRow
  rw [pay7_apply]
  simp only [tN_apply x0 x1 x2 x4 x5 x6 x7 x8 x9 x10 x11 x12 x13]
  refine Finset.sum_congr rfl fun k _ => congrArg _ ?_
  unfold tW
  pointwise

theorem tCL_apply (r : Fin 512) (f : Fin 1536) :
    k0_pay6 (tN x0 x1 x2 x4 x5) (View.ld x7 (Rect.unit ![0, 0] ![1024, 1536] inb_S1024x2816_S1024x1536_0_0)) (ix2 r f)
      = projRow (tW x4 x5 x6 x7 x8 x9 x10 x11 x12 x13).gffn (tW x4 x5 x6 x7 x8 x9 x10 x11 x12 x13).wu
        (tRow x0 x1 x2 x4 x5 x6 x7 x8 x9 x10 x11 x12 x13 r) ⟨f.val, by omega⟩ := by
  unfold projRow
  rw [pay6_apply]
  simp only [tN_apply x0 x1 x2 x4 x5 x6 x7 x8 x9 x10 x11 x12 x13]
  refine Finset.sum_congr rfl fun k _ => congrArg _ ?_
  unfold tW
  pointwise

theorem tCR_apply (r : Fin 512) (f : Fin 1280) :
    k0_pay8 (tN x0 x1 x2 x4 x5) (View.ld x7 (Rect.unit ![0, 1536] ![1024, 1280] inb_S1024x2816_S1024x1280_0_1536)) (ix2 r f)
      = projRow (tW x4 x5 x6 x7 x8 x9 x10 x11 x12 x13).gffn (tW x4 x5 x6 x7 x8 x9 x10 x11 x12 x13).wu
        (tRow x0 x1 x2 x4 x5 x6 x7 x8 x9 x10 x11 x12 x13 r) ⟨1536 + f.val, by omega⟩ := by
  unfold projRow
  rw [pay8_apply]
  simp only [tN_apply x0 x1 x2 x4 x5 x6 x7 x8 x9 x10 x11 x12 x13]
  refine Finset.sum_congr rfl fun k _ => congrArg _ ?_
  unfold tW
  pointwise

/-- An element after the activation. -/
def tElt (r : Fin 512) (f : Fin 2816) : EReal :=
  ffnElt (x9 (ix2 0 f)) (x8 (ix2 0 f)) (x8 (ix2 1 f)) (x8 (ix2 2 f))
    (back2 (fun r => tGate x0 x1 x2 x4 x5 x6 x7 x8 x9 x10 x11 x12 x13 r f) (fun j => prev (ix2 j f)) r)
    (back1 (fun r => tGate x0 x1 x2 x4 x5 x6 x7 x8 x9 x10 x11 x12 x13 r f) (fun j => prev (ix2 j f)) r)
    (tGate x0 x1 x2 x4 x5 x6 x7 x8 x9 x10 x11 x12 x13 r f)
    (projRow (tW x4 x5 x6 x7 x8 x9 x10 x11 x12 x13).gffn (tW x4 x5 x6 x7 x8 x9 x10 x11 x12 x13).wu
      (tRow x0 x1 x2 x4 x5 x6 x7 x8 x9 x10 x11 x12 x13 r) f)

theorem ld_prevL (j : Fin 8) (f : Fin 1536) :
    View.ld prev (Rect.unit ![0, 0] ![8, 1536] inb_S8x2816_S8x1536_0_0) (ix2 j f) = prev (ix2 j ⟨f.val, by omega⟩) := by
  pointwise

theorem ld_prevR (j : Fin 8) (f : Fin 1280) :
    View.ld prev (Rect.unit ![0, 1536] ![8, 1280] inb_S8x2816_S8x1280_0_1536) (ix2 j f)
      = prev (ix2 j ⟨1536 + f.val, by omega⟩) := by
  pointwise

theorem tActR_apply (r : Fin 512) (f : Fin 1280) :
    tActR x6 x7 x8 x9 prev (tN x0 x1 x2 x4 x5) (ix2 r f)
      = tElt x0 x1 x2 x4 x5 x6 x7 x8 x9 x10 x11 x12 x13 prev r ⟨1536 + f.val, by omega⟩ := by
  unfold tActR
  rw [pay39_apply _ _ _ (fun r f => by pointwise)]
  simp only [tAR_apply x0 x1 x2 x4 x5 x6 x7 x8 x9 x10 x11 x12 x13, tCR_apply x0 x1 x2 x4 x5 x6 x7 x8 x9 x10 x11 x12 x13,
    ld_prevR]
  unfold tElt
  congr 1 <;> pointwise

theorem tDownL_apply (r : Fin 512) (d : Fin 1024) :
    tDownL x6 x7 x8 x9 x10 prev (tN x0 x1 x2 x4 x5) (ix2 r d)
      = ∑ f : Fin 1536, tElt x0 x1 x2 x4 x5 x6 x7 x8 x9 x10 x11 x12 x13 prev r ⟨f.val, by omega⟩
          * x10 (ix2 ⟨f.val, by omega⟩ d) := by
  have hA : ∀ r f, k0_pay5 (tN x0 x1 x2 x4 x5)
      (View.ld x6 (Rect.unit ![0, 0] ![1024, 1536] inb_S1024x2816_S1024x1536_0_0)) (ix2 r f) = _ :=
    tAL_apply x0 x1 x2 x4 x5 x6 x7 x8 x9 x10 x11 x12 x13
  have hp := ld_prevL prev
  unfold tDownL
  generalize View.ld prev (Rect.unit ![0, 0] ![8, 1536] inb_S8x2816_S8x1536_0_0) = v72 at hp ⊢
  rw [pay25_apply]
  refine Finset.sum_congr rfl fun f _ => ?_
  rw [pay23_apply _ _ _ _ _ _ _ (fun r f => by pointwise), pay24_apply, tCL_apply x0 x1 x2 x4 x5 x6 x7 x8 x9 x10 x11 x12 x13]
  simp only [tAL_apply x0 x1 x2 x4 x5 x6 x7 x8 x9 x10 x11 x12 x13, hA, hp]
  have hb : View.ld x9 (Rect.unit ![0, 0] ![1, 1536] inb_S1x2816_S1x1536_0_0) (ix2 0 f) = x9 (ix2 0 ⟨f.val, by omega⟩) := by
    pointwise
  have h0 : View.ld x8 (Rect.unit ![0, 0] ![1, 1536] inb_S3x2816_S1x1536_0_0) (ix2 0 f) = x8 (ix2 0 ⟨f.val, by omega⟩) := by
    pointwise
  have h1 : View.ld x8 (Rect.unit ![1, 0] ![1, 1536] inb_S3x2816_S1x1536_1_0) (ix2 0 f) = x8 (ix2 1 ⟨f.val, by omega⟩) := by
    pointwise
  have h2 : View.ld x8 (Rect.unit ![2, 0] ![1, 1536] inb_S3x2816_S1x1536_2_0) (ix2 0 f) = x8 (ix2 2 ⟨f.val, by omega⟩) := by
    pointwise
  have hw : View.ld x10 (Rect.unit ![0, 0] ![1536, 1024] inb_S2816x1024_S1536x1024_0_0) (ix2 f d)
      = x10 (ix2 ⟨f.val, by omega⟩ d) := by
    pointwise
  rw [hb, h0, h1, h2, hw]
  rfl

theorem tAcc_apply (r : Fin 512) (d : Fin 1024) :
    tAcc x6 x7 x8 x9 x10 prev (tN x0 x1 x2 x4 x5) (ix2 r d)
      = ∑ f : Fin 2816, tElt x0 x1 x2 x4 x5 x6 x7 x8 x9 x10 x11 x12 x13 prev r f * x10 (ix2 f d) := by
  have hw : ∀ f : Fin 1280, View.ld x10 (Rect.unit ![1536, 0] ![1280, 1024] inb_S2816x1024_S1280x1024_1536_0) (ix2 f d)
      = x10 (ix2 ⟨1536 + f.val, by omega⟩ d) := fun f => by
    pointwise
  unfold tAcc
  rw [pay40_apply, sum_cols, tDownL_apply x0 x1 x2 x4 x5 x6 x7 x8 x9 x10 x11 x12 x13]
  simp only [hw, tActR_apply x0 x1 x2 x4 x5 x6 x7 x8 x9 x10 x11 x12 x13]

/-- THE TILE, row by row. -/
theorem tOut_apply (r : Fin 512) (d : Fin 1024) :
    tOut x0 x1 x2 x3 x4 x5 x6 x7 x8 x9 x10 x11 x12 x13 prev (ix2 r d)
      = postRow (tW x4 x5 x6 x7 x8 x9 x10 x11 x12 x13) (tRow x0 x1 x2 x4 x5 x6 x7 x8 x9 x10 x11 x12 x13 r)
        (fun f => back2 (fun r => tGate x0 x1 x2 x4 x5 x6 x7 x8 x9 x10 x11 x12 x13 r f) (fun j => prev (ix2 j f)) r)
        (fun f => back1 (fun r => tGate x0 x1 x2 x4 x5 x6 x7 x8 x9 x10 x11 x12 x13 r f) (fun j => prev (ix2 j f)) r)
        (fun k => x3 (ix2 r k)) d := by
  unfold tOut
  rw [pay1_apply, pay42_apply]
  simp only [pay41_apply, pay43_apply, tH_apply x0 x1 x2 x4 x5 x6 x7 x8 x9 x10 x11 x12 x13,
    tAcc_apply x0 x1 x2 x4 x5 x6 x7 x8 x9 x10 x11 x12 x13]
  rfl

/-- Two stores of eight rows, left and right columns, over anything: read at an index. -/
theorem canon_halves (P : Vec Ideal S8x1280 .f32) (Q : Vec Ideal S8x1536 .f32)
    (L : List (View.Piece (Elt Ideal) S8x2816 .f32)) (g : Fin 8 → Fin 2816 → EReal)
    (hQ : ∀ j (f : Fin 1536), Q (ix2 j f) = g j ⟨f.val, by omega⟩)
    (hP : ∀ j (f : Fin 1280), P (ix2 j f) = g j ⟨1536 + f.val, by omega⟩) (j : Fin 8) (f : Fin 2816) :
    View.canon (⟨Rect.unit ![0, 1536] ![8, 1280] inb_S8x2816_S8x1280_0_1536, P⟩
      :: ⟨Rect.unit ![0, 0] ![8, 1536] inb_S8x2816_S8x1536_0_0, Q⟩ :: L) (ix2 j f) = g j f := by
  by_cases hf : f.val < 1536
  · have e : (ix2 j f : S8x2816.Idx)
        = (Rect.unit (s := S8x2816) ![0, 0] ![8, 1536] inb_S8x2816_S8x1536_0_0).emb (ix2 j ⟨f.val, hf⟩) := by
      refine Shape.idx_ext₂ ?_ ?_
      · show j.val = 0 + 1 * j.val; omega
      · show f.val = 0 + 1 * f.val; omega
    rw [View.canon_cons_of_not_mem, e, View.canon_cons_emb]
    · exact hQ j ⟨f.val, hf⟩
    · intro h
      have h1 : 1536 ≤ f.val := ((Rect.mem_set_unit (inb := inb_S8x2816_S8x1280_0_1536)).1 h 1).1
      omega
  · have e : (ix2 j f : S8x2816.Idx)
        = (Rect.unit (s := S8x2816) ![0, 1536] ![8, 1280] inb_S8x2816_S8x1280_0_1536).emb (ix2 j ⟨f.val - 1536, by omega⟩) := by
      refine Shape.idx_ext₂ ?_ ?_
      · show j.val = 0 + 1 * j.val; omega
      · show f.val = 1536 + 1 * (f.val - 1536); omega
    rw [e, View.canon_cons_emb]
    exact (hP j _).trans (congrArg (g j) (Fin.ext (by show 1536 + (f.val - 1536) = f.val; omega)))

end Tile

/-! ## What the points leave -/

variable (m : (ℓ : Loc nD τ sig) → Buf (Elt Ideal) ℓ)

/-- The tile of point `t` over the carried rows `prev`. -/
def ptOut (c : Dev nD) (t : Fin cfg0.N) (prev : Vec Ideal S8x2816 .f32) : FVec Ideal S512x1024 .f32 :=
  tOut (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) prev

/-- The gate rows of point `t`. -/
def ptGate (c : Dev nD) (t : Fin cfg0.N) : Fin 512 → Fin 2816 → EReal :=
  tGate (iblk m c 0 t) (iblk m c 1 t) (iblk m c 2 t) (iblk m c 4 t) (iblk m c 5 t) (iblk m c 6 t)
    (iblk m c 7 t) (iblk m c 8 t) (iblk m c 9 t) (iblk m c 10 t) (iblk m c 11 t) (iblk m c 12 t) (iblk m c 13 t)

theorem out14_A (c : Dev nD) (t : Fin cfg0.N) (h : t.val % 4 = 0) :
    (outsAt0 m c t.val t.isLt).1 = ptOut m c t (k0_pay4 (F := Ideal)) := by
  rw [outsAt0_A m c t h]
  frame_open
  simp (disch := decide) only [↓ View.readCov_skip, ↓ View.readCov_cons_toLoadRect, ↓ View.readCov_fill]
  frame_out
  rfl

theorem out14_B (c : Dev nD) (t : Fin cfg0.N) (h : ¬ t.val % 4 = 0) :
    (outsAt0 m c t.val t.isLt).1
      = ptOut m c t (outsAt0 m c (t.val - 1) (Nat.lt_of_le_of_lt (Nat.sub_le _ _) t.isLt)).2.2 := by
  rw [outsAt0_B m c t h]
  frame_open
  simp (disch := decide) only [↓ View.readCov_skip, ↓ View.readCov_cons_toLoadRect, ↓ View.readCov_fill]
  frame_out
  simp only [read_unread_whole]
  rfl

/-- The gate's last rows, as they are carried. -/
theorem carry (c : Dev nD) (t : Fin cfg0.N) (j : Fin 8) (f : Fin 2816) :
    (outsAt0 m c t.val t.isLt).2.2 (ix2 j f) = ptGate m c t ⟨504 + j.val, by omega⟩ f := by
  by_cases h : t.val % 4 = 0
  · rw [outsAt0_A m c t h]
    frame_open
    simp (disch := decide) only [↓ View.readCov_skip, ↓ View.readCov_cons_toLoadRect, ↓ View.readCov_fill]
    frame_out
    exact canon_halves _ _ _ (fun j f => ptGate m c t ⟨504 + j.val, by omega⟩ f)
      (fun j f => (pay21_apply _ j f).trans (tAL_apply _ _ _ _ _ _ _ _ _ _ _ _ _ _ _))
      (fun j f => (pay37_apply _ j f).trans (tAR_apply _ _ _ _ _ _ _ _ _ _ _ _ _ _ _)) j f
  · rw [outsAt0_B m c t h]
    frame_open
    simp (disch := decide) only [↓ View.readCov_skip, ↓ View.readCov_cons_toLoadRect, ↓ View.readCov_fill]
    frame_out
    exact canon_halves _ _ _ (fun j f => ptGate m c t ⟨504 + j.val, by omega⟩ f)
      (fun j f => (pay21_apply _ j f).trans (tAL_apply _ _ _ _ _ _ _ _ _ _ _ _ _ _ _))
      (fun j f => (pay37_apply _ j f).trans (tAR_apply _ _ _ _ _ _ _ _ _ _ _ _ _ _ _)) j f

/-- … and as they are written to the second output. -/
theorem out15 (c : Dev nD) (t : Fin cfg0.N) (j : Fin 8) (f : Fin 2816) :
    (outsAt0 m c t.val t.isLt).2.1 (ix2 j f) = ptGate m c t ⟨504 + j.val, by omega⟩ f := by
  by_cases h : t.val % 4 = 0
  · rw [outsAt0_A m c t h]
    frame_open
    simp (disch := decide) only [↓ View.readCov_skip, ↓ View.readCov_cons_toLoadRect, ↓ View.readCov_fill]
    frame_out
    exact canon_halves _ _ _ (fun j f => ptGate m c t ⟨504 + j.val, by omega⟩ f)
      (fun j f => (pay22_apply _ j f).trans (tAL_apply _ _ _ _ _ _ _ _ _ _ _ _ _ _ _))
      (fun j f => (pay38_apply _ j f).trans (tAR_apply _ _ _ _ _ _ _ _ _ _ _ _ _ _ _)) j f
  · rw [outsAt0_B m c t h]
    frame_open
    simp (disch := decide) only [↓ View.readCov_skip, ↓ View.readCov_cons_toLoadRect, ↓ View.readCov_fill]
    frame_out
    exact canon_halves _ _ _ (fun j f => ptGate m c t ⟨504 + j.val, by omega⟩ f)
      (fun j f => (pay22_apply _ j f).trans (tAL_apply _ _ _ _ _ _ _ _ _ _ _ _ _ _ _))
      (fun j f => (pay38_apply _ j f).trans (tAR_apply _ _ _ _ _ _ _ _ _ _ _ _ _ _ _)) j f

end Cert.PostValue

end
-- ==== Proof.PostRef.lean ====
/- The reference of the block after the mixers, read at an index: the same row mathematics as the kernel's. -/
module

public import proofs.«01_k».proof.Proof.PostTile
public import proofs.«01_k».proof.Proof.Gen.PostRefIdeal.Read

@[expose] public section

set_option maxRecDepth 16384

noncomputable section

namespace Cert.PostRefValue

open Idealize.ShloMosaic Cert.PostRefIdeal Cert.PostRefIdeal.Gen Cert.PostRefIdeal.Value Cert.PostRefIdeal.Read Cert.PostValue

/-- `1 + exp y` is never zero. -/
theorem one_add_exp_ne (y : EReal) : 1 + Ideal.exp y ≠ 0 := by
  have h : 0 ≤ Ideal.exp y := by
    induction y with
    | bot => exact le_refl _
    | top => exact le_top
    | coe r => exact EReal.coe_nonneg.2 (Real.exp_pos r).le
  have h1 : (0 : EReal) < 1 := zero_lt_one
  exact (lt_of_lt_of_le h1 (le_add_of_nonneg_right h)).ne'

/-- A quotient by `1 + exp y` is the product with its reciprocal. -/
theorem div_one_add (s y : EReal) : Ideal.div s (1 + Ideal.exp y) = s * Ideal.div 1 (1 + Ideal.exp y) := by
  unfold Ideal.div
  rw [if_neg (one_add_exp_ne y), if_neg (one_add_exp_ne y), one_mul]

section

variable (x0 : (⟨S16384x1024, .f32⟩ : BufTy).Contents (Elt Ideal)) (x1 x2 : (⟨S16384x512, .bf16⟩ : BufTy).Contents (Elt Ideal))
  (x3 : (⟨S16384x256, .f32⟩ : BufTy).Contents (Elt Ideal)) (x4 : (⟨S1024x1024, .f32⟩ : BufTy).Contents (Elt Ideal))
  (x5 : (⟨S1024, .f32⟩ : BufTy).Contents (Elt Ideal)) (x6 x7 : (⟨S1024x2816, .f32⟩ : BufTy).Contents (Elt Ideal))
  (x8 : (⟨S3x2816, .f32⟩ : BufTy).Contents (Elt Ideal)) (x9 : (⟨S2816, .f32⟩ : BufTy).Contents (Elt Ideal))
  (x10 : (⟨S2816x1024, .f32⟩ : BufTy).Contents (Elt Ideal)) (x11 : (⟨S1024, .f32⟩ : BufTy).Contents (Elt Ideal))
  (x12 : (⟨S1024x1024, .f32⟩ : BufTy).Contents (Elt Ideal)) (x13 : (⟨S256x1024, .f32⟩ : BufTy).Contents (Elt Ideal))

/-- The weights among the arguments. -/
def refW : Weights where
  wo := fun k d => x4 (ix2 k d)
  gffn := fun d => x5 (ix1 d)
  wg := fun k f => x6 (ix2 k f)
  wu := fun k f => x7 (ix2 k f)
  cw := fun j f => x8 (ix2 j f)
  cb := fun f => x9 (ix1 f)
  wd := fun f d => x10 (ix2 f d)
  gple := fun d => x11 (ix1 d)
  wpg := fun k d => x12 (ix2 k d)
  wpp := fun k d => x13 (ix2 k d)

/-- Row `s` of sequence `b` among all rows. -/
abbrev row (b : Fin 8) (s : Fin 2048) : Fin 16384 := ⟨b.val * 2048 + s.val, by omega⟩

def rRow (b : Fin 8) (s : Fin 2048) : Fin 1024 → EReal :=
  hRow (refW x4 x5 x6 x7 x8 x9 x10 x11 x12 x13) (fun d => x0 (ix2 (row b s) d)) (fun k => x1 (ix2 (row b s) k))
    (fun k => x2 (ix2 (row b s) k))

theorem sum_halves (f : Fin 1024 → EReal) :
    ∑ i : Fin 1024, f i = (∑ i : Fin 512, f ⟨i.val, by omega⟩) + ∑ i : Fin 512, f ⟨512 + i.val, by omega⟩ :=
  Fin.sum_univ_add (a := 512) (b := 512) f

theorem v0_ix (b : Fin 8) (s : Fin 2048) (d : Fin 1024) : val_main_v0 (F := Ideal) x0 (ix3 b s d) = x0 (ix2 (row b s) d) := by
  unfold val_main_v0
  pointwise

theorem v5_ixL (b : Fin 8) (s : Fin 2048) (k : Fin 512) :
    val_main_v5 (F := Ideal) x1 x2 (ix3 b s ⟨k.val, by omega⟩) = x1 (ix2 (row b s) k) := by
  unfold val_main_v5 val_main_v4 val_main_v3 val_main_v2 val_main_v1
  pointwise

theorem v5_ixR (b : Fin 8) (s : Fin 2048) (k : Fin 512) :
    val_main_v5 (F := Ideal) x1 x2 (ix3 b s ⟨512 + k.val, by omega⟩) = x2 (ix2 (row b s) k) := by
  unfold val_main_v5 val_main_v4 val_main_v3 val_main_v2 val_main_v1
  pointwise

theorem v7_ix (b : Fin 8) (s : Fin 2048) (d : Fin 1024) :
    val_main_v7 (F := Ideal) x0 x1 x2 x4 (ix3 b s d) = rRow x0 x1 x2 x4 x5 x6 x7 x8 x9 x10 x11 x12 x13 b s d := by
  have hL := v5_ixL x1 x2 b s
  have hR := v5_ixR x1 x2 b s
  have h0 := v0_ix x0 b s d
  unfold val_main_v7 val_main_v6
  generalize val_main_v5 (F := Ideal) x1 x2 = v5 at hL hR ⊢
  generalize val_main_v0 (F := Ideal) x0 = v0 at h0 ⊢
  pointwise
  rw [sum_halves]
  simp only [hL, hR, h0]
  unfold rRow hRow refW
  rw [add_assoc]

theorem v21_ix (b : Fin 8) (s : Fin 2048) (d : Fin 1024) :
    val_main_v21 (F := Ideal) x0 x1 x2 x4 x5 (ix3 b s d)
      = normRow (rRow x0 x1 x2 x4 x5 x6 x7 x8 x9 x10 x11 x12 x13 b s) (refW x4 x5 x6 x7 x8 x9 x10 x11 x12 x13).gffn d := by
  have h := v7_ix x0 x1 x2 x4 x5 x6 x7 x8 x9 x10 x11 x12 x13 b s
  unfold val_main_v21 val_main_v20 val_main_v19 val_main_v18 val_main_v17 val_main_v16 val_main_v15 val_main_v14 val_main_v13
    val_main_v12 val_main_v11 val_main_v10 val_main_v9 val_main_cst_0 val_main_cst_1 val_main_cst_2
  generalize val_main_v7 (F := Ideal) x0 x1 x2 x4 = v7 at h ⊢
  pointwise
  simp only [h]
  rfl

theorem v22_ix (b : Fin 8) (s : Fin 2048) (f : Fin 2816) :
    val_main_v22 (F := Ideal) x0 x1 x2 x4 x5 x6 (ix3 b s f)
      = projRow (refW x4 x5 x6 x7 x8 x9 x10 x11 x12 x13).gffn (refW x4 x5 x6 x7 x8 x9 x10 x11 x12 x13).wg
        (rRow x0 x1 x2 x4 x5 x6 x7 x8 x9 x10 x11 x12 x13 b s) f := by
  have h := v21_ix x0 x1 x2 x4 x5 x6 x7 x8 x9 x10 x11 x12 x13 b s
  unfold val_main_v22
  generalize val_main_v21 (F := Ideal) x0 x1 x2 x4 x5 = v at h ⊢
  pointwise
  simp only [h]
  rfl

theorem v23_ix (b : Fin 8) (s : Fin 2048) (f : Fin 2816) :
    val_main_v23 (F := Ideal) x0 x1 x2 x4 x5 x7 (ix3 b s f)
      = projRow (refW x4 x5 x6 x7 x8 x9 x10 x11 x12 x13).gffn (refW x4 x5 x6 x7 x8 x9 x10 x11 x12 x13).wu
        (rRow x0 x1 x2 x4 x5 x6 x7 x8 x9 x10 x11 x12 x13 b s) f := by
  have h := v21_ix x0 x1 x2 x4 x5 x6 x7 x8 x9 x10 x11 x12 x13 b s
  unfold val_main_v23
  generalize val_main_v21 (F := Ideal) x0 x1 x2 x4 x5 = v at h ⊢
  pointwise
  simp only [h]
  rfl

/-- The gate `j` rows before row `s`, zero before the sequence. -/
def rGate (b : Fin 8) (s : Fin 2048) (j : ℕ) (f : Fin 2816) : EReal :=
  if s.val < j then 0 else val_main_v22 (F := Ideal) x0 x1 x2 x4 x5 x6 (ix3 b ⟨s.val - j, by omega⟩ f)

/-- The gate after its history of two rows of zeros. -/
theorem v24_ix (b : Fin 8) (s : Fin 2050) (f : Fin 2816) :
    val_main_v24 (F := Ideal) x0 x1 x2 x4 x5 x6 (ix3 b s f)
      = if h : s.val < 2 then 0 else val_main_v22 (F := Ideal) x0 x1 x2 x4 x5 x6 (ix3 b ⟨s.val - 2, by omega⟩ f) := by
  unfold val_main_v24 val_main_v8 val_main_cst
  generalize val_main_v22 (F := Ideal) x0 x1 x2 x4 x5 x6 = v
  pointwise

theorem v51_ix (b : Fin 8) (s : Fin 2048) (f : Fin 2816) :
    val_main_v51 (F := Ideal) x0 x1 x2 x4 x5 x6 x7 x8 x9 (ix3 b s f)
      = ffnElt (x9 (ix1 f)) (x8 (ix2 0 f)) (x8 (ix2 1 f)) (x8 (ix2 2 f)) (rGate x0 x1 x2 x4 x5 x6 b s 2 f)
        (rGate x0 x1 x2 x4 x5 x6 b s 1 f) (val_main_v22 (F := Ideal) x0 x1 x2 x4 x5 x6 (ix3 b s f))
        (val_main_v23 (F := Ideal) x0 x1 x2 x4 x5 x7 (ix3 b s f)) := by
  have h := v24_ix x0 x1 x2 x4 x5 x6 b
  have h2 : val_main_v24 (F := Ideal) x0 x1 x2 x4 x5 x6 (ix3 b ⟨s.val, by omega⟩ f) = rGate x0 x1 x2 x4 x5 x6 b s 2 f := by
    rw [h]; rfl
  have h1 : val_main_v24 (F := Ideal) x0 x1 x2 x4 x5 x6 (ix3 b ⟨1 + s.val, by omega⟩ f) = rGate x0 x1 x2 x4 x5 x6 b s 1 f := by
    rw [h]
    unfold rGate
    have e : ∀ (s' s'' : ℕ) (h' : s' < 2048) (h'' : s'' < 2048), s' = s'' →
        val_main_v22 (F := Ideal) x0 x1 x2 x4 x5 x6 (ix3 b ⟨s', h'⟩ f) = val_main_v22 (F := Ideal) x0 x1 x2 x4 x5 x6 (ix3 b ⟨s'', h''⟩ f) := by
      intro s' s'' h' h'' e; subst e; rfl
    by_cases hs : s.val = 0
    · rw [dif_pos (by show 1 + s.val < 2; omega), if_pos (by omega)]
    · rw [dif_neg (by show ¬ 1 + s.val < 2; omega), if_neg (by omega)]
      exact e _ _ _ _ (by show 1 + s.val - 2 = s.val - 1; omega)
  have h0 : val_main_v24 (F := Ideal) x0 x1 x2 x4 x5 x6 (ix3 b ⟨2 + s.val, by omega⟩ f)
      = val_main_v22 (F := Ideal) x0 x1 x2 x4 x5 x6 (ix3 b s f) := by
    rw [h, dif_neg (by show ¬ 2 + s.val < 2; omega)]
    exact congrArg (fun s => val_main_v22 (F := Ideal) x0 x1 x2 x4 x5 x6 (ix3 b s f)) (Fin.ext (by show 2 + s.val - 2 = s.val; omega))
  unfold val_main_v51 val_main_v50 val_main_call0_v5 val_main_call0_v4 val_main_call0_v3 val_main_call0_v2 val_main_call0_v1
    val_main_call0_v0 val_main_v49 val_main_v48 val_main_v47 val_main_v46 val_main_v45 val_main_v44 val_main_v43 val_main_v42
    val_main_v41 val_main_v40 val_main_v39 val_main_v38 val_main_v37 val_main_v36 val_main_v35 val_main_v34 val_main_v33
    val_main_v32 val_main_v31 val_main_v30 val_main_v29 val_main_v28 val_main_v27 val_main_v26 val_main_v25
    val_main_cst_3 val_main_call0_cst val_main_call0_cst_0
  generalize val_main_v24 (F := Ideal) x0 x1 x2 x4 x5 x6 = v24 at h0 h1 h2 ⊢
  generalize val_main_v23 (F := Ideal) x0 x1 x2 x4 x5 x7 = v23
  pointwise
  rw [h0, h1, h2]
  unfold ffnElt
  rw [div_one_add (_ + _)]
  simp only [zero_add, zero_sub, add_assoc]

/-- The activated row of the feed-forward part. -/
theorem v54_ix (b : Fin 8) (s : Fin 2048) (d : Fin 1024) :
    val_main_v54 (F := Ideal) x0 x1 x2 x4 x5 x6 x7 x8 x9 x10 (ix3 b s d)
      = ffnRow (refW x4 x5 x6 x7 x8 x9 x10 x11 x12 x13) (rRow x0 x1 x2 x4 x5 x6 x7 x8 x9 x10 x11 x12 x13 b s)
        (fun f => rGate x0 x1 x2 x4 x5 x6 b s 2 f) (fun f => rGate x0 x1 x2 x4 x5 x6 b s 1 f) d := by
  have h51 := v51_ix x0 x1 x2 x4 x5 x6 x7 x8 x9 b s
  have h7 := v7_ix x0 x1 x2 x4 x5 x6 x7 x8 x9 x10 x11 x12 x13 b s
  have h22 := v22_ix x0 x1 x2 x4 x5 x6 x7 x8 x9 x10 x11 x12 x13 b s
  have h23 := v23_ix x0 x1 x2 x4 x5 x6 x7 x8 x9 x10 x11 x12 x13 b s
  unfold val_main_v54 val_main_v52
  generalize val_main_v51 (F := Ideal) x0 x1 x2 x4 x5 x6 x7 x8 x9 = v51 at h51 ⊢
  generalize val_main_v7 (F := Ideal) x0 x1 x2 x4 = v7 at h7 ⊢
  pointwise
  simp only [h51, h7, h22, h23]
  rfl

theorem v69_ix (b : Fin 8) (s : Fin 2048) (d : Fin 1024) :
    val_main_v69 (F := Ideal) x0 x1 x2 x4 x5 x6 x7 x8 x9 x10 x11 (ix3 b s d)
      = normRow (ffnRow (refW x4 x5 x6 x7 x8 x9 x10 x11 x12 x13) (rRow x0 x1 x2 x4 x5 x6 x7 x8 x9 x10 x11 x12 x13 b s)
        (fun f => rGate x0 x1 x2 x4 x5 x6 b s 2 f) (fun f => rGate x0 x1 x2 x4 x5 x6 b s 1 f))
        (refW x4 x5 x6 x7 x8 x9 x10 x11 x12 x13).gple d := by
  have h := v54_ix x0 x1 x2 x4 x5 x6 x7 x8 x9 x10 x11 x12 x13 b s
  unfold val_main_v69 val_main_v68 val_main_v67 val_main_v66 val_main_v65 val_main_v64 val_main_v63 val_main_v62 val_main_v61
    val_main_v60 val_main_v59 val_main_v58 val_main_v57 val_main_cst_4 val_main_cst_5 val_main_cst_6
  generalize val_main_v54 (F := Ideal) x0 x1 x2 x4 x5 x6 x7 x8 x9 x10 = v at h ⊢
  pointwise
  simp only [h]
  rfl

theorem v78_ix (b : Fin 8) (s : Fin 2048) (d : Fin 1024) :
    val_main_v78 (F := Ideal) x0 x1 x2 x3 x4 x5 x6 x7 x8 x9 x10 x11 x12 x13 (ix3 b s d)
      = postRow (refW x4 x5 x6 x7 x8 x9 x10 x11 x12 x13) (rRow x0 x1 x2 x4 x5 x6 x7 x8 x9 x10 x11 x12 x13 b s)
        (fun f => rGate x0 x1 x2 x4 x5 x6 b s 2 f) (fun f => rGate x0 x1 x2 x4 x5 x6 b s 1 f)
        (fun k => x3 (ix2 (row b s) k)) d := by
  have h69 := v69_ix x0 x1 x2 x4 x5 x6 x7 x8 x9 x10 x11 x12 x13 b s
  have h54 := v54_ix x0 x1 x2 x4 x5 x6 x7 x8 x9 x10 x11 x12 x13 b s
  unfold val_main_v78 val_main_v77 val_main_v76 val_main_v75 val_main_v74 val_main_v73 val_main_v72 val_main_v71 val_main_v70
    val_main_v56 val_main_v55 val_main_cst_7 val_main_cst_8
  generalize val_main_v69 (F := Ideal) x0 x1 x2 x4 x5 x6 x7 x8 x9 x10 x11 = v69 at h69 ⊢
  generalize val_main_v54 (F := Ideal) x0 x1 x2 x4 x5 x6 x7 x8 x9 x10 = v54 at h54 ⊢
  pointwise
  simp only [h69, h54]
  unfold postRow pleRow
  simp only [zero_sub]
  rfl

/-- The block's result, row by row. -/
theorem v81_ix (R : Fin 16384) (d : Fin 1024) :
    val_main_v81 (F := Ideal) x0 x1 x2 x3 x4 x5 x6 x7 x8 x9 x10 x11 x12 x13 (ix2 R d)
      = val_main_v78 (F := Ideal) x0 x1 x2 x3 x4 x5 x6 x7 x8 x9 x10 x11 x12 x13
        (ix3 ⟨R.val / 2048, by omega⟩ ⟨R.val % 2048, by omega⟩ d) := by
  unfold val_main_v81
  generalize val_main_v78 (F := Ideal) x0 x1 x2 x3 x4 x5 x6 x7 x8 x9 x10 x11 x12 x13 = v
  pointwise

/-- The history's last two of 32 rows: the gate of the sequence's last two rows. -/
theorem v82_ix (q : Fin 256) (f : Fin 2816) (hq : 30 ≤ q.val % 32) :
    val_main_v82 (F := Ideal) x0 x1 x2 x4 x5 x6 (ix2 q f)
      = val_main_v22 (F := Ideal) x0 x1 x2 x4 x5 x6 (ix3 ⟨q.val / 32, by omega⟩ ⟨q.val % 32 + 2016, by omega⟩ f) := by
  have h := v24_ix x0 x1 x2 x4 x5 x6
  unfold val_main_v82 val_main_v80 val_main_v79 val_main_v53 val_main_cst_9
  generalize val_main_v24 (F := Ideal) x0 x1 x2 x4 x5 x6 = v24 at h ⊢
  pointwise
  rw [dif_neg (by omega), h, dif_neg (by show ¬ 2048 + (q.val % 32 - 30) < 2; omega)]
  exact congrArg (fun s => val_main_v22 (F := Ideal) x0 x1 x2 x4 x5 x6 (ix3 ⟨q.val / 32, by omega⟩ s f))
    (Fin.ext (by show 2048 + (q.val % 32 - 30) - 2 = q.val % 32 + 2016; omega))

/-- The residual row `R` of all rows. -/
def refResid (R : Fin 16384) : Fin 1024 → EReal :=
  hRow (refW x4 x5 x6 x7 x8 x9 x10 x11 x12 x13) (fun d => x0 (ix2 R d)) (fun k => x1 (ix2 R k)) (fun k => x2 (ix2 R k))

/-- The gate of row `R`. -/
def refGate (R : Fin 16384) : Fin 2816 → EReal :=
  projRow (refW x4 x5 x6 x7 x8 x9 x10 x11 x12 x13).gffn (refW x4 x5 x6 x7 x8 x9 x10 x11 x12 x13).wg
    (refResid x0 x1 x2 x4 x5 x6 x7 x8 x9 x10 x11 x12 x13 R)

theorem rRow_eq (b : Fin 8) (s : Fin 2048) (R : Fin 16384) (h : R.val = b.val * 2048 + s.val) :
    rRow x0 x1 x2 x4 x5 x6 x7 x8 x9 x10 x11 x12 x13 b s = refResid x0 x1 x2 x4 x5 x6 x7 x8 x9 x10 x11 x12 x13 R := by
  rw [show R = row b s from Fin.ext h]
  rfl

theorem v22_row (b : Fin 8) (s : Fin 2048) (R : Fin 16384) (h : R.val = b.val * 2048 + s.val) (f : Fin 2816) :
    val_main_v22 (F := Ideal) x0 x1 x2 x4 x5 x6 (ix3 b s f) = refGate x0 x1 x2 x4 x5 x6 x7 x8 x9 x10 x11 x12 x13 R f := by
  rw [v22_ix x0 x1 x2 x4 x5 x6 x7 x8 x9 x10 x11 x12 x13 b s f, rRow_eq x0 x1 x2 x4 x5 x6 x7 x8 x9 x10 x11 x12 x13 b s R h]
  rfl

theorem rGate_two (b : Fin 8) (s : Fin 2048) (R : Fin 16384) (h : R.val = b.val * 2048 + s.val) (f : Fin 2816) :
    rGate x0 x1 x2 x4 x5 x6 b s 2 f = if R.val % 2048 < 2 then 0
          else refGate x0 x1 x2 x4 x5 x6 x7 x8 x9 x10 x11 x12 x13 ⟨R.val - 2, by omega⟩ f := by
  have hs := s.isLt
  unfold rGate
  by_cases h2 : s.val < 2
  · rw [if_pos h2, if_pos (by omega)]
  · rw [if_neg h2, if_neg (by omega)]
    exact v22_row x0 x1 x2 x4 x5 x6 x7 x8 x9 x10 x11 x12 x13 _ _ _
      (by show R.val - 2 = b.val * 2048 + (s.val - 2); omega) f

theorem rGate_one (b : Fin 8) (s : Fin 2048) (R : Fin 16384) (h : R.val = b.val * 2048 + s.val) (f : Fin 2816) :
    rGate x0 x1 x2 x4 x5 x6 b s 1 f = if R.val % 2048 = 0 then 0
          else refGate x0 x1 x2 x4 x5 x6 x7 x8 x9 x10 x11 x12 x13 ⟨R.val - 1, by omega⟩ f := by
  have hs := s.isLt
  unfold rGate
  by_cases h2 : s.val < 1
  · rw [if_pos h2, if_pos (by omega)]
  · rw [if_neg h2, if_neg (by omega)]
    exact v22_row x0 x1 x2 x4 x5 x6 x7 x8 x9 x10 x11 x12 x13 _ _ _
      (by show R.val - 1 = b.val * 2048 + (s.val - 1); omega) f

theorem v78_row (b : Fin 8) (s : Fin 2048) (R : Fin 16384) (h : R.val = b.val * 2048 + s.val) (d : Fin 1024) :
    val_main_v78 (F := Ideal) x0 x1 x2 x3 x4 x5 x6 x7 x8 x9 x10 x11 x12 x13 (ix3 b s d)
      = postRow (refW x4 x5 x6 x7 x8 x9 x10 x11 x12 x13) (refResid x0 x1 x2 x4 x5 x6 x7 x8 x9 x10 x11 x12 x13 R)
        (fun f => if R.val % 2048 < 2 then 0 else refGate x0 x1 x2 x4 x5 x6 x7 x8 x9 x10 x11 x12 x13 ⟨R.val - 2, by omega⟩ f)
        (fun f => if R.val % 2048 = 0 then 0 else refGate x0 x1 x2 x4 x5 x6 x7 x8 x9 x10 x11 x12 x13 ⟨R.val - 1, by omega⟩ f)
        (fun k => x3 (ix2 R k)) d := by
  rw [v78_ix, rRow_eq x0 x1 x2 x4 x5 x6 x7 x8 x9 x10 x11 x12 x13 b s R h,
    funext (rGate_two x0 x1 x2 x4 x5 x6 x7 x8 x9 x10 x11 x12 x13 b s R h),
    funext (rGate_one x0 x1 x2 x4 x5 x6 x7 x8 x9 x10 x11 x12 x13 b s R h)]
  exact congrArg (fun R' => postRow _ _ _ _ (fun k => x3 (ix2 R' k)) d) (Fin.ext h.symm : row b s = R)

/-- The block's result at row `R`, from the rows of the arguments. -/
theorem v81_row (R : Fin 16384) (d : Fin 1024) :
    val_main_v81 (F := Ideal) x0 x1 x2 x3 x4 x5 x6 x7 x8 x9 x10 x11 x12 x13 (ix2 R d)
      = postRow (refW x4 x5 x6 x7 x8 x9 x10 x11 x12 x13) (refResid x0 x1 x2 x4 x5 x6 x7 x8 x9 x10 x11 x12 x13 R)
        (fun f => if R.val % 2048 < 2 then 0 else refGate x0 x1 x2 x4 x5 x6 x7 x8 x9 x10 x11 x12 x13 ⟨R.val - 2, by omega⟩ f)
        (fun f => if R.val % 2048 = 0 then 0 else refGate x0 x1 x2 x4 x5 x6 x7 x8 x9 x10 x11 x12 x13 ⟨R.val - 1, by omega⟩ f)
        (fun k => x3 (ix2 R k)) d := by
  rw [v81_ix]
  exact v78_row x0 x1 x2 x3 x4 x5 x6 x7 x8 x9 x10 x11 x12 x13 _ _ R (by show R.val = R.val / 2048 * 2048 + R.val % 2048; omega) d

/-- The history's two newest rows of a sequence, from the rows of the arguments. -/
theorem v82_row (q : Fin 256) (f : Fin 2816) (hq : 30 ≤ q.val % 32) :
    val_main_v82 (F := Ideal) x0 x1 x2 x4 x5 x6 (ix2 q f)
      = refGate x0 x1 x2 x4 x5 x6 x7 x8 x9 x10 x11 x12 x13 ⟨512 * (q.val / 8) + (504 + q.val % 8), by omega⟩ f := by
  rw [v82_ix x0 x1 x2 x4 x5 x6 q f hq]
  exact v22_row x0 x1 x2 x4 x5 x6 x7 x8 x9 x10 x11 x12 x13 _ _ _
    (by show 512 * (q.val / 8) + (504 + q.val % 8) = q.val / 32 * 2048 + (q.val % 32 + 2016); omega) f

end

end Cert.PostRefValue

end
-- ==== Proof.GlaRef.lean ====
/- The reference of gated linear attention, read at an index: the same sums over a sequence's eight tokens as the
   kernel's. -/
module

public import proofs.«01_k».proof.Proof.GlaRun
public import proofs.«01_k».proof.Proof.PostRef
public import proofs.«01_k».proof.Proof.Gen.GlaRefIdeal.Read

@[expose] public section

set_option maxRecDepth 16384

noncomputable section

namespace Cert.GlaRefValue

open Idealize.ShloMosaic Cert.GlaRefIdeal Cert.GlaRefIdeal.Gen Cert.GlaRefIdeal.Read Cert.GlaValue

/-- A left fold of additions from zero is the sum. -/
theorem foldl_add {n : ℕ} (g : Fin n → EReal) : (List.finRange n).foldl (fun r i => r + g i) 0 = ∑ i, g i := by
  rw [← List.sum_ofFn, List.ofFn_eq_map, ← List.foldl_map (f := g) (g := fun r x => r + x), List.sum_eq_foldl]

/-- The eight places of a window that ends at token `t`: the tokens up to `t`, and padding before the first. -/
theorem window_sum (t : Fin 8) (f : Fin 8 → EReal) :
    ∑ n : Fin 8, (if h : 7 ≤ t.val + n.val ∧ t.val + n.val - 7 < 8 then f ⟨t.val + n.val - 7, h.2⟩ else 0)
      = ∑ s, if s ≤ t then f s else 0 := by
  rw [← Equiv.sum_comp (Equiv.addRight (t + 1)) (fun s => if s ≤ t then f s else 0)]
  refine Finset.sum_congr rfl fun n _ => ?_
  have key : ∀ t n : Fin 8, (n + (t + 1) ≤ t ↔ (7 ≤ t.val + n.val ∧ t.val + n.val - 7 < 8))
      ∧ (7 ≤ t.val + n.val → (n + (t + 1)).val = t.val + n.val - 7) := by decide
  show _ = if n + (t + 1) ≤ t then f (n + (t + 1)) else 0
  by_cases h : 7 ≤ t.val + n.val ∧ t.val + n.val - 7 < 8
  · rw [dif_pos h, if_pos ((key t n).1.2 h)]
    exact congrArg f (Fin.ext ((key t n).2 h.1).symm)
  · rw [dif_neg h, if_neg (fun hh => h ((key t n).1.1 hh))]

abbrev Win : Shape := ⟨4, ![1, 8, 1, 1]⟩

theorem win_at : ∀ n : Fin Win.numel, (Win.rowMajor.symm n 0).val = 0 ∧ (Win.rowMajor.symm n 1).val = n.val
    ∧ (Win.rowMajor.symm n 2).val = 0 ∧ (Win.rowMajor.symm n 3).val = 0 := by decide +kernel

/-- The running sum over a sequence's tokens, read at an index. -/
theorem cumsum_at (x : S32x8x4x64.Idx → EReal) (hw : S32x8x4x64.ReduceWindows ![1, 8, 1, 1] ![1, 1, 1, 1] ![0, 7, 0, 0] ![0, 0, 0, 0] S32x8x4x64)
    (b : Fin 32) (t : Fin 8) (h : Fin 4) (d : Fin 64) :
    Ideal.hostReduceWindowAdd ![1, 8, 1, 1] ![1, 1, 1, 1] ![0, 7, 0, 0] ![0, 0, 0, 0] hw x 0 (ix4 b t h d)
      = gateSum (fun s d => x (ix4 b s h d)) t d := by
  unfold Ideal.hostReduceWindowAdd Host.reduceWindow gateSum
  rw [← window_sum t (fun s => x (ix4 b s h d))]
  refine (foldl_add (n := Win.numel) _).trans ?_
  refine Fintype.sum_equiv (finCongr (by decide : Win.numel = 8)) _ _ fun n => ?_
  obtain ⟨h0, h1, h2, h3⟩ := win_at n
  have hn : ((finCongr (by decide : Win.numel = 8)) n).val = n.val := rfl
  rw [hn]
  by_cases hc : 7 ≤ t.val + n.val ∧ t.val + n.val - 7 < 8
  · rw [dif_pos hc]
    refine (dif_pos ?_).trans ?_
    · refine Fin.forall_fin_succ.2 ⟨?_, Fin.forall_fin_succ.2 ⟨?_, Fin.forall_fin_succ.2 ⟨?_, Fin.forall_fin_one.2 ?_⟩⟩⟩
      · show 0 ≤ b.val * 1 + (Win.rowMajor.symm n 0).val ∧ b.val * 1 + (Win.rowMajor.symm n 0).val - 0 < 32
        omega
      · show 7 ≤ t.val * 1 + (Win.rowMajor.symm n 1).val ∧ t.val * 1 + (Win.rowMajor.symm n 1).val - 7 < 8
        omega
      · show 0 ≤ h.val * 1 + (Win.rowMajor.symm n 2).val ∧ h.val * 1 + (Win.rowMajor.symm n 2).val - 0 < 4
        omega
      · show 0 ≤ d.val * 1 + (Win.rowMajor.symm n 3).val ∧ d.val * 1 + (Win.rowMajor.symm n 3).val - 0 < 64
        omega
    · refine congrArg x (ext4 ?_ ?_ ?_ ?_)
      · show b.val * 1 + (Win.rowMajor.symm n 0).val - 0 = b.val
        omega
      · show t.val * 1 + (Win.rowMajor.symm n 1).val - 7 = t.val + n.val - 7
        omega
      · show h.val * 1 + (Win.rowMajor.symm n 2).val - 0 = h.val
        omega
      · show d.val * 1 + (Win.rowMajor.symm n 3).val - 0 = d.val
        omega
  · rw [dif_neg hc]
    refine dif_neg fun hh => hc ?_
    have h7 : 7 ≤ t.val * 1 + (Win.rowMajor.symm n 1).val ∧ t.val * 1 + (Win.rowMajor.symm n 1).val - 7 < 8 := hh 1
    omega

section

variable (x0 x1 : (⟨S256x256, .f32⟩ : BufTy).Contents (Elt Ideal)) (x2 : (⟨S256x512, .bf16⟩ : BufTy).Contents (Elt Ideal))
  (x3 : (⟨S256x512, .f32⟩ : BufTy).Contents (Elt Ideal)) (x4 : (⟨S256x256, .f32⟩ : BufTy).Contents (Elt Ideal))
  (x5 : (⟨S32x4x64x128, .f32⟩ : BufTy).Contents (Elt Ideal)) (x6 : (⟨S1x128, .f32⟩ : BufTy).Contents (Elt Ideal))

/-- A head's slice of one sequence's queries, keys or gates. -/
def headK (x : S256x256.Idx → EReal) (b : Fin 32) (h : Fin 4) (s : Fin 8) (d : Fin 64) : EReal := x (ix2 (tok b s) (kd h d))

/-- A head's slice of one sequence's values. -/
def headV (x : S256x512.Idx → EReal) (b : Fin 32) (h : Fin 4) (s : Fin 8) (e : Fin 128) : EReal := x (ix2 (tok b s) (vd h e))

theorem v0_ix (b : Fin 32) (s : Fin 8) (h : Fin 4) (d : Fin 64) :
    val_main_v0 (F := Ideal) x0 (ix4 b s h d) = headK x0 b h s d := by
  rw [val_main_v0_apply]
  refine congrArg x0 (Shape.idx_ext₂ ?_ ?_)
  · show (((b.val * 8 + s.val) * 4 + h.val) * 64 + d.val) / 256 = 8 * b.val + s.val
    omega
  · show (((b.val * 8 + s.val) * 4 + h.val) * 64 + d.val) % 256 = 64 * h.val + d.val
    omega

theorem v1_ix (b : Fin 32) (s : Fin 8) (h : Fin 4) (d : Fin 64) :
    val_main_v1 (F := Ideal) x1 (ix4 b s h d) = headK x1 b h s d := v0_ix x1 b s h d

theorem v4_ix (b : Fin 32) (s : Fin 8) (h : Fin 4) (d : Fin 64) :
    val_main_v4 (F := Ideal) x4 (ix4 b s h d) = headK x4 b h s d := v0_ix x4 b s h d

theorem v3_ix (b : Fin 32) (s : Fin 8) (h : Fin 4) (e : Fin 128) :
    val_main_v3 (F := Ideal) x2 (ix4 b s h e) = headV x2 b h s e := by
  rw [val_main_v3_apply]
  refine congrArg x2 (Shape.idx_ext₂ ?_ ?_)
  · show (((b.val * 8 + s.val) * 4 + h.val) * 128 + e.val) / 512 = 8 * b.val + s.val
    omega
  · show (((b.val * 8 + s.val) * 4 + h.val) * 128 + e.val) % 512 = 128 * h.val + e.val
    omega

theorem v5_ix (b : Fin 32) (t : Fin 8) (h : Fin 4) (d : Fin 64) :
    val_main_v5 (F := Ideal) x4 (ix4 b t h d) = gateSum (headK x4 b h) t d := by
  have h4 := v4_ix x4 b
  unfold val_main_v5
  generalize val_main_v4 (F := Ideal) x4 = v4 at h4 ⊢
  have hz : (val_main_call0_call0_v0 (F := Ideal) (Shape.Idx.first h_S_) : EReal) = 0 := Ideal.ofBits_zero_f32
  refine Eq.trans ?_ ((cumsum_at v4 reduceWindows_S32x8x4x64_S32x8x4x64_w1s1p0_0_w8s1p7_0_w1s1p0_0_w1s1p0_0 b t h d).trans ?_)
  · show Ideal.hostReduceWindowAdd ![1, 8, 1, 1] ![1, 1, 1, 1] ![0, 7, 0, 0] ![0, 0, 0, 0] reduceWindows_S32x8x4x64_S32x8x4x64_w1s1p0_0_w8s1p7_0_w1s1p0_0_w1s1p0_0 v4 (val_main_call0_call0_v0 (F := Ideal) (Shape.Idx.first h_S_)) _ = _
    rw [hz]
  · simp only [h4]

/-- The last token's running sum is the whole sum. -/
theorem gateSum_last (la : Fin 8 → Fin 64 → EReal) (d : Fin 64) : gateSum la 7 d = gateAll la d := by
  unfold gateSum gateAll
  exact Finset.sum_congr rfl fun s _ => if_pos (by have := s.isLt; exact Fin.le_def.2 (by show s.val ≤ 7; omega))

theorem v6_ix (b : Fin 32) (h : Fin 4) (d : Fin 64) :
    val_main_v6 (F := Ideal) x4 (ix4 b 0 h d) = gateAll (headK x4 b h) d := by
  have h5 := v5_ix x4 b 7 h d
  rw [gateSum_last] at h5
  unfold val_main_v6
  generalize val_main_v5 (F := Ideal) x4 = v at h5 ⊢
  pointwise
  exact h5

theorem v8_ix (b : Fin 32) (t : Fin 8) (h : Fin 4) (d : Fin 64) :
    val_main_v8 (F := Ideal) x0 x4 (ix4 b t h d) = headK x0 b h t d * Ideal.exp (gateSum (headK x4 b h) t d) := by
  rw [← v0_ix, ← v5_ix]
  rfl

theorem v11_ix (b : Fin 32) (t : Fin 8) (h : Fin 4) (d : Fin 64) :
    val_main_v11 (F := Ideal) x1 x4 (ix4 b t h d) = headK x1 b h t d * Ideal.exp (-gateSum (headK x4 b h) t d) := by
  rw [← v1_ix, ← v5_ix]
  rfl

theorem v15_ix (b : Fin 32) (t : Fin 8) (h : Fin 4) (d : Fin 64) :
    val_main_v15 (F := Ideal) x1 x4 (ix4 b t h d)
      = headK x1 b h t d * Ideal.exp (gateAll (headK x4 b h) d - gateSum (headK x4 b h) t d) := by
  have h6 := v6_ix x4 b h d
  have h5 := v5_ix x4 b t h d
  have h1 := v1_ix x1 b t h d
  unfold val_main_v15 val_main_v14 val_main_v13 val_main_v12
  generalize val_main_v6 (F := Ideal) x4 = v6 at h6 ⊢
  generalize val_main_v5 (F := Ideal) x4 = v5 at h5 ⊢
  generalize val_main_v1 (F := Ideal) x1 = v1 at h1 ⊢
  pointwise
  rw [h6, h5, h1]

theorem mask_at : ∀ t s : Fin 8, val_main_v17 (F := Ideal) (ix2 t s) = if s ≤ t then 1#1 else 0#1 := by
  intro t s
  have key : ∀ t s : Fin 8, Scalar.select (IntOp.cmpi .sge (IntOp.addi (BitVec.ofNat 32 t.val) 0#32) (BitVec.ofNat 32 s.val)) (1#1) (0#1)
      = if s ≤ t then 1#1 else 0#1 := by decide
  exact key t s

theorem v18_ix (b : Fin 32) (h : Fin 4) (t s : Fin 8) :
    val_main_v18 (F := Ideal) x0 x1 x4 (ix4 b h t s)
      = ∑ d, headK x0 b h t d * Ideal.exp (gateSum (headK x4 b h) t d) * (headK x1 b h s d * Ideal.exp (-gateSum (headK x4 b h) s d)) := by
  have h8 := v8_ix x0 x4 b t h
  have h11 := v11_ix x1 x4 b s h
  unfold val_main_v18
  generalize val_main_v8 (F := Ideal) x0 x4 = v8 at h8 ⊢
  generalize val_main_v11 (F := Ideal) x1 x4 = v11 at h11 ⊢
  pointwise
  simp only [h8, h11]

theorem v19_ix (b : Fin 32) (h : Fin 4) (t s : Fin 8) :
    val_main_v19 (F := Ideal) x0 x1 x4 (ix4 b h t s) = score (headK x4 b h) (headK x0 b h) (headK x1 b h) t s := by
  have h18 := v18_ix x0 x1 x4 b h t s
  have h17 := mask_at t s
  unfold val_main_v19 val_main_call2_v1 val_main_call2_v2 val_main_call2_v0 val_main_cst
  generalize val_main_v18 (F := Ideal) x0 x1 x4 = v18 at h18 ⊢
  generalize val_main_v17 (F := Ideal) = v17 at h17 ⊢
  pointwise
  rw [h17, h18]
  unfold score
  by_cases hs : s ≤ t
  · rw [if_pos hs, if_pos hs]; simp [Scalar.select]
  · rw [if_neg hs, if_neg hs]
    exact Ideal.ofBits_zero_f32

theorem v31_ix (b : Fin 32) (t : Fin 8) (h : Fin 4) (e : Fin 128) :
    val_main_v31 (F := Ideal) x0 x1 x2 x4 x5 (ix4 b t h e)
      = readOut (headK x4 b h) (headK x0 b h) (headK x1 b h) (headV x2 b h) (fun d e => x5 (ix4 b h d e)) t e := by
  have h19 := v19_ix x0 x1 x4 b h t
  have h3 := fun s => v3_ix x2 b s h e
  have h8 := v8_ix x0 x4 b t h
  unfold val_main_v31 val_main_v21 val_main_v20 val_main_v23 val_main_v22
  generalize val_main_v19 (F := Ideal) x0 x1 x4 = v19 at h19 ⊢
  generalize val_main_v3 (F := Ideal) x2 = v3 at h3 ⊢
  generalize val_main_v8 (F := Ideal) x0 x4 = v8 at h8 ⊢
  pointwise
  simp only [h19, h3, h8]
  unfold readOut
  exact congrArg₂ (· + ·) (Finset.sum_congr rfl fun _ _ => mul_comm _ _) (Finset.sum_congr rfl fun _ _ => mul_comm _ _)

theorem v30_ix (b : Fin 32) (h : Fin 4) (d : Fin 64) (e : Fin 128) :
    val_main_v30 (F := Ideal) x1 x2 x4 x5 (ix4 b h d e)
      = newState (headK x4 b h) (headK x1 b h) (headV x2 b h) (fun d e => x5 (ix4 b h d e)) d e := by
  have h6 := v6_ix x4 b h d
  have h3 := fun s => v3_ix x2 b s h e
  have h15 := fun s => v15_ix x1 x4 b s h d
  unfold val_main_v30 val_main_v29 val_main_v28 val_main_v27 val_main_v26 val_main_v25 val_main_v24
  generalize val_main_v6 (F := Ideal) x4 = v6 at h6 ⊢
  generalize val_main_v3 (F := Ideal) x2 = v3 at h3 ⊢
  generalize val_main_v15 (F := Ideal) x1 x4 = v15 at h15 ⊢
  pointwise
  simp only [h6, h3, h15]
  unfold newState
  rw [mul_comm (Ideal.exp _)]

theorem v50_ix (b : Fin 32) (t : Fin 8) (h : Fin 4) (e : Fin 128) :
    val_main_v50 (F := Ideal) x0 x1 x2 x3 x4 x5 x6 (ix3 b t (vd h e))
      = gated (readOut (headK x4 b h) (headK x0 b h) (headK x1 b h) (headV x2 b h) (fun d e => x5 (ix4 b h d e)) t)
          (x6 (ix2 0 e)) (x3 (ix2 (tok b t) (vd h e))) e := by
  have h31 := v31_ix x0 x1 x2 x4 x5 b t h
  have h47 : val_main_v47 (F := Ideal) x3 (ix3 b t (vd h e)) = x3 (ix2 (tok b t) (vd h e)) := by
    rw [val_main_v47_apply]
    refine congrArg x3 (Shape.idx_ext₂ ?_ ?_)
    · show ((b.val * 8 + t.val) * 512 + (128 * h.val + e.val)) / 512 = 8 * b.val + t.val
      omega
    · show ((b.val * 8 + t.val) * 512 + (128 * h.val + e.val)) % 512 = 128 * h.val + e.val
      omega
  have h45 : val_main_v45 (F := Ideal) x0 x1 x2 x4 x5 x6 (ix4 b t h e)
      = readOut (headK x4 b h) (headK x0 b h) (headK x1 b h) (headV x2 b h) (fun d e => x5 (ix4 b h d e)) t e
        * Ideal.rsqrt (Ideal.div (∑ i, readOut (headK x4 b h) (headK x0 b h) (headK x1 b h) (headV x2 b h) (fun d e => x5 (ix4 b h d e)) t i
            * readOut (headK x4 b h) (headK x0 b h) (headK x1 b h) (headV x2 b h) (fun d e => x5 (ix4 b h d e)) t i)
            (Ideal.ofBits .f32 0x43000000#32) + Ideal.ofBits .f32 0x358637BD#32) * x6 (ix2 0 e) := by
    unfold val_main_v45 val_main_v44 val_main_v43 val_main_v42 val_main_v41 val_main_v40 val_main_v39 val_main_v38 val_main_v37
      val_main_v36 val_main_v35 val_main_v34 val_main_v33 val_main_v32 val_main_cst_0 val_main_cst_1 val_main_cst_2
    generalize val_main_v31 (F := Ideal) x0 x1 x2 x4 x5 = v31 at h31 ⊢
    pointwise
    simp only [h31]
  have h46 : val_main_v46 (F := Ideal) x0 x1 x2 x4 x5 x6 (ix3 b t (vd h e)) = val_main_v45 (F := Ideal) x0 x1 x2 x4 x5 x6 (ix4 b t h e) := by
    rw [val_main_v46_apply]
    refine congrArg (val_main_v45 (F := Ideal) x0 x1 x2 x4 x5 x6) (ext4 ?_ ?_ ?_ ?_)
    · show ((b.val * 8 + t.val) * 512 + (128 * h.val + e.val)) / 4096 = b.val
      omega
    · show ((b.val * 8 + t.val) * 512 + (128 * h.val + e.val)) / 512 % 8 = t.val
      omega
    · show ((b.val * 8 + t.val) * 512 + (128 * h.val + e.val)) / 128 % 4 = h.val
      omega
    · show ((b.val * 8 + t.val) * 512 + (128 * h.val + e.val)) % 128 = e.val
      omega
  rw [h45] at h46
  unfold val_main_v50 val_main_v49 val_main_v48 val_main_call3_v5 val_main_call3_v4 val_main_call3_cst_0 val_main_call3_v3
    val_main_call3_v2 val_main_call3_cst val_main_call3_v1 val_main_call3_v0
  generalize val_main_v46 (F := Ideal) x0 x1 x2 x4 x5 x6 = v46 at h46 ⊢
  generalize val_main_v47 (F := Ideal) x3 = v47 at h47 ⊢
  pointwise
  rw [h46, h47]
  unfold gated
  rw [zero_sub, Cert.PostRefValue.div_one_add (x3 _)]

end

end Cert.GlaRefValue

end
-- ==== Proof.GlaClaim.lean ====
/- The value claim of gated linear attention: from finite gates, kernel and reference end with equal results. -/
module

public import proofs.«01_k».proof.Defs
public import proofs.«01_k».proof.Proof.GlaRun
public import proofs.«01_k».proof.Proof.GlaRef
public import Idealize.ShloMosaic.Lib.Quiescent

@[expose] public section

set_option maxRecDepth 16384

noncomputable section

namespace Cert.Pre_finite_gates

open Idealize.ShloMosaic

/-- The precondition's stated facts. -/
instance facts : Facts where
  bcast_S_S256x256 := by decide

theorem inf_top : Ideal.ofBits .f32 0x7F800000#32 = ⊤ := by simp [Ideal.ofBits, Ideal.ieee]

/-- A value whose magnitude is below infinity differs from itself by zero. -/
theorem sub_self_of_lt (x : EReal) (h : Ideal.cmp .olt (max x (-x)) (Ideal.ofBits .f32 0x7F800000#32) = 1#1) : x - x = 0 := by
  rw [inf_top] at h
  induction x with
  | bot => simp [Ideal.cmp] at h
  | top => simp [Ideal.cmp] at h
  | coe r => rw [← EReal.coe_sub, sub_self, EReal.coe_zero]

theorem gates_finite (x0 x1 : FVec Ideal S256x256 .f32) (x2 : FVec Ideal S256x512 .bf16) (x3 : FVec Ideal S256x512 .f32)
    (x4 : FVec Ideal S256x256 .f32) (x5 : FVec Ideal S32x4x64x128 .f32) (x6 : FVec Ideal S1x128 .f32)
    (h : fn (F := Ideal) x0 x1 x2 x3 x4 x5 x6 = fun _ => 1#1) (r f : Fin 256) : x4 (ix2 r f) - x4 (ix2 r f) = 0 :=
  sub_self_of_lt _ (congrFun h (ix2 r f))

end Cert.Pre_finite_gates

namespace Cert.GlaClaim

open Idealize.ShloMosaic Idealize.SL.Sem Cert.GlaValue Cert.GlaRefValue Cert.GlaRefIdeal.Read

section

variable (m : (ℓ : Loc Cert.GlaIdeal.nD Cert.GlaIdeal.τ Cert.GlaIdeal.sig) → Buf (Elt Ideal) ℓ)
  (m' : (ℓ : Loc Cert.GlaRefIdeal.nD Cert.GlaRefIdeal.τ Cert.GlaRefIdeal.sig) → Buf (Elt Ideal) ℓ)

variable (c : Dev Cert.GlaIdeal.nD)

/-- The two programs' arguments agree. -/
def Agree : Prop :=
  m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)

variable (hla : ∀ r f, argLa m c r f - argLa m c r f = 0)

/-- A place among a token's 512 outputs is a head's and a place within it. -/
theorem head_split (f : Fin 512) : ∃ (h : Fin 4) (e : Fin 128), vd h e = f := by
  refine ⟨⟨f.val / 128, by omega⟩, ⟨f.val % 128, by omega⟩, Fin.ext ?_⟩
  show 128 * (f.val / 128) + f.val % 128 = f.val
  omega

include hla in
/-- The reference's read-out is the kernel's. -/
theorem out_eq (h : Agree m m' c) :
    Cert.GlaRefIdeal.Value.res_main_v50 m' c = (Cert.GlaIdeal.Gen.dats m 0 c).arrAt 9 Cert.GlaIdeal.cfg0.N := by
  obtain ⟨h0, h1, h2, h3, h4, h5, h6⟩ := h
  rw [val_main_v50_eq, h0, h1, h2, h3, h4, h5, h6]
  funext i
  obtain ⟨b, s, f, rfl⟩ : ∃ (b : Fin 32) (s : Fin 8) (f : Fin 512), i = ix3 b s f := ⟨i 0, i 1, i 2, ext3 rfl rfl rfl⟩
  obtain ⟨h, e, rfl⟩ := head_split f
  exact (v50_ix _ _ _ _ _ _ _ b s h e).trans (arr9 m c hla b s h e).symm

include hla in
/-- The reference's state is the kernel's. -/
theorem state_eq (h : Agree m m' c) :
    val_main_v30 (F := Ideal) (m' ((c.tc : Thread Cert.GlaRefIdeal.nD Cert.GlaRefIdeal.τ).loc Cert.GlaRefIdeal.main_arg1)) (m' ((c.tc : Thread Cert.GlaRefIdeal.nD Cert.GlaRefIdeal.τ).loc Cert.GlaRefIdeal.main_arg2)) (m' ((c.tc : Thread Cert.GlaRefIdeal.nD Cert.GlaRefIdeal.τ).loc Cert.GlaRefIdeal.main_arg4)) (m' ((c.tc : Thread Cert.GlaRefIdeal.nD Cert.GlaRefIdeal.τ).loc Cert.GlaRefIdeal.main_arg5))
      = (Cert.GlaIdeal.Gen.dats m 0 c).arrAt 10 Cert.GlaIdeal.cfg0.N := by
  obtain ⟨h0, h1, h2, h3, h4, h5, h6⟩ := h
  rw [h1, h2, h4, h5]
  funext i
  obtain ⟨b, h, d, e, rfl⟩ : ∃ (b : Fin 32) (h : Fin 4) (d : Fin 64) (e : Fin 128), i = ix4 b h d e :=
    ⟨i 0, i 1, i 2, i 3, ext4 rfl rfl rfl rfl⟩
  exact (v30_ix _ _ _ _ b h d e).trans (arr10 m c hla b h d e).symm

end

/-- From finite gates, on extended reals, the kernel's gated linear attention ends with the reference's results. -/
theorem algebraic : Cert.algebraic_GlaIdeal_GlaRefIdeal_pre_finite_gates := by
  intro m g m' g' hpre hagree
  have hla : ∀ c r f, argLa m c r f - argLa m c r f = 0 := fun c =>
    Cert.Pre_finite_gates.gates_finite _ _ _ _ _ _ _ (hpre c)
  refine ⟨fun c => (Cert.GlaIdeal.Gen.dats m 0 c).arrAt 9 Cert.GlaIdeal.cfg0.N, fun c => (Cert.GlaIdeal.Gen.dats m 0 c).arrAt 10 Cert.GlaIdeal.cfg0.N, ?_, ?_⟩
  · exact Cert.GlaIdeal.Value.run_blocks (F := Ideal) m g
  · exact (θ_run Cert.GlaRefIdeal.defs _ _).mono
      (fun _ h c => ⟨(h c).1.trans (out_eq m m' c (hla c) (hagree c)), (h c).2.1.trans (state_eq m m' c (hla c) (hagree c)), (h c).2.2⟩)
      (Cert.GlaRefIdeal.Value.run (F := Ideal) m' g')

end Cert.GlaClaim

end
-- ==== Proof.PostRun.lean ====
/- The arrays the kernel of the block after the mixers leaves, row by row of the arguments. -/
module

public import proofs.«01_k».proof.Proof.PostTile

@[expose] public section

set_option maxRecDepth 16384

noncomputable section

namespace Cert.PostValue

open Idealize.ShloMosaic Cert.PostIdeal Cert.PostIdeal.Gen Idealize.ShloMosaic.TcCoe Idealize.SL.Sem

variable (m : (ℓ : Loc nD τ sig) → Buf (Elt Ideal) ℓ)

/-- The weights among the arguments. -/
def argW (c : Dev nD) : Weights where
  wo := fun k d => m ((c : Thread nD τ).loc main_arg4) (ix2 k d)
  gffn := fun d => m ((c : Thread nD τ).loc main_arg5) (ix1 d)
  wg := fun k f => m ((c : Thread nD τ).loc main_arg6) (ix2 k f)
  wu := fun k f => m ((c : Thread nD τ).loc main_arg7) (ix2 k f)
  cw := fun j f => m ((c : Thread nD τ).loc main_arg8) (ix2 j f)
  cb := fun f => m ((c : Thread nD τ).loc main_arg9) (ix1 f)
  wd := fun f d => m ((c : Thread nD τ).loc main_arg10) (ix2 f d)
  gple := fun d => m ((c : Thread nD τ).loc main_arg11) (ix1 d)
  wpg := fun k d => m ((c : Thread nD τ).loc main_arg12) (ix2 k d)
  wpp := fun k d => m ((c : Thread nD τ).loc main_arg13) (ix2 k d)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idxW : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] :=
  (by decide +kernel : ∀ t : Fin grid0.N, _)

theorem lt32 (t : Fin cfg0.N) : t.val < 32 := lt_of_lt_of_eq t.isLt (show cfg0.N = 32 from N_0)

theorem x_blk (c : Dev nD) (t : Fin cfg0.N) (r : Fin 512) (d : Fin 1024) :
    iblk m c 0 t (ix2 r d) = m ((c : Thread nD τ).loc main_arg0) (ix2 ⟨512 * t.val + r.val, by have := lt32 t; omega⟩ d) := by
  blk_ext! [iblk, V, idx0 t]

theorem og_blk (c : Dev nD) (t : Fin cfg0.N) (r : Fin 512) (d : Fin 512) :
    iblk m c 1 t (ix2 r d) = m ((c : Thread nD τ).loc main_arg1) (ix2 ⟨512 * t.val + r.val, by have := lt32 t; omega⟩ d) := by
  blk_ext! [iblk, V, idx1 t]

theorem om_blk (c : Dev nD) (t : Fin cfg0.N) (r : Fin 512) (d : Fin 512) :
    iblk m c 2 t (ix2 r d) = m ((c : Thread nD τ).loc main_arg2) (ix2 ⟨512 * t.val + r.val, by have := lt32 t; omega⟩ d) := by
  blk_ext! [iblk, V, idx2 t]

theorem p_blk (c : Dev nD) (t : Fin cfg0.N) (r : Fin 512) (k : Fin 256) :
    iblk m c 3 t (ix2 r k) = m ((c : Thread nD τ).loc main_arg3) (ix2 ⟨512 * t.val + r.val, by have := lt32 t; omega⟩ k) := by
  blk_ext! [iblk, V, idx3 t]

theorem wo_blk (c : Dev nD) (t : Fin cfg0.N) (k : Fin 1024) (d : Fin 1024) :
    iblk m c 4 t (ix2 k d) = m ((c : Thread nD τ).loc main_arg4) (ix2 k d) := by
  blk_ext! [iblk, V, idxW t]

theorem gffn_blk (c : Dev nD) (t : Fin cfg0.N) (d : Fin 1024) :
    iblk m c 5 t (ix2 0 d) = m ((c : Thread nD τ).loc main_arg5) (ix1 d) := by
  blk_ext! [iblk, V, idxW t]

theorem wg_blk (c : Dev nD) (t : Fin cfg0.N) (k : Fin 1024) (d : Fin 2816) :
    iblk m c 6 t (ix2 k d) = m ((c : Thread nD τ).loc main_arg6) (ix2 k d) := by
  blk_ext! [iblk, V, idxW t]

theorem wu_blk (c : Dev nD) (t : Fin cfg0.N) (k : Fin 1024) (d : Fin 2816) :
    iblk m c 7 t (ix2 k d) = m ((c : Thread nD τ).loc main_arg7) (ix2 k d) := by
  blk_ext! [iblk, V, idxW t]

theorem cw_blk (c : Dev nD) (t : Fin cfg0.N) (k : Fin 3) (d : Fin 2816) :
    iblk m c 8 t (ix2 k d) = m ((c : Thread nD τ).loc main_arg8) (ix2 k d) := by
  blk_ext! [iblk, V, idxW t]

theorem cb_blk (c : Dev nD) (t : Fin cfg0.N) (d : Fin 2816) :
    iblk m c 9 t (ix2 0 d) = m ((c : Thread nD τ).loc main_arg9) (ix1 d) := by
  blk_ext! [iblk, V, idxW t]

theorem wd_blk (c : Dev nD) (t : Fin cfg0.N) (k : Fin 2816) (d : Fin 1024) :
    iblk m c 10 t (ix2 k d) = m ((c : Thread nD τ).loc main_arg10) (ix2 k d) := by
  blk_ext! [iblk, V, idxW t]

theorem gple_blk (c : Dev nD) (t : Fin cfg0.N) (d : Fin 1024) :
    iblk m c 11 t (ix2 0 d) = m ((c : Thread nD τ).loc main_arg11) (ix1 d) := by
  blk_ext! [iblk, V, idxW t]

theorem wpg_blk (c : Dev nD) (t : Fin cfg0.N) (k : Fin 1024) (d : Fin 1024) :
    iblk m c 12 t (ix2 k d) = m ((c : Thread nD τ).loc main_arg12) (ix2 k d) := by
  blk_ext! [iblk, V, idxW t]

theorem wpp_blk (c : Dev nD) (t : Fin cfg0.N) (k : Fin 256) (d : Fin 1024) :
    iblk m c 13 t (ix2 k d) = m ((c : Thread nD τ).loc main_arg13) (ix2 k d) := by
  blk_ext! [iblk, V, idxW t]

theorem tW_eq (c : Dev nD) (t : Fin cfg0.N) :
    tW (iblk m c 4 t) (iblk m c 5 t) (iblk m c 6 t) (iblk m c 7 t) (iblk m c 8 t) (iblk m c 9 t) (iblk m c 10 t)
      (iblk m c 11 t) (iblk m c 12 t) (iblk m c 13 t) = argW m c := by
  unfold tW argW
  simp only [wo_blk, gffn_blk, wg_blk, wu_blk, cw_blk, cb_blk, wd_blk, gple_blk, wpg_blk, wpp_blk]

/-- Row `R` of the residual after the mixers. -/
def resid (c : Dev nD) (R : Fin 16384) : Fin 1024 → EReal :=
  hRow (argW m c) (fun d => m ((c : Thread nD τ).loc main_arg0) (ix2 R d))
    (fun k => m ((c : Thread nD τ).loc main_arg1) (ix2 R k)) (fun k => m ((c : Thread nD τ).loc main_arg2) (ix2 R k))

/-- Row `R` of the gate. -/
def gate (c : Dev nD) (R : Fin 16384) : Fin 2816 → EReal := projRow (argW m c).gffn (argW m c).wg (resid m c R)

/-- The gate one row before row `R` of its sequence of 2048 rows, zero at the first row. -/
def gate1 (c : Dev nD) (R : Fin 16384) (f : Fin 2816) : EReal :=
  if R.val % 2048 = 0 then 0 else gate m c ⟨R.val - 1, by omega⟩ f

/-- The gate two rows before, zero at the first two rows. -/
def gate2 (c : Dev nD) (R : Fin 16384) (f : Fin 2816) : EReal :=
  if R.val % 2048 < 2 then 0 else gate m c ⟨R.val - 2, by omega⟩ f

theorem tRow_eq (c : Dev nD) (t : Fin cfg0.N) (r : Fin 512) :
    tRow (iblk m c 0 t) (iblk m c 1 t) (iblk m c 2 t) (iblk m c 4 t) (iblk m c 5 t) (iblk m c 6 t) (iblk m c 7 t)
      (iblk m c 8 t) (iblk m c 9 t) (iblk m c 10 t) (iblk m c 11 t) (iblk m c 12 t) (iblk m c 13 t) r
      = resid m c ⟨512 * t.val + r.val, by have := lt32 t; omega⟩ := by
  unfold tRow resid
  rw [tW_eq]
  simp only [x_blk, og_blk, om_blk]

theorem ptGate_eq (c : Dev nD) (t : Fin cfg0.N) (r : Fin 512) :
    ptGate m c t r = gate m c ⟨512 * t.val + r.val, by have := lt32 t; omega⟩ := by
  unfold ptGate tGate gate
  rw [tW_eq, tRow_eq]

/-- The entry one row before, across a tile boundary, in terms of the whole array's rows. -/
theorem back1_rows (g : Fin 16384 → EReal) (prev : Fin 8 → EReal) (t : ℕ) (ht : t < 32) (r : Fin 512)
    (h7 : prev 7 = if t % 4 = 0 then 0 else g ⟨512 * t - 1, by omega⟩) :
    back1 (fun r : Fin 512 => g ⟨512 * t + r.val, by omega⟩) prev r
      = if (512 * t + r.val) % 2048 = 0 then 0 else g ⟨512 * t + r.val - 1, by omega⟩ := by
  unfold back1
  by_cases h0 : r.val = 0
  · rw [if_pos h0, h7]
    by_cases h4 : t % 4 = 0
    · rw [if_pos h4, if_pos (by omega)]
    · rw [if_neg h4, if_neg (by omega)]
      congr 2
      omega
  · rw [if_neg h0, if_neg (by omega)]
    refine congrArg g ?_
    refine Fin.ext ?_
    have := r.isLt
    show 512 * t + (r.val + 512 - 1) % 512 = 512 * t + r.val - 1
    omega

/-- The entry two rows before, across a tile boundary, in terms of the whole array's rows. -/
theorem back2_rows (g : Fin 16384 → EReal) (prev : Fin 8 → EReal) (t : ℕ) (ht : t < 32) (r : Fin 512)
    (h6 : prev 6 = if t % 4 = 0 then 0 else g ⟨512 * t - 2, by omega⟩)
    (h7 : prev 7 = if t % 4 = 0 then 0 else g ⟨512 * t - 1, by omega⟩) :
    back2 (fun r : Fin 512 => g ⟨512 * t + r.val, by omega⟩) prev r
      = if (512 * t + r.val) % 2048 < 2 then 0 else g ⟨512 * t + r.val - 2, by omega⟩ := by
  unfold back2
  by_cases h0 : r.val = 0
  · rw [if_pos (by omega), if_pos h0, h6]
    by_cases h4 : t % 4 = 0
    · rw [if_pos h4, if_pos (by omega)]
    · rw [if_neg h4, if_neg (by omega)]
      congr 2
      omega
  · by_cases h1 : r.val = 1
    · rw [if_pos (by omega), if_neg h0, h7]
      by_cases h4 : t % 4 = 0
      · rw [if_pos h4, if_pos (by omega)]
      · rw [if_neg h4, if_neg (by omega)]
        congr 2
        omega
    · rw [if_neg (by omega), if_neg (by omega)]
      refine congrArg g (Fin.ext ?_)
      have := r.isLt
      show 512 * t + (r.val + 512 - 2) % 512 = 512 * t + r.val - 2
      omega

/-- What point `t` leaves at row `r`, when the rows carried into it are `prev`: the row of the block's result, the
    gate's two rows before read off the array's own gate. -/
theorem ptOut_eq (c : Dev nD) (t : Fin cfg0.N) (prev : Vec Ideal S8x2816 .f32)
    (h6 : ∀ f, prev (ix2 6 f) = if t.val % 4 = 0 then 0 else gate m c ⟨512 * t.val - 2, by have := lt32 t; omega⟩ f)
    (h7 : ∀ f, prev (ix2 7 f) = if t.val % 4 = 0 then 0 else gate m c ⟨512 * t.val - 1, by have := lt32 t; omega⟩ f)
    (r : Fin 512) (d : Fin 1024) (R : Fin 16384) (hR : R.val = 512 * t.val + r.val) :
    ptOut m c t prev (ix2 r d)
      = postRow (argW m c) (resid m c R) (gate2 m c R) (gate1 m c R)
          (fun k => m ((c : Thread nD τ).loc main_arg3) (ix2 R k)) d := by
  have ht := lt32 t
  have hlt : 512 * t.val + r.val < 16384 := by have := r.isLt; omega
  rw [show R = ⟨512 * t.val + r.val, hlt⟩ from Fin.ext hR]
  have hG : ∀ r f, tGate (iblk m c 0 t) (iblk m c 1 t) (iblk m c 2 t) (iblk m c 4 t) (iblk m c 5 t) (iblk m c 6 t)
      (iblk m c 7 t) (iblk m c 8 t) (iblk m c 9 t) (iblk m c 10 t) (iblk m c 11 t) (iblk m c 12 t) (iblk m c 13 t) r f
      = gate m c ⟨512 * t.val + r.val, by omega⟩ f := fun r f => congrFun (ptGate_eq m c t r) f
  unfold ptOut
  rw [tOut_apply, tW_eq, tRow_eq]
  have e2 : (fun f => back2 (fun r => tGate (iblk m c 0 t) (iblk m c 1 t) (iblk m c 2 t) (iblk m c 4 t) (iblk m c 5 t)
      (iblk m c 6 t) (iblk m c 7 t) (iblk m c 8 t) (iblk m c 9 t) (iblk m c 10 t) (iblk m c 11 t) (iblk m c 12 t)
      (iblk m c 13 t) r f) (fun j => prev (ix2 j f)) r) = gate2 m c ⟨512 * t.val + r.val, hlt⟩ := by
    funext f
    rw [funext fun r => hG r f]
    exact back2_rows (fun R => gate m c R f) _ t.val ht r (h6 f) (h7 f)
  have e1 : (fun f => back1 (fun r => tGate (iblk m c 0 t) (iblk m c 1 t) (iblk m c 2 t) (iblk m c 4 t) (iblk m c 5 t)
      (iblk m c 6 t) (iblk m c 7 t) (iblk m c 8 t) (iblk m c 9 t) (iblk m c 10 t) (iblk m c 11 t) (iblk m c 12 t)
      (iblk m c 13 t) r f) (fun j => prev (ix2 j f)) r) = gate1 m c ⟨512 * t.val + r.val, hlt⟩ := by
    funext f
    rw [funext fun r => hG r f]
    exact back1_rows (fun R => gate m c R f) _ t.val ht r (h7 f)
  rw [e1, e2]
  simp only [p_blk]

theorem out14 (c : Dev nD) (t : Fin cfg0.N) (r : Fin 512) (d : Fin 1024) (R : Fin 16384) (hR : R.val = 512 * t.val + r.val) :
    (outsAt0 m c t.val t.isLt).1 (ix2 r d)
      = postRow (argW m c) (resid m c R) (gate2 m c R) (gate1 m c R)
          (fun k => m ((c : Thread nD τ).loc main_arg3) (ix2 R k)) d := by
  have ht := lt32 t
  by_cases h : t.val % 4 = 0
  · rw [out14_A m c t h]
    exact ptOut_eq m c t _ (fun f => by rw [pay4_apply, if_pos h]) (fun f => by rw [pay4_apply, if_pos h]) r d R hR
  · rw [out14_B m c t h]
    have hc := fun j f => carry m c ⟨t.val - 1, Nat.lt_of_le_of_lt (Nat.sub_le _ _) t.isLt⟩ j f
    refine ptOut_eq m c t _ (fun f => ?_) (fun f => ?_) r d R hR
    · refine (hc 6 f).trans ?_
      rw [ptGate_eq, if_neg h]
      congr 2
      show 512 * (t.val - 1) + (504 + 6) = _
      omega
    · refine (hc 7 f).trans ?_
      rw [ptGate_eq, if_neg h]
      congr 2
      show 512 * (t.val - 1) + (504 + 7) = _
      omega

/-- The first output array. -/
theorem G14_apply (c : Dev nD) (R : Fin 16384) (d : Fin 1024) :
    PostIdeal.Value.G14 m c (ix2 R d)
      = postRow (argW m c) (resid m c R) (gate2 m c R) (gate1 m c R)
          (fun k => m ((c : Thread nD τ).loc main_arg3) (ix2 R k)) d := by
  have hN : cfg0.N = 32 := N_0
  have hp : PostIdeal.Value.pt14Of (ix2 R d) = R.val / 512 := by
    show 1 * (R.val / 512 - 0) + 1 * (d.val / 1024 - 0) = R.val / 512
    have := d.isLt; omega
  have hl : PostIdeal.Value.loc14Of (ix2 R d) = ix2 ⟨R.val % 512, Nat.mod_lt _ (by decide)⟩ d := by
    refine Shape.idx_ext₂ rfl ?_
    show d.val % 1024 = d.val
    have := d.isLt; omega
  have hlt : R.val / 512 < cfg0.N := by have := R.isLt; omega
  unfold PostIdeal.Value.G14
  rw [dif_pos (by rw [hp]; exact hlt), hl, PostIdeal.Value.fold0_congr m c _ _ (R.val / 512) (by omega) hp,
    ← PostIdeal.Value.outsAt0_sweep m c (R.val / 512) hlt]
  exact out14 m c ⟨R.val / 512, hlt⟩ _ d R (by show R.val = 512 * (R.val / 512) + R.val % 512; omega)

/-- The second output array. -/
theorem G15_apply (c : Dev nD) (q : Fin 256) (f : Fin 2816) :
    PostIdeal.Value.G15 m c (ix2 q f) = gate m c ⟨512 * (q.val / 8) + (504 + q.val % 8), by omega⟩ f := by
  have hN : cfg0.N = 32 := N_0
  have hp : PostIdeal.Value.pt15Of (ix2 q f) = q.val / 8 := by
    show 1 * (q.val / 8 - 0) + 1 * (f.val / 2816 - 0) = q.val / 8
    have := f.isLt; omega
  have hl : PostIdeal.Value.loc15Of (ix2 q f) = ix2 ⟨q.val % 8, Nat.mod_lt _ (by decide)⟩ f := by
    refine Shape.idx_ext₂ rfl ?_
    show f.val % 2816 = f.val
    have := f.isLt; omega
  have hlt : q.val / 8 < cfg0.N := by have := q.isLt; omega
  unfold PostIdeal.Value.G15
  rw [dif_pos (by rw [hp]; exact hlt), hl, PostIdeal.Value.fold0_congr m c _ _ (q.val / 8) (by omega) hp,
    ← PostIdeal.Value.outsAt0_sweep m c (q.val / 8) hlt]
  exact (out15 m c ⟨q.val / 8, hlt⟩ _ f).trans (congrFun (ptGate_eq m c ⟨q.val / 8, hlt⟩ _) f)

end Cert.PostValue

end
-- ==== Proof.PostClaim.lean ====
/- The value claim of the block after the mixers: kernel and reference end with equal results, the history on its two
   newest rows of every sequence. -/
module

public import proofs.«01_k».proof.Defs
public import proofs.«01_k».proof.Proof.PostRun
public import proofs.«01_k».proof.Proof.PostRef
public import Idealize.ShloMosaic.Lib.Quiescent

@[expose] public section

set_option maxRecDepth 16384

noncomputable section

namespace Cert.On_new_history

open Idealize.ShloMosaic

/-- The mask's stated facts. -/
instance facts : Facts where
  bcast_S_S16384x1024 := by decide
  bcast_S_S256x2816 := by decide

/-- On the history array the mask selects the last two of every 32 rows. -/
theorem fn_rows (q : Fin 256) :
    IntOp.cmpi .sge (Host.remsi (fun _ : S_.Idx => BitVec.ofNat 32 q.val) (fun _ => 32#32) (fun i => i.elim0)) 30#32 = 1#1
      → 30 ≤ q.val % 32 := by
  revert q
  decide +kernel

theorem fn_snd (x0 : FVec Ideal S16384x1024 .f32) (x1 x2 : FVec Ideal S16384x512 .bf16) (x3 : FVec Ideal S16384x256 .f32)
    (x4 : FVec Ideal S1024x1024 .f32) (x5 : FVec Ideal S1024 .f32) (x6 x7 : FVec Ideal S1024x2816 .f32)
    (x8 : FVec Ideal S3x2816 .f32) (x9 : FVec Ideal S2816 .f32) (x10 : FVec Ideal S2816x1024 .f32)
    (x11 : FVec Ideal S1024 .f32) (x12 : FVec Ideal S1024x1024 .f32) (x13 : FVec Ideal S256x1024 .f32)
    (q : Fin 256) (f : Fin 2816) (h : (fn (F := Ideal) x0 x1 x2 x3 x4 x5 x6 x7 x8 x9 x10 x11 x12 x13).2 (ix2 q f) = 1#1) :
    30 ≤ q.val % 32 := fn_rows q h

end Cert.On_new_history

namespace Cert.PostClaim

open Idealize.ShloMosaic Idealize.SL.Sem Cert.PostValue Cert.PostRefValue Cert.PostRefIdeal.Read

section

variable (m : (ℓ : Loc Cert.PostIdeal.nD Cert.PostIdeal.τ Cert.PostIdeal.sig) → Buf (Elt Ideal) ℓ)
  (m' : (ℓ : Loc Cert.PostRefIdeal.nD Cert.PostRefIdeal.τ Cert.PostRefIdeal.sig) → Buf (Elt Ideal) ℓ)

variable (c : Dev Cert.PostIdeal.nD)

/-- The two programs' arguments agree. -/
def Agree : Prop :=
  m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)

/-- The reference's first result is the kernel's. -/
theorem out_eq (h : Agree m m' c) :
    Cert.PostRefIdeal.Value.res_main_v81 m' c = Cert.PostIdeal.Value.G14 m c := by
  obtain ⟨h0, h1, h2, h3, h4, h5, h6, h7, h8, h9, h10, h11, h12, h13⟩ := h
  rw [val_main_v81_eq, h0, h1, h2, h3, h4, h5, h6, h7, h8, h9, h10, h11, h12, h13]
  funext i
  obtain ⟨R, d, rfl⟩ : ∃ (R : Fin 16384) (d : Fin 1024), i = ix2 R d := ⟨i 0, i 1, Shape.idx_ext₂ rfl rfl⟩
  exact (v81_row _ _ _ _ _ _ _ _ _ _ _ _ _ _ R d).trans (G14_apply m c R d).symm

/-- The reference's history is the kernel's, on the rows the mask selects. -/
theorem hist_eq (h : Agree m m' c) (q : Fin 256) (f : Fin 2816) (hq : 30 ≤ q.val % 32) :
    val_main_v82 (F := Ideal) (m' ((c.tc : Thread Cert.PostRefIdeal.nD Cert.PostRefIdeal.τ).loc Cert.PostRefIdeal.main_arg0)) (m' ((c.tc : Thread Cert.PostRefIdeal.nD Cert.PostRefIdeal.τ).loc Cert.PostRefIdeal.main_arg1)) (m' ((c.tc : Thread Cert.PostRefIdeal.nD Cert.PostRefIdeal.τ).loc Cert.PostRefIdeal.main_arg2)) (m' ((c.tc : Thread Cert.PostRefIdeal.nD Cert.PostRefIdeal.τ).loc Cert.PostRefIdeal.main_arg4)) (m' ((c.tc : Thread Cert.PostRefIdeal.nD Cert.PostRefIdeal.τ).loc Cert.PostRefIdeal.main_arg5)) (m' ((c.tc : Thread Cert.PostRefIdeal.nD Cert.PostRefIdeal.τ).loc Cert.PostRefIdeal.main_arg6)) (ix2 q f)
      = Cert.PostIdeal.Value.G15 m c (ix2 q f) := by
  obtain ⟨h0, h1, h2, h3, h4, h5, h6, h7, h8, h9, h10, h11, h12, h13⟩ := h
  rw [h0, h1, h2, h4, h5, h6]
  exact (v82_row _ _ _ _ _ _ (m (c.tc.loc Cert.PostIdeal.main_arg7)) (m (c.tc.loc Cert.PostIdeal.main_arg8))
    (m (c.tc.loc Cert.PostIdeal.main_arg9)) (m (c.tc.loc Cert.PostIdeal.main_arg10)) (m (c.tc.loc Cert.PostIdeal.main_arg11))
    (m (c.tc.loc Cert.PostIdeal.main_arg12)) (m (c.tc.loc Cert.PostIdeal.main_arg13)) q f hq).trans (G15_apply m c q f).symm

end

/-- On extended reals the kernel's block after the mixers ends with the reference's results. -/
theorem algebraic : Cert.algebraic_PostIdeal_PostRefIdeal_on_new_history := by
  intro m g m' g' _ hagree
  refine ⟨fun c => Cert.PostIdeal.Value.G14 m c, fun c => Cert.PostIdeal.Value.G15 m c, ?_, ?_⟩
  · exact (θ_run Cert.PostIdeal.defs _ _).mono
      (fun _ h c => ⟨fun i _ => congrFun (h c).1 i, fun i _ => congrFun (h c).2.1 i, (h c).2.2⟩)
      (Cert.PostIdeal.Value.run (F := Ideal) m g)
  · refine (θ_run Cert.PostRefIdeal.defs _ _).mono
      (fun _ h c => ⟨fun i _ => congrFun ((h c).1.trans (out_eq m m' c (hagree c))) i, fun i hi => ?_, (h c).2.2⟩)
      (Cert.PostRefIdeal.Value.run (F := Ideal) m' g')
    obtain ⟨q, f, rfl⟩ : ∃ (q : Fin 256) (f : Fin 2816), i = ix2 q f := ⟨i 0, i 1, Shape.idx_ext₂ rfl rfl⟩
    have hq := Cert.On_new_history.fn_snd _ _ _ _ _ _ _ _ _ _ _ _ _ _ q f hi
    exact (congrFun (h c).2.1 (ix2 q f)).trans (hist_eq m m' c (hagree c) q f hq)

end Cert.PostClaim

end
-- ==== Proof.PostSConv.lean ====
/- What the body of the block after the mixers over the samples computes, read at an index over the extended reals: the
   residual, the projections, the rows rolled within each sample's eight, the activated product and the closing gate. -/
module

public import proofs.«01_k».proof.Proof.Gen.PostSIdeal.Skeleton
public import proofs.«01_k».proof.Proof.PostTile
public import Idealize.ShloMosaic.Lib.Pointwise

@[expose] public section

set_option maxRecDepth 16384

noncomputable section

namespace Cert.PostSValue

open Idealize.ShloMosaic Cert.PostSIdeal Cert.PostSIdeal.Gen Cert.PostValue

theorem pay1_apply (v0 : Vec Ideal S256x1024 .f32) (v1 : Vec Ideal S256x512 .bf16) (v2 : Vec Ideal S512x1024 .bf16)
    (v6 : Vec Ideal S256x512 .bf16) (v7 : Vec Ideal S512x1024 .bf16) (r : Fin 256) (d : Fin 1024) :
    k0_pay1 v0 v1 v2 v6 v7 (ix2 r d) = v0 (ix2 r d) + (∑ k : Fin 512, v1 (ix2 r k) * v2 (ix2 k d))
      + ∑ k : Fin 512, v6 (ix2 r k) * v7 (ix2 k d) := by
  pointwise [k0_pay1]

theorem pay2_apply (v0 : Vec Ideal S256x1024 .f32) (v1 : Vec Ideal S256x512 .bf16) (v2 : Vec Ideal S512x1024 .bf16)
    (v6 : Vec Ideal S256x512 .bf16) (v7 : Vec Ideal S512x1024 .bf16) (v11 : Vec Ideal S1x1024 .f32) (r : Fin 256)
    (d : Fin 1024) :
    k0_pay2 v0 v1 v2 v6 v7 v11 (ix2 r d)
      = normRow (fun e => k0_pay1 v0 v1 v2 v6 v7 (ix2 r e)) (fun e => v11 (ix2 0 e)) d := by
  unfold k0_pay2 normRow
  generalize k0_pay1 v0 v1 v2 v6 v7 = h
  pointwise

theorem pay3_apply (v0 : Vec Ideal S256x1024 .f32) (v1 : Vec Ideal S256x512 .bf16) (v2 : Vec Ideal S512x1024 .bf16)
    (v6 : Vec Ideal S256x512 .bf16) (v7 : Vec Ideal S512x1024 .bf16) (v11 : Vec Ideal S1x1024 .f32)
    (w : Vec Ideal S1024x1536 .bf16) (r : Fin 256) (f : Fin 1536) :
    k0_pay3 v0 v1 v2 v6 v7 v11 w (ix2 r f) = ∑ k : Fin 1024, k0_pay2 v0 v1 v2 v6 v7 v11 (ix2 r k) * w (ix2 k f) := by
  unfold k0_pay3
  generalize k0_pay2 v0 v1 v2 v6 v7 v11 = h
  pointwise

theorem pay4_apply (v0 : Vec Ideal S256x1024 .f32) (v1 : Vec Ideal S256x512 .bf16) (v2 : Vec Ideal S512x1024 .bf16)
    (v6 : Vec Ideal S256x512 .bf16) (v7 : Vec Ideal S512x1024 .bf16) (v11 : Vec Ideal S1x1024 .f32)
    (w : Vec Ideal S1024x1536 .bf16) (r : Fin 256) (f : Fin 1536) :
    k0_pay4 v0 v1 v2 v6 v7 v11 w (ix2 r f) = ∑ k : Fin 1024, k0_pay2 v0 v1 v2 v6 v7 v11 (ix2 r k) * w (ix2 k f) := by
  unfold k0_pay4
  generalize k0_pay2 v0 v1 v2 v6 v7 v11 = h
  pointwise

theorem pay6_apply (v25 : FVec Ideal S256x1024 .bf16) (w : Vec Ideal S1024x1280 .bf16) (r : Fin 256) (f : Fin 1280) :
    k0_pay6 v25 (k0_pay5 w) (ix2 r f) = ∑ k : Fin 1024, v25 (ix2 r k) * w (ix2 k f) := by
  pointwise [k0_pay6, k0_pay5]

theorem pay7_apply (v25 : FVec Ideal S256x1024 .bf16) (w : Vec Ideal S1024x1280 .bf16) (r : Fin 256) (f : Fin 1280) :
    k0_pay7 v25 w (ix2 r f) = ∑ k : Fin 1024, v25 (ix2 r k) * w (ix2 k f) := by
  pointwise [k0_pay7]

theorem cat6_apply (v0 v1 v2 v3 v4 v5 : FVec Ideal S256x256 .f32)
    (h : Shape.Concatenates [S256x256, S256x256, S256x256, S256x256, S256x256, S256x256] S256x1536 1)
    (g : Fin 256 → Fin 1536 → EReal)
    (h0 : ∀ r (c : Fin 256), v0 (ix2 r c) = g r ⟨0 + c.val, by omega⟩)
    (h1 : ∀ r (c : Fin 256), v1 (ix2 r c) = g r ⟨256 + c.val, by omega⟩)
    (h2 : ∀ r (c : Fin 256), v2 (ix2 r c) = g r ⟨512 + c.val, by omega⟩)
    (h3 : ∀ r (c : Fin 256), v3 (ix2 r c) = g r ⟨768 + c.val, by omega⟩)
    (h4 : ∀ r (c : Fin 256), v4 (ix2 r c) = g r ⟨1024 + c.val, by omega⟩)
    (h5 : ∀ r (c : Fin 256), v5 (ix2 r c) = g r ⟨1280 + c.val, by omega⟩) (r : Fin 256) (c : Fin 1536) :
    concatenate S256x1536 1 [⟨S256x256, v0⟩, ⟨S256x256, v1⟩, ⟨S256x256, v2⟩, ⟨S256x256, v3⟩, ⟨S256x256, v4⟩, ⟨S256x256, v5⟩] h
      (ix2 r c) = g r c := by
  pointwise
  simp only [h0, h1, h2, h3, h4, h5]
  split_ifs <;> (congr 1; apply Fin.ext; simp only []; omega)

theorem cat5_apply (v0 v1 v2 v3 v4 : FVec Ideal S256x256 .f32)
    (h : Shape.Concatenates [S256x256, S256x256, S256x256, S256x256, S256x256] S256x1280 1)
    (g : Fin 256 → Fin 1280 → EReal)
    (h0 : ∀ r (c : Fin 256), v0 (ix2 r c) = g r ⟨0 + c.val, by omega⟩)
    (h1 : ∀ r (c : Fin 256), v1 (ix2 r c) = g r ⟨256 + c.val, by omega⟩)
    (h2 : ∀ r (c : Fin 256), v2 (ix2 r c) = g r ⟨512 + c.val, by omega⟩)
    (h3 : ∀ r (c : Fin 256), v3 (ix2 r c) = g r ⟨768 + c.val, by omega⟩)
    (h4 : ∀ r (c : Fin 256), v4 (ix2 r c) = g r ⟨1024 + c.val, by omega⟩) (r : Fin 256) (c : Fin 1280) :
    concatenate S256x1280 1 [⟨S256x256, v0⟩, ⟨S256x256, v1⟩, ⟨S256x256, v2⟩, ⟨S256x256, v3⟩, ⟨S256x256, v4⟩] h
      (ix2 r c) = g r c := by
  pointwise
  simp only [h0, h1, h2, h3, h4]
  split_ifs <;> (congr 1; apply Fin.ext; simp only []; omega)

/-- The row `s` places before row `r`, counted around the tile. -/
def rowBack (s : ℕ) (r : Fin 256) : Fin 256 := ⟨(r.val + 256 - s) % 256, Nat.mod_lt _ (by decide)⟩

/-- A slice of 256 columns from column `o`, rolled down by `s` rows. -/
theorem roll_apply (n : ℕ) (s : ℕ) (hs : s < 256) (o : ℕ) (a : FVec Ideal ⟨2, ![256, n]⟩ .f32)
    (h : (⟨2, ![256, n]⟩ : Shape).Slices ![0, o] S256x256) (h' : S256x256.Rotates 0 none) (ho : ∀ c : Fin 256, o + c.val < n)
    (r : Fin 256) (c : Fin 256) :
    dynamicRotate 0 (BitVec.ofNat 32 s) none (extractStridedSlice S256x256 ![0, o] a h) h' (ix2 r c)
     = a (ix2 (rowBack s r) ⟨o + c.val, ho c⟩) := by
  unfold rowBack
  pointwise
  simp only [BitVec.toNat_ofNat, show s % 2 ^ 32 % 256 = s by omega]
  exact congrArg a (Shape.idx_ext₂ (Nat.zero_add _) rfl)

/-- The six slices rolled and put together again: the left half rolled. -/
theorem rolled6 (s : ℕ) (hs : s < 256) (a : FVec Ideal S256x1536 .f32) (r : Fin 256) (f : Fin 1536) :
    concatenate S256x1536 1
      [⟨S256x256, dynamicRotate 0 (BitVec.ofNat 32 s) none (k0_pay8 a) rotates_S256x256_d0⟩,
       ⟨S256x256, dynamicRotate 0 (BitVec.ofNat 32 s) none (k0_pay9 a) rotates_S256x256_d0⟩,
       ⟨S256x256, dynamicRotate 0 (BitVec.ofNat 32 s) none (k0_pay10 a) rotates_S256x256_d0⟩,
       ⟨S256x256, dynamicRotate 0 (BitVec.ofNat 32 s) none (k0_pay11 a) rotates_S256x256_d0⟩,
       ⟨S256x256, dynamicRotate 0 (BitVec.ofNat 32 s) none (k0_pay12 a) rotates_S256x256_d0⟩,
       ⟨S256x256, dynamicRotate 0 (BitVec.ofNat 32 s) none (k0_pay13 a) rotates_S256x256_d0⟩]
      concatenates_S256x256_S256x256_S256x256_S256x256_S256x256_S256x256_S256x1536_d1 (ix2 r f) = a (ix2 (rowBack s r) f) :=
  cat6_apply _ _ _ _ _ _ _ (fun r f => a (ix2 (rowBack s r) f))
    (fun r c => roll_apply 1536 s hs 0 a slices_S256x1536_o0_0_S256x256 rotates_S256x256_d0 (fun c => by omega) r c)
    (fun r c => roll_apply 1536 s hs 256 a slices_S256x1536_o0_256_S256x256 rotates_S256x256_d0 (fun c => by omega) r c)
    (fun r c => roll_apply 1536 s hs 512 a slices_S256x1536_o0_512_S256x256 rotates_S256x256_d0 (fun c => by omega) r c)
    (fun r c => roll_apply 1536 s hs 768 a slices_S256x1536_o0_768_S256x256 rotates_S256x256_d0 (fun c => by omega) r c)
    (fun r c => roll_apply 1536 s hs 1024 a slices_S256x1536_o0_1024_S256x256 rotates_S256x256_d0 (fun c => by omega) r c)
    (fun r c => roll_apply 1536 s hs 1280 a slices_S256x1536_o0_1280_S256x256 rotates_S256x256_d0 (fun c => by omega) r c) r f

/-- The five slices of the right half, likewise. -/
theorem rolled5 (s : ℕ) (hs : s < 256) (a : FVec Ideal S256x1280 .f32) (r : Fin 256) (f : Fin 1280) :
    concatenate S256x1280 1
      [⟨S256x256, dynamicRotate 0 (BitVec.ofNat 32 s) none (k0_pay21 a) rotates_S256x256_d0⟩,
       ⟨S256x256, dynamicRotate 0 (BitVec.ofNat 32 s) none (k0_pay22 a) rotates_S256x256_d0⟩,
       ⟨S256x256, dynamicRotate 0 (BitVec.ofNat 32 s) none (k0_pay23 a) rotates_S256x256_d0⟩,
       ⟨S256x256, dynamicRotate 0 (BitVec.ofNat 32 s) none (k0_pay24 a) rotates_S256x256_d0⟩,
       ⟨S256x256, dynamicRotate 0 (BitVec.ofNat 32 s) none (k0_pay25 a) rotates_S256x256_d0⟩]
      concatenates_S256x256_S256x256_S256x256_S256x256_S256x256_S256x1280_d1 (ix2 r f) = a (ix2 (rowBack s r) f) :=
  cat5_apply _ _ _ _ _ _ (fun r f => a (ix2 (rowBack s r) f))
    (fun r c => roll_apply 1280 s hs 0 a slices_S256x1280_o0_0_S256x256 rotates_S256x256_d0 (fun c => by omega) r c)
    (fun r c => roll_apply 1280 s hs 256 a slices_S256x1280_o0_256_S256x256 rotates_S256x256_d0 (fun c => by omega) r c)
    (fun r c => roll_apply 1280 s hs 512 a slices_S256x1280_o0_512_S256x256 rotates_S256x256_d0 (fun c => by omega) r c)
    (fun r c => roll_apply 1280 s hs 768 a slices_S256x1280_o0_768_S256x256 rotates_S256x256_d0 (fun c => by omega) r c)
    (fun r c => roll_apply 1280 s hs 1024 a slices_S256x1280_o0_1024_S256x256 rotates_S256x256_d0 (fun c => by omega) r c) r f

theorem pay14_apply (a : FVec Ideal S256x1536 .f32) (r : Fin 256) (f : Fin 1536) :
    k0_pay14 a (ix2 r f) = a (ix2 (rowBack 1 r) f) := rolled6 1 (by decide) a r f
theorem pay15_apply (a : FVec Ideal S256x1536 .f32) (r : Fin 256) (f : Fin 1536) :
    k0_pay15 a (ix2 r f) = a (ix2 (rowBack 2 r) f) := rolled6 2 (by decide) a r f
theorem pay26_apply (a : FVec Ideal S256x1280 .f32) (r : Fin 256) (f : Fin 1280) :
    k0_pay26 a (ix2 r f) = a (ix2 (rowBack 1 r) f) := rolled5 1 (by decide) a r f
theorem pay27_apply (a : FVec Ideal S256x1280 .f32) (r : Fin 256) (f : Fin 1280) :
    k0_pay27 a (ix2 r f) = a (ix2 (rowBack 2 r) f) := rolled5 2 (by decide) a r f

/-- The place of row `r` among its sample's eight, as the body computes it. -/
theorem pay28_apply (r : Fin 256) (f : Fin 1280) : k0_pay28 (ix2 r f) = BitVec.ofNat 32 (r.val % 8) := by
  unfold k0_pay28
  pointwise
  revert r
  decide +kernel

theorem pay16_17_apply (r : Fin 256) (f : Fin 1536) :
    Scalar.select (k0_pay17 (ix2 r f)) (IntOp.addi (k0_pay16 (ix2 r f))
      (Scalar.select (Scalar.cmpi .eq 8#32 0#32) 1#32 8#32)) (k0_pay16 (ix2 r f)) = BitVec.ofNat 32 (r.val % 8) := by
  unfold k0_pay17 k0_pay16
  pointwise
  revert r
  decide +kernel

theorem sge_one : ∀ r : Fin 256, IntOp.cmpi .sge (BitVec.ofNat 32 (r.val % 8)) 1#32 = if r.val % 8 = 0 then 0#1 else 1#1 := by
  decide +kernel
theorem sge_two : ∀ r : Fin 256, IntOp.cmpi .sge (BitVec.ofNat 32 (r.val % 8)) 2#32 = if r.val % 8 < 2 then 0#1 else 1#1 := by
  decide +kernel

theorem sel1 (r : Fin 256) (x y : EReal) :
    Scalar.select (IntOp.cmpi .sge (BitVec.ofNat 32 (r.val % 8)) 1#32) x y = if r.val % 8 = 0 then y else x := by
  rw [sge_one]; split_ifs <;> rfl
theorem sel2 (r : Fin 256) (x y : EReal) :
    Scalar.select (IntOp.cmpi .sge (BitVec.ofNat 32 (r.val % 8)) 2#32) x y = if r.val % 8 < 2 then y else x := by
  rw [sge_two]; split_ifs <;> rfl

/-- The gate one row before row `r` of its sample's eight; before the first, the history laid out as `p`. -/
def back1 (a p : Fin 256 → EReal) (r : Fin 256) : EReal := if r.val % 8 = 0 then p r else a (rowBack 1 r)

/-- The gate two rows before. -/
def back2 (a p : Fin 256 → EReal) (r : Fin 256) : EReal := if r.val % 8 < 2 then p r else a (rowBack 2 r)

theorem pay18_aux (a c a1 a2 : FVec Ideal S256x1536 .f32) (n : BitVec 32) (q : IVec S256x1536 32) (s : IVec S256x1536 1)
    (hq : ∀ r f, Scalar.select (s (ix2 r f)) (IntOp.addi (q (ix2 r f)) n) (q (ix2 r f)) = BitVec.ofNat 32 (r.val % 8))
    (p1 p2 : Vec Ideal S256x1536 .f32) (b w0 w1 w2 : Vec Ideal S1x1536 .f32) (r : Fin 256) (f : Fin 1536) :
    k0_pay18 a c a1 a2 n q s p1 p2 b w0 w1 w2 (ix2 r f)
      = ffnElt (b (ix2 0 f)) (w0 (ix2 0 f)) (w1 (ix2 0 f)) (w2 (ix2 0 f))
          (if r.val % 8 < 2 then p2 (ix2 r f) else a2 (ix2 r f)) (if r.val % 8 = 0 then p1 (ix2 r f) else a1 (ix2 r f))
          (a (ix2 r f)) (c (ix2 r f)) := by
  unfold k0_pay18 ffnElt
  pointwise
  simp only [hq, sel1, sel2]

/-- The activated left half. -/
theorem pay18_apply (a c : FVec Ideal S256x1536 .f32) (p1 p2 : Vec Ideal S256x1536 .f32) (b w0 w1 w2 : Vec Ideal S1x1536 .f32)
    (r : Fin 256) (f : Fin 1536) :
    k0_pay18 a c (k0_pay14 a) (k0_pay15 a) (Scalar.select (Scalar.cmpi .eq 8#32 0#32) 1#32 8#32) k0_pay16 k0_pay17 p1 p2
      b w0 w1 w2 (ix2 r f)
      = ffnElt (b (ix2 0 f)) (w0 (ix2 0 f)) (w1 (ix2 0 f)) (w2 (ix2 0 f))
          (back2 (fun r => a (ix2 r f)) (fun r => p2 (ix2 r f)) r) (back1 (fun r => a (ix2 r f)) (fun r => p1 (ix2 r f)) r)
          (a (ix2 r f)) (c (ix2 r f)) := by
  rw [pay18_aux _ _ _ _ _ _ _ pay16_17_apply, pay14_apply, pay15_apply]
  rfl

theorem pay20_apply (g : FVec Ideal S256x1536 .bf16) (w : Vec Ideal S1536x1024 .bf16) (r : Fin 256) (d : Fin 1024) :
    k0_pay20 g (k0_pay19 w) (ix2 r d) = ∑ f : Fin 1536, g (ix2 r f) * w (ix2 f d) := by
  pointwise [k0_pay20, k0_pay19]

/-- The activated right half's share of the down projection. -/
theorem pay30_apply (a c : FVec Ideal S256x1280 .f32) (p1 p2 : Vec Ideal S256x1280 .f32) (b w0 w1 w2 : Vec Ideal S1x1280 .f32)
    (w : Vec Ideal S1280x1024 .bf16) (r : Fin 256) (d : Fin 1024) :
    k0_pay30 a c (k0_pay26 a) (k0_pay27 a) k0_pay28 k0_pay29 p1 p2 b w0 w1 w2 w (ix2 r d)
      = ∑ f : Fin 1280, ffnElt (b (ix2 0 f)) (w0 (ix2 0 f)) (w1 (ix2 0 f)) (w2 (ix2 0 f))
          (back2 (fun r => a (ix2 r f)) (fun r => p2 (ix2 r f)) r) (back1 (fun r => a (ix2 r f)) (fun r => p1 (ix2 r f)) r)
          (a (ix2 r f)) (c (ix2 r f)) * w (ix2 f d) := by
  have h1 := pay26_apply a
  have h2 := pay27_apply a
  have ht := pay28_apply
  unfold k0_pay30 k0_pay29 ffnElt back1 back2
  generalize k0_pay26 a = a1 at h1 ⊢
  generalize k0_pay27 a = a2 at h2 ⊢
  generalize k0_pay28 = q at ht ⊢
  pointwise
  simp only [ht, h1, h2, sel1, sel2]

theorem pay31_apply (u v : FVec Ideal S256x1024 .f32) (r : Fin 256) (d : Fin 1024) :
    k0_pay31 u v (ix2 r d) = v (ix2 r d) + u (ix2 r d) := by
  pointwise [k0_pay31]

/-- The gated per-layer embedding added, over the residual `h` plus the down projection `y`. -/
theorem pay32_apply (h y : FVec Ideal S256x1024 .f32) (g : Vec Ideal S1x1024 .f32) (w : Vec Ideal S1024x1024 .bf16)
    (p : Vec Ideal S256x256 .f32) (wp : Vec Ideal S256x1024 .bf16) (r : Fin 256) (d : Fin 1024) :
    k0_pay32 h y g w p wp (ix2 r d)
      = (h (ix2 r d) + y (ix2 r d)) + (∑ k : Fin 256, p (ix2 r k) * wp (ix2 k d))
        * Ideal.div 1 (1 + Ideal.exp (0 - ∑ k : Fin 1024,
          normRow (fun e => h (ix2 r e) + y (ix2 r e)) (fun e => g (ix2 0 e)) k * w (ix2 k d))) := by
  unfold k0_pay32 normRow
  pointwise

end Cert.PostSValue

end
-- ==== Proof.PostSTile.lean ====
/- The block after the mixers over the samples (256 rows, eight to a sample): what its body leaves in the two outputs, row
   by row, as the mathematics of one row of the layer (`postRow`). -/
module

public import proofs.«01_k».proof.Proof.PostSConv
public import proofs.«01_k».proof.Proof.Gen.PostSIdeal.Value
public import Idealize.ShloMosaic.Lib.Pipeline.ValueKit
public import Idealize.ShloMosaic.Lib.Pipeline.ReadBack

@[expose] public section

set_option maxRecDepth 16384

noncomputable section

namespace Cert.PostSValue

open Idealize.ShloMosaic Cert.PostSIdeal Cert.PostSIdeal.Gen Idealize.ShloMosaic.TcCoe Idealize.SL.Sem
open Cert.PostValue (normRow ffnElt Weights hRow projRow ffnRow pleRow postRow sum_cols)

section Tile

variable (x0 : Vec Ideal S256x1024 .f32) (x1 x2 : Vec Ideal S256x512 .bf16) (x3 : Vec Ideal S256x256 .f32)
  (x4 : Vec Ideal S1024x1024 .bf16) (x5 : Vec Ideal S1x1024 .f32) (x6 x7 : Vec Ideal S1024x2816 .bf16)
  (x8 : Vec Ideal S3x2816 .f32) (x9 : Vec Ideal S1x2816 .f32) (x10 : Vec Ideal S2816x1024 .bf16)
  (x11 : Vec Ideal S1x1024 .f32) (x12 : Vec Ideal S1024x1024 .bf16) (x13 : Vec Ideal S256x1024 .bf16)
  (p1 p2 : Vec Ideal S256x2816 .f32)

/-- The weights, read off the input blocks. -/
def tW : Weights where
  wo := fun k d => x4 (ix2 k d)
  gffn := fun d => x5 (ix2 0 d)
  wg := fun k f => x6 (ix2 k f)
  wu := fun k f => x7 (ix2 k f)
  cw := fun j f => x8 (ix2 j f)
  cb := fun f => x9 (ix2 0 f)
  wd := fun f d => x10 (ix2 f d)
  gple := fun d => x11 (ix2 0 d)
  wpg := fun k d => x12 (ix2 k d)
  wpp := fun k d => x13 (ix2 k d)

/-- Row `r` of the residual after the mixers. -/
def tRow (r : Fin 256) : Fin 1024 → EReal :=
  hRow (tW x4 x5 x6 x7 x8 x9 x10 x11 x12 x13) (fun d => x0 (ix2 r d)) (fun k => x1 (ix2 r k)) (fun k => x2 (ix2 r k))

/-- Row `r` of the gate. -/
def tGate (r : Fin 256) : Fin 2816 → EReal :=
  projRow (tW x4 x5 x6 x7 x8 x9 x10 x11 x12 x13).gffn (tW x4 x5 x6 x7 x8 x9 x10 x11 x12 x13).wg
    (tRow x0 x1 x2 x4 x5 x6 x7 x8 x9 x10 x11 x12 x13 r)

/-- Row `r` of the up projection. -/
def tUp (r : Fin 256) : Fin 2816 → EReal :=
  projRow (tW x4 x5 x6 x7 x8 x9 x10 x11 x12 x13).gffn (tW x4 x5 x6 x7 x8 x9 x10 x11 x12 x13).wu
    (tRow x0 x1 x2 x4 x5 x6 x7 x8 x9 x10 x11 x12 x13 r)

/-- The residual as the body stores it. -/
def bH : FVec Ideal S256x1024 .f32 :=
  k0_pay1 x0 x1 (View.ld x4 (Rect.unit ![0, 0] ![512, 1024] inb_S1024x1024_S512x1024_0_0)) x2
    (View.ld x4 (Rect.unit ![512, 0] ![512, 1024] inb_S1024x1024_S512x1024_512_0))

/-- … normalized. -/
def bN : FVec Ideal S256x1024 .bf16 :=
  k0_pay2 x0 x1 (View.ld x4 (Rect.unit ![0, 0] ![512, 1024] inb_S1024x1024_S512x1024_0_0)) x2
    (View.ld x4 (Rect.unit ![512, 0] ![512, 1024] inb_S1024x1024_S512x1024_512_0)) x5

/-- The gate and the up projection, left columns. -/
def bAL : FVec Ideal S256x1536 .f32 :=
  k0_pay3 x0 x1 (View.ld x4 (Rect.unit ![0, 0] ![512, 1024] inb_S1024x1024_S512x1024_0_0)) x2
    (View.ld x4 (Rect.unit ![512, 0] ![512, 1024] inb_S1024x1024_S512x1024_512_0)) x5
    (View.ld x6 (Rect.unit ![0, 0] ![1024, 1536] inb_S1024x2816_S1024x1536_0_0))
def bCL : FVec Ideal S256x1536 .f32 :=
  k0_pay4 x0 x1 (View.ld x4 (Rect.unit ![0, 0] ![512, 1024] inb_S1024x1024_S512x1024_0_0)) x2
    (View.ld x4 (Rect.unit ![512, 0] ![512, 1024] inb_S1024x1024_S512x1024_512_0)) x5
    (View.ld x7 (Rect.unit ![0, 0] ![1024, 1536] inb_S1024x2816_S1024x1536_0_0))

/-- … and right columns. -/
def bAR : FVec Ideal S256x1280 .f32 :=
  k0_pay6 (bN x0 x1 x2 x4 x5) (k0_pay5 (View.ld x6 (Rect.unit ![0, 1536] ![1024, 1280] inb_S1024x2816_S1024x1280_0_1536)))
def bCR : FVec Ideal S256x1280 .f32 :=
  k0_pay7 (bN x0 x1 x2 x4 x5) (View.ld x7 (Rect.unit ![0, 1536] ![1024, 1280] inb_S1024x2816_S1024x1280_0_1536))

/-- The left columns' share of the down projection, from the gate `a` and the up projection `c`. -/
def bDownL (a c : FVec Ideal S256x1536 .f32) : FVec Ideal S256x1024 .f32 :=
  k0_pay20 (k0_pay18 a c (k0_pay14 a) (k0_pay15 a) (Scalar.select (Scalar.cmpi .eq 8#32 0#32) 1#32 8#32) k0_pay16 k0_pay17
      (View.ld p1 (Rect.unit ![0, 0] ![256, 1536] inb_S256x2816_S256x1536_0_0))
      (View.ld p2 (Rect.unit ![0, 0] ![256, 1536] inb_S256x2816_S256x1536_0_0))
      (View.ld x9 (Rect.unit ![0, 0] ![1, 1536] inb_S1x2816_S1x1536_0_0))
      (View.ld x8 (Rect.unit ![0, 0] ![1, 1536] inb_S3x2816_S1x1536_0_0))
      (View.ld x8 (Rect.unit ![1, 0] ![1, 1536] inb_S3x2816_S1x1536_1_0))
      (View.ld x8 (Rect.unit ![2, 0] ![1, 1536] inb_S3x2816_S1x1536_2_0)))
    (k0_pay19 (View.ld x10 (Rect.unit ![0, 0] ![1536, 1024] inb_S2816x1024_S1536x1024_0_0)))

/-- The right columns' share. -/
def bDownR (a c : FVec Ideal S256x1280 .f32) : FVec Ideal S256x1024 .f32 :=
  k0_pay30 a c (k0_pay26 a) (k0_pay27 a) k0_pay28 k0_pay29
    (View.ld p1 (Rect.unit ![0, 1536] ![256, 1280] inb_S256x2816_S256x1280_0_1536))
    (View.ld p2 (Rect.unit ![0, 1536] ![256, 1280] inb_S256x2816_S256x1280_0_1536))
    (View.ld x9 (Rect.unit ![0, 1536] ![1, 1280] inb_S1x2816_S1x1280_0_1536))
    (View.ld x8 (Rect.unit ![0, 1536] ![1, 1280] inb_S3x2816_S1x1280_0_1536))
    (View.ld x8 (Rect.unit ![1, 1536] ![1, 1280] inb_S3x2816_S1x1280_1_1536))
    (View.ld x8 (Rect.unit ![2, 1536] ![1, 1280] inb_S3x2816_S1x1280_2_1536))
    (View.ld x10 (Rect.unit ![1536, 0] ![1280, 1024] inb_S2816x1024_S1280x1024_1536_0))

/-- The down projection. -/
def bAcc : FVec Ideal S256x1024 .f32 :=
  k0_pay31 (bDownR x8 x9 x10 p1 p2 (bAR x0 x1 x2 x4 x5 x6) (bCR x0 x1 x2 x4 x5 x7))
    (bDownL x8 x9 x10 p1 p2 (bAL x0 x1 x2 x4 x5 x6) (bCL x0 x1 x2 x4 x5 x7))

/-- The result as the body stores it. -/
def bOut : FVec Ideal S256x1024 .f32 :=
  k0_pay32 (bH x0 x1 x2 x4) (bAcc x0 x1 x2 x4 x5 x6 x7 x8 x9 x10 p1 p2) x11 x12 x3 x13

theorem bH_apply (r : Fin 256) (d : Fin 1024) :
    bH x0 x1 x2 x4 (ix2 r d) = tRow x0 x1 x2 x4 x5 x6 x7 x8 x9 x10 x11 x12 x13 r d := by
  unfold bH tRow hRow tW
  rw [pay1_apply]
  pointwise

theorem bN_apply (r : Fin 256) (d : Fin 1024) :
    bN x0 x1 x2 x4 x5 (ix2 r d)
      = normRow (tRow x0 x1 x2 x4 x5 x6 x7 x8 x9 x10 x11 x12 x13 r) (tW x4 x5 x6 x7 x8 x9 x10 x11 x12 x13).gffn d := by
  unfold bN
  rw [pay2_apply]
  have h : ∀ e, k0_pay1 x0 x1 (View.ld x4 (Rect.unit ![0, 0] ![512, 1024] inb_S1024x1024_S512x1024_0_0)) x2
    (View.ld x4 (Rect.unit ![512, 0] ![512, 1024] inb_S1024x1024_S512x1024_512_0)) (ix2 r e) = _ :=
    fun e => bH_apply x0 x1 x2 x4 x5 x6 x7 x8 x9 x10 x11 x12 x13 r e
  simp only [h]
  rfl

/-- A loaded column of either matrix under the normalized residual. -/
theorem proj_left (w : Vec Ideal S1024x2816 .bf16) (r : Fin 256) (f : Fin 1536) :
    (∑ k : Fin 1024, bN x0 x1 x2 x4 x5 (ix2 r k)
        * View.ld w (Rect.unit ![0, 0] ![1024, 1536] inb_S1024x2816_S1024x1536_0_0) (ix2 k f))
      = projRow (tW x4 x5 x6 x7 x8 x9 x10 x11 x12 x13).gffn (fun k f => w (ix2 k f))
          (tRow x0 x1 x2 x4 x5 x6 x7 x8 x9 x10 x11 x12 x13 r) ⟨f.val, by omega⟩ := by
  unfold projRow
  simp only [bN_apply x0 x1 x2 x4 x5 x6 x7 x8 x9 x10 x11 x12 x13]
  refine Finset.sum_congr rfl fun k _ => congrArg _ ?_
  pointwise

theorem proj_right (w : Vec Ideal S1024x2816 .bf16) (r : Fin 256) (f : Fin 1280) :
    (∑ k : Fin 1024, bN x0 x1 x2 x4 x5 (ix2 r k)
        * View.ld w (Rect.unit ![0, 1536] ![1024, 1280] inb_S1024x2816_S1024x1280_0_1536) (ix2 k f))
      = projRow (tW x4 x5 x6 x7 x8 x9 x10 x11 x12 x13).gffn (fun k f => w (ix2 k f))
          (tRow x0 x1 x2 x4 x5 x6 x7 x8 x9 x10 x11 x12 x13 r) ⟨1536 + f.val, by omega⟩ := by
  unfold projRow
  simp only [bN_apply x0 x1 x2 x4 x5 x6 x7 x8 x9 x10 x11 x12 x13]
  refine Finset.sum_congr rfl fun k _ => congrArg _ ?_
  pointwise

theorem bAL_apply (r : Fin 256) (f : Fin 1536) :
    bAL x0 x1 x2 x4 x5 x6 (ix2 r f) = tGate x0 x1 x2 x4 x5 x6 x7 x8 x9 x10 x11 x12 x13 r ⟨f.val, by omega⟩ :=
  (pay3_apply _ _ _ _ _ _ _ r f).trans (proj_left x0 x1 x2 x4 x5 x6 x7 x8 x9 x10 x11 x12 x13 x6 r f)

theorem bCL_apply (r : Fin 256) (f : Fin 1536) :
    bCL x0 x1 x2 x4 x5 x7 (ix2 r f) = tUp x0 x1 x2 x4 x5 x6 x7 x8 x9 x10 x11 x12 x13 r ⟨f.val, by omega⟩ :=
  (pay4_apply _ _ _ _ _ _ _ r f).trans (proj_left x0 x1 x2 x4 x5 x6 x7 x8 x9 x10 x11 x12 x13 x7 r f)

theorem bAR_apply (r : Fin 256) (f : Fin 1280) :
    bAR x0 x1 x2 x4 x5 x6 (ix2 r f) = tGate x0 x1 x2 x4 x5 x6 x7 x8 x9 x10 x11 x12 x13 r ⟨1536 + f.val, by omega⟩ :=
  (pay6_apply _ _ r f).trans (proj_right x0 x1 x2 x4 x5 x6 x7 x8 x9 x10 x11 x12 x13 x6 r f)

theorem bCR_apply (r : Fin 256) (f : Fin 1280) :
    bCR x0 x1 x2 x4 x5 x7 (ix2 r f) = tUp x0 x1 x2 x4 x5 x6 x7 x8 x9 x10 x11 x12 x13 r ⟨1536 + f.val, by omega⟩ :=
  (pay7_apply _ _ r f).trans (proj_right x0 x1 x2 x4 x5 x6 x7 x8 x9 x10 x11 x12 x13 x7 r f)

/-- An element after the activation, from the gate's and the up projection's rows. -/
def tElt (a c : Fin 256 → Fin 2816 → EReal) (r : Fin 256) (f : Fin 2816) : EReal :=
  ffnElt (x9 (ix2 0 f)) (x8 (ix2 0 f)) (x8 (ix2 1 f)) (x8 (ix2 2 f))
    (back2 (fun r => a r f) (fun r => p2 (ix2 r f)) r) (back1 (fun r => a r f) (fun r => p1 (ix2 r f)) r) (a r f) (c r f)

theorem bDownL_apply (a c : FVec Ideal S256x1536 .f32) (g u : Fin 256 → Fin 2816 → EReal)
    (ha : ∀ r (f : Fin 1536), a (ix2 r f) = g r ⟨f.val, by omega⟩)
    (hc : ∀ r (f : Fin 1536), c (ix2 r f) = u r ⟨f.val, by omega⟩) (r : Fin 256) (d : Fin 1024) :
    bDownL x8 x9 x10 p1 p2 a c (ix2 r d)
      = ∑ f : Fin 1536, tElt x8 x9 p1 p2 g u r ⟨f.val, by omega⟩ * x10 (ix2 ⟨f.val, by omega⟩ d) := by
  unfold bDownL
  rw [pay20_apply]
  refine Finset.sum_congr rfl fun f _ => ?_
  rw [pay18_apply]
  simp only [ha, hc]
  unfold tElt
  pointwise

theorem bDownR_apply (a c : FVec Ideal S256x1280 .f32) (g u : Fin 256 → Fin 2816 → EReal)
    (ha : ∀ r (f : Fin 1280), a (ix2 r f) = g r ⟨1536 + f.val, by omega⟩)
    (hc : ∀ r (f : Fin 1280), c (ix2 r f) = u r ⟨1536 + f.val, by omega⟩) (r : Fin 256) (d : Fin 1024) :
    bDownR x8 x9 x10 p1 p2 a c (ix2 r d)
      = ∑ f : Fin 1280, tElt x8 x9 p1 p2 g u r ⟨1536 + f.val, by omega⟩ * x10 (ix2 ⟨1536 + f.val, by omega⟩ d) := by
  unfold bDownR
  rw [pay30_apply]
  refine Finset.sum_congr rfl fun f _ => ?_
  simp only [ha, hc]
  unfold tElt
  pointwise

theorem bAcc_apply (r : Fin 256) (d : Fin 1024) :
    bAcc x0 x1 x2 x4 x5 x6 x7 x8 x9 x10 p1 p2 (ix2 r d)
      = ∑ f : Fin 2816, tElt x8 x9 p1 p2 (tGate x0 x1 x2 x4 x5 x6 x7 x8 x9 x10 x11 x12 x13)
          (tUp x0 x1 x2 x4 x5 x6 x7 x8 x9 x10 x11 x12 x13) r f * x10 (ix2 f d) := by
  unfold bAcc
  rw [pay31_apply, sum_cols,
    bDownL_apply x8 x9 x10 p1 p2 _ _ _ _ (bAL_apply x0 x1 x2 x4 x5 x6 x7 x8 x9 x10 x11 x12 x13)
      (bCL_apply x0 x1 x2 x4 x5 x6 x7 x8 x9 x10 x11 x12 x13),
    bDownR_apply x8 x9 x10 p1 p2 _ _ _ _ (bAR_apply x0 x1 x2 x4 x5 x6 x7 x8 x9 x10 x11 x12 x13)
      (bCR_apply x0 x1 x2 x4 x5 x6 x7 x8 x9 x10 x11 x12 x13)]

/-- THE RESULT, row by row. -/
theorem bOut_apply (r : Fin 256) (d : Fin 1024) :
    bOut x0 x1 x2 x3 x4 x5 x6 x7 x8 x9 x10 x11 x12 x13 p1 p2 (ix2 r d)
      = postRow (tW x4 x5 x6 x7 x8 x9 x10 x11 x12 x13) (tRow x0 x1 x2 x4 x5 x6 x7 x8 x9 x10 x11 x12 x13 r)
        (fun f => back2 (fun r => tGate x0 x1 x2 x4 x5 x6 x7 x8 x9 x10 x11 x12 x13 r f) (fun r => p2 (ix2 r f)) r)
        (fun f => back1 (fun r => tGate x0 x1 x2 x4 x5 x6 x7 x8 x9 x10 x11 x12 x13 r f) (fun r => p1 (ix2 r f)) r)
        (fun k => x3 (ix2 r k)) d := by
  unfold bOut
  rw [pay32_apply]
  simp only [bH_apply x0 x1 x2 x4 x5 x6 x7 x8 x9 x10 x11 x12 x13,
    bAcc_apply x0 x1 x2 x4 x5 x6 x7 x8 x9 x10 x11 x12 x13]
  rfl

/-- Two stores of all rows, left and right columns, over anything: read at an index. -/
theorem canon_halves (P : Vec Ideal S256x1280 .f32) (Q : Vec Ideal S256x1536 .f32)
    (L : List (View.Piece (Elt Ideal) S256x2816 .f32)) (g : Fin 256 → Fin 2816 → EReal)
    (hQ : ∀ j (f : Fin 1536), Q (ix2 j f) = g j ⟨f.val, by omega⟩)
    (hP : ∀ j (f : Fin 1280), P (ix2 j f) = g j ⟨1536 + f.val, by omega⟩) (j : Fin 256) (f : Fin 2816) :
    View.canon (⟨Rect.unit ![0, 1536] ![256, 1280] inb_S256x2816_S256x1280_0_1536, P⟩
      :: ⟨Rect.unit ![0, 0] ![256, 1536] inb_S256x2816_S256x1536_0_0, Q⟩ :: L) (ix2 j f) = g j f := by
  by_cases hf : f.val < 1536
  · have e : (ix2 j f : S256x2816.Idx)
        = (Rect.unit (s := S256x2816) ![0, 0] ![256, 1536] inb_S256x2816_S256x1536_0_0).emb (ix2 j ⟨f.val, hf⟩) := by
      refine Shape.idx_ext₂ ?_ ?_
      · show j.val = 0 + 1 * j.val; omega
      · show f.val = 0 + 1 * f.val; omega
    rw [View.canon_cons_of_not_mem, e, View.canon_cons_emb]
    · exact hQ j ⟨f.val, hf⟩
    · intro h
      have h1 : 1536 ≤ f.val := ((Rect.mem_set_unit (inb := inb_S256x2816_S256x1280_0_1536)).1 h 1).1
      omega
  · have e : (ix2 j f : S256x2816.Idx)
        = (Rect.unit (s := S256x2816) ![0, 1536] ![256, 1280] inb_S256x2816_S256x1280_0_1536).emb
            (ix2 j ⟨f.val - 1536, by omega⟩) := by
      refine Shape.idx_ext₂ ?_ ?_
      · show j.val = 0 + 1 * j.val; omega
      · show f.val = 1536 + 1 * (f.val - 1536); omega
    rw [e, View.canon_cons_emb]
    exact (hP j _).trans (congrArg (g j) (Fin.ext (by show 1536 + (f.val - 1536) = f.val; omega)))

end Tile

/-! ## What the body leaves -/

variable (m : (ℓ : Loc nD τ sig) → Buf (Elt Ideal) ℓ)

theorem out16 (c : Dev nD) (t : Fin cfg0.N) :
    (outsAt0 m c t).1 = bOut (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) := by
  unfold outsAt0
  frame_open
  simp (disch := decide) only [↓ View.readCov_skip, ↓ View.readCov_cons_toLoadRect, ↓ View.readCov_fill]
  frame_out
  rfl

theorem out17 (c : Dev nD) (t : Fin cfg0.N) (r : Fin 256) (f : Fin 2816) :
    (outsAt0 m c t).2 (ix2 r f) = tGate (iblk m c 0 t) (iblk m c 1 t) (iblk m c 2 t) (iblk m c 4 t) (iblk m c 5 t)
      (iblk m c 6 t) (iblk m c 7 t) (iblk m c 8 t) (iblk m c 9 t) (iblk m c 10 t) (iblk m c 11 t) (iblk m c 12 t)
      (iblk m c 13 t) r f := by
  unfold outsAt0
  frame_open
  simp (disch := decide) only [↓ View.readCov_skip, ↓ View.readCov_cons_toLoadRect, ↓ View.readCov_fill]
  frame_out
  exact canon_halves _ _ _ _ (fun r f => bAL_apply _ _ _ _ _ _ _ _ _ _ _ _ _ r f)
    (fun r f => bAR_apply _ _ _ _ _ _ _ _ _ _ _ _ _ r f) r f

end Cert.PostSValue

end
-- ==== Proof.PostSRun.lean ====
/- The arrays the block after the mixers over the samples leaves, row by row of the arguments. -/
module

public import proofs.«01_k».proof.Proof.PostSTile

@[expose] public section

set_option maxRecDepth 16384

noncomputable section

namespace Cert.PostSValue

open Idealize.ShloMosaic Cert.PostSIdeal Cert.PostSIdeal.Gen Idealize.ShloMosaic.TcCoe Idealize.SL.Sem
open Cert.PostValue (normRow ffnElt Weights hRow projRow ffnRow pleRow postRow sum_cols)

variable (m : (ℓ : Loc nD τ sig) → Buf (Elt Ideal) ℓ)

/-- The weights among the arguments. -/
def argW (c : Dev nD) : Weights where
  wo := fun k d => m ((c : Thread nD τ).loc main_arg5) (ix2 k d)
  gffn := fun d => m ((c : Thread nD τ).loc main_arg6) (ix1 d)
  wg := fun k f => m ((c : Thread nD τ).loc main_arg7) (ix2 k f)
  wu := fun k f => m ((c : Thread nD τ).loc main_arg8) (ix2 k f)
  cw := fun j f => m ((c : Thread nD τ).loc main_arg9) (ix2 j f)
  cb := fun f => m ((c : Thread nD τ).loc main_arg10) (ix1 f)
  wd := fun f d => m ((c : Thread nD τ).loc main_arg11) (ix2 f d)
  gple := fun d => m ((c : Thread nD τ).loc main_arg12) (ix1 d)
  wpg := fun k d => m ((c : Thread nD τ).loc main_arg13) (ix2 k d)
  wpp := fun k d => m ((c : Thread nD τ).loc main_arg14) (ix2 k d)

theorem idxR : ∀ t : Fin cfg0.N, win0_0.index t = ![0, 0] ∧ win0_1.index t = ![0, 0] ∧ win0_2.index t = ![0, 0]
    ∧ win0_3.index t = ![0, 0] ∧ win0_14.index t = ![0, 0] ∧ win0_15.index t = ![0, 0] ∧ win0_16.index t = ![0, 0]
    ∧ win0_17.index t = ![0, 0] :=
  (by decide +kernel : ∀ t : Fin grid0.N, _)
theorem idxW : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] :=
  (by decide +kernel : ∀ t : Fin grid0.N, _)

/-- What the host lays out before the call: a gain as one row. -/
theorem gffn_arr (c : Dev nD) : (V m c main_v1 : S1x1024.Idx → EReal)
    = broadcastInDim S1x1024 ![1] bcast_S1024_S1x1024_1 (m ((c : Thread nD τ).loc main_arg6)) := by
  unfold V
  simp only [hostOps0, hostOps0_1, hostOps0_2, hostOps0_3, hostOps0_4, List.flatten_cons, List.flatten_nil, List.cons_append,
    List.nil_append, List.append_nil, StableHlo.TRef.binary, StableHlo.TRef.unary, StableHlo.TRef.toBuf, StableHlo.TRef.ofBuf, cast_eq]
  after_results_simp

theorem cb_arr (c : Dev nD) : (V m c main_v4 : S1x2816.Idx → EReal)
    = broadcastInDim S1x2816 ![1] bcast_S2816_S1x2816_1 (m ((c : Thread nD τ).loc main_arg10)) := by
  unfold V
  simp only [hostOps0, hostOps0_1, hostOps0_2, hostOps0_3, hostOps0_4, List.flatten_cons, List.flatten_nil, List.cons_append,
    List.nil_append, List.append_nil, StableHlo.TRef.binary, StableHlo.TRef.unary, StableHlo.TRef.toBuf, StableHlo.TRef.ofBuf, cast_eq]
  after_results_simp

theorem gple_arr (c : Dev nD) : (V m c main_v6 : S1x1024.Idx → EReal)
    = broadcastInDim S1x1024 ![1] bcast_S1024_S1x1024_1 (m ((c : Thread nD τ).loc main_arg12)) := by
  unfold V
  simp only [hostOps0, hostOps0_1, hostOps0_2, hostOps0_3, hostOps0_4, List.flatten_cons, List.flatten_nil, List.cons_append,
    List.nil_append, List.append_nil, StableHlo.TRef.binary, StableHlo.TRef.unary, StableHlo.TRef.toBuf, StableHlo.TRef.ofBuf, cast_eq]
  after_results_simp

/-- The newest history row of each sample, seven rows of zeros after it. -/
theorem prev1_arr (c : Dev nD) : (V m c main_v11 : S256x2816.Idx → EReal)
    = shapeCast _ (pad S32x8x2816 ![0, 0, 0] ![0, 7, 0] ![0, 0, 0]
       (extractStridedSlice S32x1x2816 ![0, 1, 0] (m ((c : Thread nD τ).loc main_arg4)) slices_S32x2x2816_S32x1x2816_0_1_0)
       (sitofp (F := Ideal) .f32 (constantI S_ 32 0#32)) pads_S32x1x2816_S32x8x2816_000_070_000 h_S_)
      shapeCasts_S32x8x2816_S256x2816 := by
  unfold V
  simp only [hostOps0, hostOps0_1, hostOps0_2, hostOps0_3, hostOps0_4, List.flatten_cons, List.flatten_nil, List.cons_append,
    List.nil_append, List.append_nil, StableHlo.TRef.binary, StableHlo.TRef.unary, StableHlo.TRef.toBuf, StableHlo.TRef.ofBuf, cast_eq]
  after_results_simp
  rfl

/-- Both history rows of each sample, six rows of zeros after them. -/
theorem prev2_arr (c : Dev nD) : (V m c main_v13 : S256x2816.Idx → EReal)
    = shapeCast _ (pad S32x8x2816 ![0, 0, 0] ![0, 6, 0] ![0, 0, 0] (m ((c : Thread nD τ).loc main_arg4))
       (sitofp (F := Ideal) .f32 (constantI S_ 32 0#32)) pads_S32x2x2816_S32x8x2816_000_060_000 h_S_)
      shapeCasts_S32x8x2816_S256x2816 := by
  unfold V
  simp only [hostOps0, hostOps0_1, hostOps0_2, hostOps0_3, hostOps0_4, List.flatten_cons, List.flatten_nil, List.cons_append,
    List.nil_append, List.append_nil, StableHlo.TRef.binary, StableHlo.TRef.unary, StableHlo.TRef.toBuf, StableHlo.TRef.ofBuf, cast_eq]
  after_results_simp
  rfl

theorem x_blk (c : Dev nD) (t : Fin cfg0.N) (r : Fin 256) (d : Fin 1024) :
    iblk m c 0 t (ix2 r d) = m ((c : Thread nD τ).loc main_arg0) (ix2 r d) := by
  blk_ext! [iblk, V, idxR t]

theorem og_blk (c : Dev nD) (t : Fin cfg0.N) (r : Fin 256) (d : Fin 512) :
    iblk m c 1 t (ix2 r d) = m ((c : Thread nD τ).loc main_arg1) (ix2 r d) := by
  blk_ext! [iblk, V, idxR t]

theorem om_blk (c : Dev nD) (t : Fin cfg0.N) (r : Fin 256) (d : Fin 512) :
    iblk m c 2 t (ix2 r d) = m ((c : Thread nD τ).loc main_arg2) (ix2 r d) := by
  blk_ext! [iblk, V, idxR t]

theorem p_blk (c : Dev nD) (t : Fin cfg0.N) (r : Fin 256) (k : Fin 256) :
    iblk m c 3 t (ix2 r k) = m ((c : Thread nD τ).loc main_arg3) (ix2 r k) := by
  blk_ext! [iblk, V, idxR t]

theorem wo_blk (c : Dev nD) (t : Fin cfg0.N) (k : Fin 1024) (d : Fin 1024) :
    iblk m c 4 t (ix2 k d) = m ((c : Thread nD τ).loc main_arg5) (ix2 k d) := by
  blk_ext! [iblk, V, idxW t]

theorem gffn_blk (c : Dev nD) (t : Fin cfg0.N) (d : Fin 1024) :
    iblk m c 5 t (ix2 0 d) = m ((c : Thread nD τ).loc main_arg6) (ix1 d) := by
  have e : iblk m c 5 t (ix2 0 d) = V m c main_v1 (ix2 0 d) := by
    blk_ext! [iblk, idxW t]
  rw [e, gffn_arr]
  pointwise

theorem wg_blk (c : Dev nD) (t : Fin cfg0.N) (k : Fin 1024) (d : Fin 2816) :
    iblk m c 6 t (ix2 k d) = m ((c : Thread nD τ).loc main_arg7) (ix2 k d) := by
  blk_ext! [iblk, V, idxW t]

theorem wu_blk (c : Dev nD) (t : Fin cfg0.N) (k : Fin 1024) (d : Fin 2816) :
    iblk m c 7 t (ix2 k d) = m ((c : Thread nD τ).loc main_arg8) (ix2 k d) := by
  blk_ext! [iblk, V, idxW t]

theorem cw_blk (c : Dev nD) (t : Fin cfg0.N) (k : Fin 3) (d : Fin 2816) :
    iblk m c 8 t (ix2 k d) = m ((c : Thread nD τ).loc main_arg9) (ix2 k d) := by
  blk_ext! [iblk, V, idxW t]

theorem cb_blk (c : Dev nD) (t : Fin cfg0.N) (d : Fin 2816) :
    iblk m c 9 t (ix2 0 d) = m ((c : Thread nD τ).loc main_arg10) (ix1 d) := by
  have e : iblk m c 9 t (ix2 0 d) = V m c main_v4 (ix2 0 d) := by
    blk_ext! [iblk, idxW t]
  rw [e, cb_arr]
  pointwise

theorem wd_blk (c : Dev nD) (t : Fin cfg0.N) (k : Fin 2816) (d : Fin 1024) :
    iblk m c 10 t (ix2 k d) = m ((c : Thread nD τ).loc main_arg11) (ix2 k d) := by
  blk_ext! [iblk, V, idxW t]

theorem gple_blk (c : Dev nD) (t : Fin cfg0.N) (d : Fin 1024) :
    iblk m c 11 t (ix2 0 d) = m ((c : Thread nD τ).loc main_arg12) (ix1 d) := by
  have e : iblk m c 11 t (ix2 0 d) = V m c main_v6 (ix2 0 d) := by
    blk_ext! [iblk, idxW t]
  rw [e, gple_arr]
  pointwise

theorem wpg_blk (c : Dev nD) (t : Fin cfg0.N) (k : Fin 1024) (d : Fin 1024) :
    iblk m c 12 t (ix2 k d) = m ((c : Thread nD τ).loc main_arg13) (ix2 k d) := by
  blk_ext! [iblk, V, idxW t]

theorem wpp_blk (c : Dev nD) (t : Fin cfg0.N) (k : Fin 256) (d : Fin 1024) :
    iblk m c 13 t (ix2 k d) = m ((c : Thread nD τ).loc main_arg14) (ix2 k d) := by
  blk_ext! [iblk, V, idxW t]

/-- Zeros after the one row of a sample leave its first row. -/
theorem pad_one (x : FVec Ideal S32x1x2816 .f32) (z : FVec Ideal S_ .f32) (r : Fin 256) (f : Fin 2816) (h : r.val % 8 = 0) :
    shapeCast S256x2816 (pad S32x8x2816 ![0, 0, 0] ![0, 7, 0] ![0, 0, 0] x z pads_S32x1x2816_S32x8x2816_000_070_000 h_S_)
      shapeCasts_S32x8x2816_S256x2816 (ix2 r f) = x (ix3 ⟨r.val / 8, by omega⟩ 0 f) := by
  pointwise
  rw [dif_pos ⟨by omega, by omega⟩]
  exact congrArg (fun j => x (ix3 _ j f)) (Fin.ext h)

/-- Zeros after the two rows of a sample leave its first two rows. -/
theorem pad_two (x : FVec Ideal S32x2x2816 .f32) (z : FVec Ideal S_ .f32) (r : Fin 256) (f : Fin 2816) (h : r.val % 8 < 2) :
    shapeCast S256x2816 (pad S32x8x2816 ![0, 0, 0] ![0, 6, 0] ![0, 0, 0] x z pads_S32x2x2816_S32x8x2816_000_060_000 h_S_)
      shapeCasts_S32x8x2816_S256x2816 (ix2 r f) = x (ix3 ⟨r.val / 8, by omega⟩ ⟨r.val % 8, h⟩ f) := by
  pointwise
  rw [dif_pos ⟨by omega, by omega⟩]

/-- The history one row before a sample's first row, as the host lays it out. -/
theorem prev1_blk (c : Dev nD) (t : Fin cfg0.N) (r : Fin 256) (f : Fin 2816) (h : r.val % 8 = 0) :
    iblk m c 14 t (ix2 r f) = m ((c : Thread nD τ).loc main_arg4) (ix3 ⟨r.val / 8, by omega⟩ 1 f) := by
  have e : iblk m c 14 t (ix2 r f) = V m c main_v11 (ix2 r f) := by
    blk_ext! [iblk, idxR t]
  rw [e, prev1_arr, pad_one _ _ r f h]
  pointwise

/-- The history two rows before a sample's first two rows. -/
theorem prev2_blk (c : Dev nD) (t : Fin cfg0.N) (r : Fin 256) (f : Fin 2816) (h : r.val % 8 < 2) :
    iblk m c 15 t (ix2 r f) = m ((c : Thread nD τ).loc main_arg4) (ix3 ⟨r.val / 8, by omega⟩ ⟨r.val % 8, h⟩ f) := by
  have e : iblk m c 15 t (ix2 r f) = V m c main_v13 (ix2 r f) := by
    blk_ext! [iblk, idxR t]
  rw [e, prev2_arr]
  exact pad_two _ _ r f h

theorem tW_eq (c : Dev nD) (t : Fin cfg0.N) :
    tW (iblk m c 4 t) (iblk m c 5 t) (iblk m c 6 t) (iblk m c 7 t) (iblk m c 8 t) (iblk m c 9 t) (iblk m c 10 t)
      (iblk m c 11 t) (iblk m c 12 t) (iblk m c 13 t) = argW m c := by
  unfold tW argW
  simp only [wo_blk, gffn_blk, wg_blk, wu_blk, cw_blk, cb_blk, wd_blk, gple_blk, wpg_blk, wpp_blk]

/-- Row `R` of the residual after the mixers. -/
def resid (c : Dev nD) (R : Fin 256) : Fin 1024 → EReal :=
  hRow (argW m c) (fun d => m ((c : Thread nD τ).loc main_arg0) (ix2 R d))
    (fun k => m ((c : Thread nD τ).loc main_arg1) (ix2 R k)) (fun k => m ((c : Thread nD τ).loc main_arg2) (ix2 R k))

/-- Row `R` of the gate. -/
def gate (c : Dev nD) (R : Fin 256) : Fin 2816 → EReal := projRow (argW m c).gffn (argW m c).wg (resid m c R)

/-- The gate one row before row `R` of its sample's eight; before the first, the history's newest row. -/
def gate1 (c : Dev nD) (R : Fin 256) (f : Fin 2816) : EReal :=
  if R.val % 8 = 0 then m ((c : Thread nD τ).loc main_arg4) (ix3 ⟨R.val / 8, by omega⟩ 1 f)
  else gate m c ⟨R.val - 1, by omega⟩ f

/-- The gate two rows before; before the first two, the history's rows. -/
def gate2 (c : Dev nD) (R : Fin 256) (f : Fin 2816) : EReal :=
  if h : R.val % 8 < 2 then m ((c : Thread nD τ).loc main_arg4) (ix3 ⟨R.val / 8, by omega⟩ ⟨R.val % 8, h⟩ f)
  else gate m c ⟨R.val - 2, by omega⟩ f

theorem tRow_eq (c : Dev nD) (t : Fin cfg0.N) (r : Fin 256) :
    tRow (iblk m c 0 t) (iblk m c 1 t) (iblk m c 2 t) (iblk m c 4 t) (iblk m c 5 t) (iblk m c 6 t) (iblk m c 7 t)
      (iblk m c 8 t) (iblk m c 9 t) (iblk m c 10 t) (iblk m c 11 t) (iblk m c 12 t) (iblk m c 13 t) r = resid m c r := by
  unfold tRow resid
  rw [tW_eq]
  simp only [x_blk, og_blk, om_blk]

theorem tGate_eq (c : Dev nD) (t : Fin cfg0.N) :
    tGate (iblk m c 0 t) (iblk m c 1 t) (iblk m c 2 t) (iblk m c 4 t) (iblk m c 5 t) (iblk m c 6 t) (iblk m c 7 t)
      (iblk m c 8 t) (iblk m c 9 t) (iblk m c 10 t) (iblk m c 11 t) (iblk m c 12 t) (iblk m c 13 t) = gate m c := by
  funext r
  unfold tGate gate
  rw [tW_eq, tRow_eq]

theorem back1_eq (c : Dev nD) (t : Fin cfg0.N) (r : Fin 256) (f : Fin 2816) :
    back1 (fun r => gate m c r f) (fun r => iblk m c 14 t (ix2 r f)) r = gate1 m c r f := by
  unfold back1 gate1 rowBack
  have hr := r.isLt
  by_cases h : r.val % 8 = 0
  · rw [if_pos h, if_pos h]
    exact prev1_blk m c t r f h
  · rw [if_neg h, if_neg h]
    exact congrArg (fun R => gate m c R f) (Fin.ext (by show (r.val + 256 - 1) % 256 = r.val - 1; omega))

theorem back2_eq (c : Dev nD) (t : Fin cfg0.N) (r : Fin 256) (f : Fin 2816) :
    back2 (fun r => gate m c r f) (fun r => iblk m c 15 t (ix2 r f)) r = gate2 m c r f := by
  unfold back2 gate2 rowBack
  have hr := r.isLt
  by_cases h : r.val % 8 < 2
  · rw [if_pos h, dif_pos h]
    exact prev2_blk m c t r f h
  · rw [if_neg h, dif_neg h]
    exact congrArg (fun R => gate m c R f) (Fin.ext (by show (r.val + 256 - 2) % 256 = r.val - 2; omega))

theorem out16_row (c : Dev nD) (t : Fin cfg0.N) (R : Fin 256) (d : Fin 1024) :
    (outsAt0 m c t).1 (ix2 R d) = postRow (argW m c) (resid m c R) (gate2 m c R) (gate1 m c R)
      (fun k => m ((c : Thread nD τ).loc main_arg3) (ix2 R k)) d := by
  rw [out16, bOut_apply, tW_eq, tRow_eq, tGate_eq]
  simp only [back1_eq, back2_eq, p_blk]

theorem out17_row (c : Dev nD) (t : Fin cfg0.N) (R : Fin 256) (f : Fin 2816) :
    (outsAt0 m c t).2 (ix2 R f) = gate m c R f := by
  rw [out17, tGate_eq]

theorem flush16 : ∀ t : Fin cfg0.N, (cfg0.win 16).flush t = true := (by decide +kernel : ∀ t : Fin grid0.N, _)
theorem flush17 : ∀ t : Fin cfg0.N, (cfg0.win 17).flush t = true := (by decide +kernel : ∀ t : Fin grid0.N, _)

/-- The one point of the grid. -/
def pt : Fin cfg0.N := ⟨0, by rw [show cfg0.N = 1 from N_0]; decide⟩

theorem read16 (A : Vec Ideal S256x1024 .f32) (t : Fin cfg0.N) (R : Fin 256) (d : Fin 1024) :
    ((cfg0.win 16).blk t).view.read (Elt Ideal) A (ix2 R d) = A (ix2 R d) := by
  blk_ext! [idxR t]

theorem read17 (A : Vec Ideal S256x2816 .f32) (t : Fin cfg0.N) (R : Fin 256) (f : Fin 2816) :
    ((cfg0.win 17).blk t).view.read (Elt Ideal) A (ix2 R f) = A (ix2 R f) := by
  blk_ext! [idxR t]

/-- The first output array. -/
theorem arr16 (c : Dev nD) (R : Fin 256) (d : Fin 1024) :
    (dats m 0 c).arrAt 16 cfg0.N (ix2 R d) = postRow (argW m c) (resid m c R) (gate2 m c R) (gate1 m c R)
      (fun k => m ((c : Thread nD τ).loc main_arg3) (ix2 R k)) d := by
  have h2 := congrFun (PostSIdeal.Value.blocks16 m c pt (flush16 pt)) (ix2 R d)
  rw [PostSIdeal.Value.flushed16] at h2
  refine (read16 _ pt R d).symm.trans (h2.trans ?_)
  exact (show _ = (outsAt0 m c pt).1 (ix2 R d) from rfl).trans (out16_row m c pt R d)

/-- The second output array. -/
theorem arr17 (c : Dev nD) (R : Fin 256) (f : Fin 2816) :
    (dats m 0 c).arrAt 17 cfg0.N (ix2 R f) = gate m c R f := by
  have h2 := congrFun (PostSIdeal.Value.blocks17 m c pt (flush17 pt)) (ix2 R f)
  rw [PostSIdeal.Value.flushed17] at h2
  refine (read17 _ pt R f).symm.trans (h2.trans ?_)
  exact (show _ = (outsAt0 m c pt).2 (ix2 R f) from rfl).trans (out17_row m c pt R f)

end Cert.PostSValue

end
-- ==== Proof.PostSRef.lean ====
/- The reference of the block after the mixers over the samples, read at an index: the same row mathematics as the
   kernel's. -/
module

public import proofs.«01_k».proof.Proof.PostRef
public import proofs.«01_k».proof.Proof.Gen.PostSRefIdeal.Read

@[expose] public section

set_option maxRecDepth 16384

noncomputable section

namespace Cert.PostSRefValue

open Idealize.ShloMosaic Cert.PostSRefIdeal Cert.PostSRefIdeal.Gen Cert.PostSRefIdeal.Value Cert.PostSRefIdeal.Read Cert.PostValue
open Cert.PostRefValue (div_one_add sum_halves)

section

variable (x0 : (⟨S256x1024, .f32⟩ : BufTy).Contents (Elt Ideal)) (x1 x2 : (⟨S256x512, .bf16⟩ : BufTy).Contents (Elt Ideal))
  (x3 : (⟨S256x256, .f32⟩ : BufTy).Contents (Elt Ideal)) (x4 : (⟨S32x2x2816, .f32⟩ : BufTy).Contents (Elt Ideal))
  (x5 : (⟨S1024x1024, .f32⟩ : BufTy).Contents (Elt Ideal))
  (x6 : (⟨S1024, .f32⟩ : BufTy).Contents (Elt Ideal)) (x7 x8 : (⟨S1024x2816, .f32⟩ : BufTy).Contents (Elt Ideal))
  (x9 : (⟨S3x2816, .f32⟩ : BufTy).Contents (Elt Ideal)) (x10 : (⟨S2816, .f32⟩ : BufTy).Contents (Elt Ideal))
  (x11 : (⟨S2816x1024, .f32⟩ : BufTy).Contents (Elt Ideal)) (x12 : (⟨S1024, .f32⟩ : BufTy).Contents (Elt Ideal))
  (x13 : (⟨S1024x1024, .f32⟩ : BufTy).Contents (Elt Ideal)) (x14 : (⟨S256x1024, .f32⟩ : BufTy).Contents (Elt Ideal))

/-- The weights among the arguments. -/
def refW : Weights where
  wo := fun k d => x5 (ix2 k d)
  gffn := fun d => x6 (ix1 d)
  wg := fun k f => x7 (ix2 k f)
  wu := fun k f => x8 (ix2 k f)
  cw := fun j f => x9 (ix2 j f)
  cb := fun f => x10 (ix1 f)
  wd := fun f d => x11 (ix2 f d)
  gple := fun d => x12 (ix1 d)
  wpg := fun k d => x13 (ix2 k d)
  wpp := fun k d => x14 (ix2 k d)

/-- Row `s` of sample `b` among all rows. -/
abbrev row (b : Fin 32) (s : Fin 8) : Fin 256 := ⟨b.val * 8 + s.val, by omega⟩

def rRow (b : Fin 32) (s : Fin 8) : Fin 1024 → EReal :=
  hRow (refW x5 x6 x7 x8 x9 x10 x11 x12 x13 x14) (fun d => x0 (ix2 (row b s) d)) (fun k => x1 (ix2 (row b s) k))
    (fun k => x2 (ix2 (row b s) k))

theorem v0_ix (b : Fin 32) (s : Fin 8) (d : Fin 1024) : val_main_v0 (F := Ideal) x0 (ix3 b s d) = x0 (ix2 (row b s) d) := by
  unfold val_main_v0
  pointwise

theorem v5_ixL (b : Fin 32) (s : Fin 8) (k : Fin 512) :
    val_main_v5 (F := Ideal) x1 x2 (ix3 b s ⟨k.val, by omega⟩) = x1 (ix2 (row b s) k) := by
  unfold val_main_v5 val_main_v4 val_main_v3 val_main_v2 val_main_v1
  pointwise

theorem v5_ixR (b : Fin 32) (s : Fin 8) (k : Fin 512) :
    val_main_v5 (F := Ideal) x1 x2 (ix3 b s ⟨512 + k.val, by omega⟩) = x2 (ix2 (row b s) k) := by
  unfold val_main_v5 val_main_v4 val_main_v3 val_main_v2 val_main_v1
  pointwise

theorem v7_ix (b : Fin 32) (s : Fin 8) (d : Fin 1024) :
    val_main_v7 (F := Ideal) x0 x1 x2 x5 (ix3 b s d) = rRow x0 x1 x2 x5 x6 x7 x8 x9 x10 x11 x12 x13 x14 b s d := by
  have hL := v5_ixL x1 x2 b s
  have hR := v5_ixR x1 x2 b s
  have h0 := v0_ix x0 b s d
  unfold val_main_v7 val_main_v6
  generalize val_main_v5 (F := Ideal) x1 x2 = v5 at hL hR ⊢
  generalize val_main_v0 (F := Ideal) x0 = v0 at h0 ⊢
  pointwise
  rw [sum_halves]
  simp only [hL, hR, h0]
  unfold rRow hRow refW
  rw [add_assoc]

theorem v20_ix (b : Fin 32) (s : Fin 8) (d : Fin 1024) :
    val_main_v20 (F := Ideal) x0 x1 x2 x5 x6 (ix3 b s d)
      = normRow (rRow x0 x1 x2 x5 x6 x7 x8 x9 x10 x11 x12 x13 x14 b s) (refW x5 x6 x7 x8 x9 x10 x11 x12 x13 x14).gffn d := by
  have h := v7_ix x0 x1 x2 x5 x6 x7 x8 x9 x10 x11 x12 x13 x14 b s
  unfold val_main_v20 val_main_v19 val_main_v18 val_main_v17 val_main_v16 val_main_v15 val_main_v14 val_main_v13 val_main_v12
    val_main_v11 val_main_v10 val_main_v9 val_main_v8 val_main_cst val_main_cst_0 val_main_cst_1
  generalize val_main_v7 (F := Ideal) x0 x1 x2 x5 = v7 at h ⊢
  pointwise
  simp only [h]
  rfl

theorem v21_ix (b : Fin 32) (s : Fin 8) (f : Fin 2816) :
    val_main_v21 (F := Ideal) x0 x1 x2 x5 x6 x7 (ix3 b s f)
      = projRow (refW x5 x6 x7 x8 x9 x10 x11 x12 x13 x14).gffn (refW x5 x6 x7 x8 x9 x10 x11 x12 x13 x14).wg
        (rRow x0 x1 x2 x5 x6 x7 x8 x9 x10 x11 x12 x13 x14 b s) f := by
  have h := v20_ix x0 x1 x2 x5 x6 x7 x8 x9 x10 x11 x12 x13 x14 b s
  unfold val_main_v21
  generalize val_main_v20 (F := Ideal) x0 x1 x2 x5 x6 = v at h ⊢
  pointwise
  simp only [h]
  rfl

theorem v22_ix (b : Fin 32) (s : Fin 8) (f : Fin 2816) :
    val_main_v22 (F := Ideal) x0 x1 x2 x5 x6 x8 (ix3 b s f)
      = projRow (refW x5 x6 x7 x8 x9 x10 x11 x12 x13 x14).gffn (refW x5 x6 x7 x8 x9 x10 x11 x12 x13 x14).wu
        (rRow x0 x1 x2 x5 x6 x7 x8 x9 x10 x11 x12 x13 x14 b s) f := by
  have h := v20_ix x0 x1 x2 x5 x6 x7 x8 x9 x10 x11 x12 x13 x14 b s
  unfold val_main_v22
  generalize val_main_v20 (F := Ideal) x0 x1 x2 x5 x6 = v at h ⊢
  pointwise
  simp only [h]
  rfl

/-- The gate `j` rows before row `s`; before the sample, the history. -/
def rGate (b : Fin 32) (s : Fin 8) (j : ℕ) (f : Fin 2816) : EReal :=
  if h : s.val < j then x4 (ix3 b ⟨(s.val + 2 - j) % 2, by omega⟩ f)
  else val_main_v21 (F := Ideal) x0 x1 x2 x5 x6 x7 (ix3 b ⟨s.val - j, by omega⟩ f)

/-- The gate after its history of two rows. -/
theorem v23_ix (b : Fin 32) (s : Fin 10) (f : Fin 2816) :
    val_main_v23 (F := Ideal) x0 x1 x2 x4 x5 x6 x7 (ix3 b s f)
      = if h : s.val < 2 then x4 (ix3 b ⟨s.val, h⟩ f)
        else val_main_v21 (F := Ideal) x0 x1 x2 x5 x6 x7 (ix3 b ⟨s.val - 2, by omega⟩ f) := by
  unfold val_main_v23
  generalize val_main_v21 (F := Ideal) x0 x1 x2 x5 x6 x7 = v
  pointwise

theorem v50_ix (b : Fin 32) (s : Fin 8) (f : Fin 2816) :
    val_main_v50 (F := Ideal) x0 x1 x2 x4 x5 x6 x7 x8 x9 x10 (ix3 b s f)
      = ffnElt (x10 (ix1 f)) (x9 (ix2 0 f)) (x9 (ix2 1 f)) (x9 (ix2 2 f)) (rGate x0 x1 x2 x4 x5 x6 x7 b s 2 f)
        (rGate x0 x1 x2 x4 x5 x6 x7 b s 1 f) (val_main_v21 (F := Ideal) x0 x1 x2 x5 x6 x7 (ix3 b s f))
        (val_main_v22 (F := Ideal) x0 x1 x2 x5 x6 x8 (ix3 b s f)) := by
  have h := v23_ix x0 x1 x2 x4 x5 x6 x7 b
  have h2 : val_main_v23 (F := Ideal) x0 x1 x2 x4 x5 x6 x7 (ix3 b ⟨s.val, by omega⟩ f) = rGate x0 x1 x2 x4 x5 x6 x7 b s 2 f := by
    rw [h]
    unfold rGate
    by_cases hs : s.val < 2
    · rw [dif_pos hs, dif_pos hs]
      exact congrArg (fun j => x4 (ix3 b j f)) (Fin.ext (by show s.val = (s.val + 2 - 2) % 2; omega))
    · rw [dif_neg hs, dif_neg hs]
  have h1 : val_main_v23 (F := Ideal) x0 x1 x2 x4 x5 x6 x7 (ix3 b ⟨1 + s.val, by omega⟩ f) = rGate x0 x1 x2 x4 x5 x6 x7 b s 1 f := by
    rw [h]
    unfold rGate
    have e : ∀ (s' s'' : ℕ) (h' : s' < 8) (h'' : s'' < 8), s' = s'' →
        val_main_v21 (F := Ideal) x0 x1 x2 x5 x6 x7 (ix3 b ⟨s', h'⟩ f) = val_main_v21 (F := Ideal) x0 x1 x2 x5 x6 x7 (ix3 b ⟨s'', h''⟩ f) := by
      intro s' s'' h' h'' e; subst e; rfl
    by_cases hs : s.val = 0
    · rw [dif_pos (by show 1 + s.val < 2; omega), dif_pos (by omega)]
      exact congrArg (fun j => x4 (ix3 b j f)) (Fin.ext (by show 1 + s.val = (s.val + 2 - 1) % 2; omega))
    · rw [dif_neg (by show ¬ 1 + s.val < 2; omega), dif_neg (by omega)]
      exact e _ _ _ _ (by show 1 + s.val - 2 = s.val - 1; omega)
  have h0 : val_main_v23 (F := Ideal) x0 x1 x2 x4 x5 x6 x7 (ix3 b ⟨2 + s.val, by omega⟩ f)
      = val_main_v21 (F := Ideal) x0 x1 x2 x5 x6 x7 (ix3 b s f) := by
    rw [h, dif_neg (by show ¬ 2 + s.val < 2; omega)]
    exact congrArg (fun s => val_main_v21 (F := Ideal) x0 x1 x2 x5 x6 x7 (ix3 b s f)) (Fin.ext (by show 2 + s.val - 2 = s.val; omega))
  unfold val_main_v50 val_main_v49 val_main_call0_v5 val_main_call0_v4 val_main_call0_v3 val_main_call0_v2 val_main_call0_v1
    val_main_call0_v0 val_main_v48 val_main_v47 val_main_v46 val_main_v45 val_main_v44 val_main_v43 val_main_v42 val_main_v41
    val_main_v40 val_main_v39 val_main_v38 val_main_v37 val_main_v36 val_main_v35 val_main_v34 val_main_v33 val_main_v32
    val_main_v31 val_main_v30 val_main_v29 val_main_v28 val_main_v27 val_main_v26 val_main_v25 val_main_v24
    val_main_cst_2 val_main_call0_cst val_main_call0_cst_0
  generalize val_main_v23 (F := Ideal) x0 x1 x2 x4 x5 x6 x7 = v24 at h0 h1 h2 ⊢
  generalize val_main_v22 (F := Ideal) x0 x1 x2 x5 x6 x8 = v23
  pointwise
  rw [h0, h1, h2]
  unfold ffnElt
  rw [div_one_add (_ + _)]
  simp only [zero_add, zero_sub, add_assoc]

/-- The activated row of the feed-forward part. -/
theorem v53_ix (b : Fin 32) (s : Fin 8) (d : Fin 1024) :
    val_main_v53 (F := Ideal) x0 x1 x2 x4 x5 x6 x7 x8 x9 x10 x11 (ix3 b s d)
      = ffnRow (refW x5 x6 x7 x8 x9 x10 x11 x12 x13 x14) (rRow x0 x1 x2 x5 x6 x7 x8 x9 x10 x11 x12 x13 x14 b s)
        (fun f => rGate x0 x1 x2 x4 x5 x6 x7 b s 2 f) (fun f => rGate x0 x1 x2 x4 x5 x6 x7 b s 1 f) d := by
  have h51 := v50_ix x0 x1 x2 x4 x5 x6 x7 x8 x9 x10 b s
  have h7 := v7_ix x0 x1 x2 x5 x6 x7 x8 x9 x10 x11 x12 x13 x14 b s
  have h22 := v21_ix x0 x1 x2 x5 x6 x7 x8 x9 x10 x11 x12 x13 x14 b s
  have h23 := v22_ix x0 x1 x2 x5 x6 x7 x8 x9 x10 x11 x12 x13 x14 b s
  unfold val_main_v53 val_main_v51
  generalize val_main_v50 (F := Ideal) x0 x1 x2 x4 x5 x6 x7 x8 x9 x10 = v51 at h51 ⊢
  generalize val_main_v7 (F := Ideal) x0 x1 x2 x5 = v7 at h7 ⊢
  pointwise
  simp only [h51, h7, h22, h23]
  rfl

theorem v68_ix (b : Fin 32) (s : Fin 8) (d : Fin 1024) :
    val_main_v68 (F := Ideal) x0 x1 x2 x4 x5 x6 x7 x8 x9 x10 x11 x12 (ix3 b s d)
      = normRow (ffnRow (refW x5 x6 x7 x8 x9 x10 x11 x12 x13 x14) (rRow x0 x1 x2 x5 x6 x7 x8 x9 x10 x11 x12 x13 x14 b s)
        (fun f => rGate x0 x1 x2 x4 x5 x6 x7 b s 2 f) (fun f => rGate x0 x1 x2 x4 x5 x6 x7 b s 1 f))
        (refW x5 x6 x7 x8 x9 x10 x11 x12 x13 x14).gple d := by
  have h := v53_ix x0 x1 x2 x4 x5 x6 x7 x8 x9 x10 x11 x12 x13 x14 b s
  unfold val_main_v68 val_main_v67 val_main_v66 val_main_v65 val_main_v64 val_main_v63 val_main_v62 val_main_v61 val_main_v60
    val_main_v59 val_main_v58 val_main_v57 val_main_v56 val_main_cst_3 val_main_cst_4 val_main_cst_5
  generalize val_main_v53 (F := Ideal) x0 x1 x2 x4 x5 x6 x7 x8 x9 x10 x11 = v at h ⊢
  pointwise
  simp only [h]
  rfl

theorem v77_ix (b : Fin 32) (s : Fin 8) (d : Fin 1024) :
    val_main_v77 (F := Ideal) x0 x1 x2 x3 x4 x5 x6 x7 x8 x9 x10 x11 x12 x13 x14 (ix3 b s d)
      = postRow (refW x5 x6 x7 x8 x9 x10 x11 x12 x13 x14) (rRow x0 x1 x2 x5 x6 x7 x8 x9 x10 x11 x12 x13 x14 b s)
        (fun f => rGate x0 x1 x2 x4 x5 x6 x7 b s 2 f) (fun f => rGate x0 x1 x2 x4 x5 x6 x7 b s 1 f)
        (fun k => x3 (ix2 (row b s) k)) d := by
  have h69 := v68_ix x0 x1 x2 x4 x5 x6 x7 x8 x9 x10 x11 x12 x13 x14 b s
  have h54 := v53_ix x0 x1 x2 x4 x5 x6 x7 x8 x9 x10 x11 x12 x13 x14 b s
  unfold val_main_v77 val_main_v76 val_main_v75 val_main_v74 val_main_v73 val_main_v72 val_main_v71 val_main_v70 val_main_v69
    val_main_v55 val_main_v54 val_main_cst_6 val_main_cst_7
  generalize val_main_v68 (F := Ideal) x0 x1 x2 x4 x5 x6 x7 x8 x9 x10 x11 x12 = v69 at h69 ⊢
  generalize val_main_v53 (F := Ideal) x0 x1 x2 x4 x5 x6 x7 x8 x9 x10 x11 = v54 at h54 ⊢
  pointwise
  simp only [h69, h54]
  unfold postRow pleRow
  simp only [zero_sub]
  rfl

/-- The block's result, row by row. -/
theorem v80_ix (R : Fin 256) (d : Fin 1024) :
    val_main_v80 (F := Ideal) x0 x1 x2 x3 x4 x5 x6 x7 x8 x9 x10 x11 x12 x13 x14 (ix2 R d)
      = val_main_v77 (F := Ideal) x0 x1 x2 x3 x4 x5 x6 x7 x8 x9 x10 x11 x12 x13 x14
        (ix3 ⟨R.val / 8, by omega⟩ ⟨R.val % 8, by omega⟩ d) := by
  unfold val_main_v80
  generalize val_main_v77 (F := Ideal) x0 x1 x2 x3 x4 x5 x6 x7 x8 x9 x10 x11 x12 x13 x14 = v
  pointwise

/-- The history's last two of eight rows: the gate of the sample's last two rows. -/
theorem v81_ix (q : Fin 256) (f : Fin 2816) (hq : 6 ≤ q.val % 8) :
    val_main_v81 (F := Ideal) x0 x1 x2 x4 x5 x6 x7 (ix2 q f)
      = val_main_v21 (F := Ideal) x0 x1 x2 x5 x6 x7 (ix3 ⟨q.val / 8, by omega⟩ ⟨q.val % 8, by omega⟩ f) := by
  have h := v23_ix x0 x1 x2 x4 x5 x6 x7
  unfold val_main_v81 val_main_v79 val_main_v78 val_main_v52 val_main_cst_8
  generalize val_main_v23 (F := Ideal) x0 x1 x2 x4 x5 x6 x7 = v24 at h ⊢
  pointwise
  rw [dif_neg (by omega), h, dif_neg (by show ¬ 8 + (q.val % 8 - 6) < 2; omega)]
  exact congrArg (fun s => val_main_v21 (F := Ideal) x0 x1 x2 x5 x6 x7 (ix3 ⟨q.val / 8, by omega⟩ s f))
    (Fin.ext (by show 8 + (q.val % 8 - 6) - 2 = q.val % 8; omega))

/-- The residual row `R` of all rows. -/
def refResid (R : Fin 256) : Fin 1024 → EReal :=
  hRow (refW x5 x6 x7 x8 x9 x10 x11 x12 x13 x14) (fun d => x0 (ix2 R d)) (fun k => x1 (ix2 R k)) (fun k => x2 (ix2 R k))

/-- The gate of row `R`. -/
def refGate (R : Fin 256) : Fin 2816 → EReal :=
  projRow (refW x5 x6 x7 x8 x9 x10 x11 x12 x13 x14).gffn (refW x5 x6 x7 x8 x9 x10 x11 x12 x13 x14).wg
    (refResid x0 x1 x2 x5 x6 x7 x8 x9 x10 x11 x12 x13 x14 R)

theorem rRow_eq (b : Fin 32) (s : Fin 8) (R : Fin 256) (h : R.val = b.val * 8 + s.val) :
    rRow x0 x1 x2 x5 x6 x7 x8 x9 x10 x11 x12 x13 x14 b s = refResid x0 x1 x2 x5 x6 x7 x8 x9 x10 x11 x12 x13 x14 R := by
  rw [show R = row b s from Fin.ext h]
  rfl

theorem v21_row (b : Fin 32) (s : Fin 8) (R : Fin 256) (h : R.val = b.val * 8 + s.val) (f : Fin 2816) :
    val_main_v21 (F := Ideal) x0 x1 x2 x5 x6 x7 (ix3 b s f) = refGate x0 x1 x2 x5 x6 x7 x8 x9 x10 x11 x12 x13 x14 R f := by
  rw [v21_ix x0 x1 x2 x5 x6 x7 x8 x9 x10 x11 x12 x13 x14 b s f, rRow_eq x0 x1 x2 x5 x6 x7 x8 x9 x10 x11 x12 x13 x14 b s R h]
  rfl

theorem rGate_two (b : Fin 32) (s : Fin 8) (R : Fin 256) (h : R.val = b.val * 8 + s.val) (f : Fin 2816) :
    rGate x0 x1 x2 x4 x5 x6 x7 b s 2 f = if h : R.val % 8 < 2 then x4 (ix3 ⟨R.val / 8, by omega⟩ ⟨R.val % 8, h⟩ f)
          else refGate x0 x1 x2 x5 x6 x7 x8 x9 x10 x11 x12 x13 x14 ⟨R.val - 2, by omega⟩ f := by
  have hs := s.isLt
  unfold rGate
  by_cases h2 : s.val < 2
  · rw [dif_pos h2, dif_pos (by omega)]
    exact congrArg₂ (fun b j => x4 (ix3 b j f)) (Fin.ext (by show b.val = R.val / 8; omega))
      (Fin.ext (by show (s.val + 2 - 2) % 2 = R.val % 8; omega))
  · rw [dif_neg h2, dif_neg (by omega)]
    exact v21_row x0 x1 x2 x5 x6 x7 x8 x9 x10 x11 x12 x13 x14 _ _ _
      (by show R.val - 2 = b.val * 8 + (s.val - 2); omega) f

theorem rGate_one (b : Fin 32) (s : Fin 8) (R : Fin 256) (h : R.val = b.val * 8 + s.val) (f : Fin 2816) :
    rGate x0 x1 x2 x4 x5 x6 x7 b s 1 f = if R.val % 8 = 0 then x4 (ix3 ⟨R.val / 8, by omega⟩ 1 f)
          else refGate x0 x1 x2 x5 x6 x7 x8 x9 x10 x11 x12 x13 x14 ⟨R.val - 1, by omega⟩ f := by
  have hs := s.isLt
  unfold rGate
  by_cases h2 : s.val < 1
  · rw [dif_pos h2, if_pos (by omega)]
    exact congrArg₂ (fun b j => x4 (ix3 b j f)) (Fin.ext (by show b.val = R.val / 8; omega))
      (Fin.ext (by show (s.val + 2 - 1) % 2 = 1; omega))
  · rw [dif_neg h2, if_neg (by omega)]
    exact v21_row x0 x1 x2 x5 x6 x7 x8 x9 x10 x11 x12 x13 x14 _ _ _
      (by show R.val - 1 = b.val * 8 + (s.val - 1); omega) f

theorem v77_row (b : Fin 32) (s : Fin 8) (R : Fin 256) (h : R.val = b.val * 8 + s.val) (d : Fin 1024) :
    val_main_v77 (F := Ideal) x0 x1 x2 x3 x4 x5 x6 x7 x8 x9 x10 x11 x12 x13 x14 (ix3 b s d)
      = postRow (refW x5 x6 x7 x8 x9 x10 x11 x12 x13 x14) (refResid x0 x1 x2 x5 x6 x7 x8 x9 x10 x11 x12 x13 x14 R)
        (fun f => if h : R.val % 8 < 2 then x4 (ix3 ⟨R.val / 8, by omega⟩ ⟨R.val % 8, h⟩ f) else refGate x0 x1 x2 x5 x6 x7 x8 x9 x10 x11 x12 x13 x14 ⟨R.val - 2, by omega⟩ f)
        (fun f => if R.val % 8 = 0 then x4 (ix3 ⟨R.val / 8, by omega⟩ 1 f) else refGate x0 x1 x2 x5 x6 x7 x8 x9 x10 x11 x12 x13 x14 ⟨R.val - 1, by omega⟩ f)
        (fun k => x3 (ix2 R k)) d := by
  rw [v77_ix, rRow_eq x0 x1 x2 x5 x6 x7 x8 x9 x10 x11 x12 x13 x14 b s R h,
    funext (rGate_two x0 x1 x2 x4 x5 x6 x7 x8 x9 x10 x11 x12 x13 x14 b s R h),
    funext (rGate_one x0 x1 x2 x4 x5 x6 x7 x8 x9 x10 x11 x12 x13 x14 b s R h)]
  exact congrArg (fun R' => postRow _ _ _ _ (fun k => x3 (ix2 R' k)) d) (Fin.ext h.symm : row b s = R)

/-- The block's result at row `R`, from the rows of the arguments. -/
theorem v80_row (R : Fin 256) (d : Fin 1024) :
    val_main_v80 (F := Ideal) x0 x1 x2 x3 x4 x5 x6 x7 x8 x9 x10 x11 x12 x13 x14 (ix2 R d)
      = postRow (refW x5 x6 x7 x8 x9 x10 x11 x12 x13 x14) (refResid x0 x1 x2 x5 x6 x7 x8 x9 x10 x11 x12 x13 x14 R)
        (fun f => if h : R.val % 8 < 2 then x4 (ix3 ⟨R.val / 8, by omega⟩ ⟨R.val % 8, h⟩ f) else refGate x0 x1 x2 x5 x6 x7 x8 x9 x10 x11 x12 x13 x14 ⟨R.val - 2, by omega⟩ f)
        (fun f => if R.val % 8 = 0 then x4 (ix3 ⟨R.val / 8, by omega⟩ 1 f) else refGate x0 x1 x2 x5 x6 x7 x8 x9 x10 x11 x12 x13 x14 ⟨R.val - 1, by omega⟩ f)
        (fun k => x3 (ix2 R k)) d := by
  rw [v80_ix]
  exact v77_row x0 x1 x2 x3 x4 x5 x6 x7 x8 x9 x10 x11 x12 x13 x14 _ _ R (by show R.val = R.val / 8 * 8 + R.val % 8; omega) d

/-- The history's two newest rows of a sample, from the rows of the arguments. -/
theorem v81_row (q : Fin 256) (f : Fin 2816) (hq : 6 ≤ q.val % 8) :
    val_main_v81 (F := Ideal) x0 x1 x2 x4 x5 x6 x7 (ix2 q f) = refGate x0 x1 x2 x5 x6 x7 x8 x9 x10 x11 x12 x13 x14 q f := by
  rw [v81_ix x0 x1 x2 x4 x5 x6 x7 q f hq]
  exact v21_row x0 x1 x2 x5 x6 x7 x8 x9 x10 x11 x12 x13 x14 _ _ _ (by show q.val = q.val / 8 * 8 + q.val % 8; omega) f

end

end Cert.PostSRefValue

end
-- ==== Proof.PostSClaim.lean ====
/- The value claim of the block after the mixers over the samples: kernel and reference end with equal results, the history
   on its two newest rows of every sample. -/
module

public import proofs.«01_k».proof.Defs
public import proofs.«01_k».proof.Proof.PostSRun
public import proofs.«01_k».proof.Proof.PostSRef
public import Idealize.ShloMosaic.Lib.Quiescent

@[expose] public section

set_option maxRecDepth 16384

noncomputable section

namespace Cert.On_sample_history

open Idealize.ShloMosaic

/-- The mask's stated facts. -/
instance facts : Facts where
  bcast_S_S256x1024 := by decide
  bcast_S_S256x2816 := by decide

/-- On the history array the mask selects the last two of every eight rows. -/
theorem fn_rows (q : Fin 256) :
    IntOp.cmpi .sge (Host.remsi (fun _ : S_.Idx => BitVec.ofNat 32 q.val) (fun _ => 8#32) (fun i => i.elim0)) 6#32 = 1#1
      → 6 ≤ q.val % 8 := by
  revert q
  decide +kernel

theorem fn_snd (x0 : FVec Ideal S256x1024 .f32) (x1 x2 : FVec Ideal S256x512 .bf16) (x3 : FVec Ideal S256x256 .f32)
    (x4 : FVec Ideal S32x2x2816 .f32) (x5 : FVec Ideal S1024x1024 .f32) (x6 : FVec Ideal S1024 .f32)
    (x7 x8 : FVec Ideal S1024x2816 .f32) (x9 : FVec Ideal S3x2816 .f32) (x10 : FVec Ideal S2816 .f32)
    (x11 : FVec Ideal S2816x1024 .f32) (x12 : FVec Ideal S1024 .f32) (x13 : FVec Ideal S1024x1024 .f32)
    (x14 : FVec Ideal S256x1024 .f32) (q : Fin 256) (f : Fin 2816)
    (h : (fn (F := Ideal) x0 x1 x2 x3 x4 x5 x6 x7 x8 x9 x10 x11 x12 x13 x14).2 (ix2 q f) = 1#1) : 6 ≤ q.val % 8 := fn_rows q h

end Cert.On_sample_history

namespace Cert.PostSClaim

open Idealize.ShloMosaic Idealize.SL.Sem Cert.PostSValue Cert.PostSRefValue Cert.PostSRefIdeal.Read

section

variable (m : (ℓ : Loc Cert.PostSIdeal.nD Cert.PostSIdeal.τ Cert.PostSIdeal.sig) → Buf (Elt Ideal) ℓ)
  (m' : (ℓ : Loc Cert.PostSRefIdeal.nD Cert.PostSRefIdeal.τ Cert.PostSRefIdeal.sig) → Buf (Elt Ideal) ℓ)

variable (c : Dev Cert.PostSIdeal.nD)

/-- The two programs' arguments agree. -/
def Agree : Prop :=
  m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)
      ∧ m' ((c.tc : Thread Cert.PostSRefIdeal.nD Cert.PostSRefIdeal.τ).loc Cert.PostSRefIdeal.main_arg7) = m ((c.tc : Thread Cert.PostSIdeal.nD Cert.PostSIdeal.τ).loc Cert.PostSIdeal.main_arg7)
      ∧ m' ((c.tc : Thread Cert.PostSRefIdeal.nD Cert.PostSRefIdeal.τ).loc Cert.PostSRefIdeal.main_arg8) = m ((c.tc : Thread Cert.PostSIdeal.nD Cert.PostSIdeal.τ).loc Cert.PostSIdeal.main_arg8)
      ∧ m' ((c.tc : Thread Cert.PostSRefIdeal.nD Cert.PostSRefIdeal.τ).loc Cert.PostSRefIdeal.main_arg9) = m ((c.tc : Thread Cert.PostSIdeal.nD Cert.PostSIdeal.τ).loc Cert.PostSIdeal.main_arg9)
      ∧ m' ((c.tc : Thread Cert.PostSRefIdeal.nD Cert.PostSRefIdeal.τ).loc Cert.PostSRefIdeal.main_arg10) = m ((c.tc : Thread Cert.PostSIdeal.nD Cert.PostSIdeal.τ).loc Cert.PostSIdeal.main_arg10)
      ∧ m' ((c.tc : Thread Cert.PostSRefIdeal.nD Cert.PostSRefIdeal.τ).loc Cert.PostSRefIdeal.main_arg11) = m ((c.tc : Thread Cert.PostSIdeal.nD Cert.PostSIdeal.τ).loc Cert.PostSIdeal.main_arg11)
      ∧ m' ((c.tc : Thread Cert.PostSRefIdeal.nD Cert.PostSRefIdeal.τ).loc Cert.PostSRefIdeal.main_arg12) = m ((c.tc : Thread Cert.PostSIdeal.nD Cert.PostSIdeal.τ).loc Cert.PostSIdeal.main_arg12)
      ∧ m' ((c.tc : Thread Cert.PostSRefIdeal.nD Cert.PostSRefIdeal.τ).loc Cert.PostSRefIdeal.main_arg13) = m ((c.tc : Thread Cert.PostSIdeal.nD Cert.PostSIdeal.τ).loc Cert.PostSIdeal.main_arg13)
      ∧ m' ((c.tc : Thread Cert.PostSRefIdeal.nD Cert.PostSRefIdeal.τ).loc Cert.PostSRefIdeal.main_arg14) = m ((c.tc : Thread Cert.PostSIdeal.nD Cert.PostSIdeal.τ).loc Cert.PostSIdeal.main_arg14)

/-- The reference's first result is the kernel's. -/
theorem out_eq (h : Agree m m' c) :
    Cert.PostSRefIdeal.Value.res_main_v80 m' c = (Cert.PostSIdeal.Gen.dats m 0 c).arrAt 16 Cert.PostSIdeal.cfg0.N := by
  obtain ⟨h0, h1, h2, h3, h4, h5, h6, h7, h8, h9, h10, h11, h12, h13, h14⟩ := h
  rw [val_main_v80_eq, h0, h1, h2, h3, h4, h5, h6, h7, h8, h9, h10, h11, h12, h13, h14]
  funext i
  obtain ⟨R, d, rfl⟩ : ∃ (R : Fin 256) (d : Fin 1024), i = ix2 R d := ⟨i 0, i 1, Shape.idx_ext₂ rfl rfl⟩
  exact (v80_row _ _ _ _ _ _ _ _ _ _ _ _ _ _ _ R d).trans (arr16 m c R d).symm

/-- The reference's history is the kernel's, on the rows the mask selects. -/
theorem hist_eq (h : Agree m m' c) (q : Fin 256) (f : Fin 2816) (hq : 6 ≤ q.val % 8) :
    val_main_v81 (F := Ideal) (m' ((c.tc : Thread Cert.PostSRefIdeal.nD Cert.PostSRefIdeal.τ).loc Cert.PostSRefIdeal.main_arg0))
      (m' ((c.tc : Thread Cert.PostSRefIdeal.nD Cert.PostSRefIdeal.τ).loc Cert.PostSRefIdeal.main_arg1))
      (m' ((c.tc : Thread Cert.PostSRefIdeal.nD Cert.PostSRefIdeal.τ).loc Cert.PostSRefIdeal.main_arg2))
      (m' ((c.tc : Thread Cert.PostSRefIdeal.nD Cert.PostSRefIdeal.τ).loc Cert.PostSRefIdeal.main_arg4))
      (m' ((c.tc : Thread Cert.PostSRefIdeal.nD Cert.PostSRefIdeal.τ).loc Cert.PostSRefIdeal.main_arg5))
      (m' ((c.tc : Thread Cert.PostSRefIdeal.nD Cert.PostSRefIdeal.τ).loc Cert.PostSRefIdeal.main_arg6))
      (m' ((c.tc : Thread Cert.PostSRefIdeal.nD Cert.PostSRefIdeal.τ).loc Cert.PostSRefIdeal.main_arg7)) (ix2 q f)
      = (Cert.PostSIdeal.Gen.dats m 0 c).arrAt 17 Cert.PostSIdeal.cfg0.N (ix2 q f) := by
  obtain ⟨h0, h1, h2, h3, h4, h5, h6, h7, h8, h9, h10, h11, h12, h13, h14⟩ := h
  rw [h0, h1, h2, h4, h5, h6, h7]
  exact (v81_row _ _ _ _ _ _ _ (m (c.tc.loc Cert.PostSIdeal.main_arg8)) (m (c.tc.loc Cert.PostSIdeal.main_arg9))
    (m (c.tc.loc Cert.PostSIdeal.main_arg10)) (m (c.tc.loc Cert.PostSIdeal.main_arg11)) (m (c.tc.loc Cert.PostSIdeal.main_arg12))
    (m (c.tc.loc Cert.PostSIdeal.main_arg13)) (m (c.tc.loc Cert.PostSIdeal.main_arg14)) q f hq).trans (arr17 m c q f).symm

end

/-- On extended reals the kernel's block after the mixers over the samples ends with the reference's results. -/
theorem algebraic : Cert.algebraic_PostSIdeal_PostSRefIdeal_on_sample_history := by
  intro m g m' g' _ hagree
  refine ⟨fun c => (Cert.PostSIdeal.Gen.dats m 0 c).arrAt 16 Cert.PostSIdeal.cfg0.N,
    fun c => (Cert.PostSIdeal.Gen.dats m 0 c).arrAt 17 Cert.PostSIdeal.cfg0.N, ?_, ?_⟩
  · exact (θ_run Cert.PostSIdeal.defs _ _).mono
      (fun _ h c => ⟨fun i _ => congrFun (h c).1 i, fun i _ => congrFun (h c).2.1 i, (h c).2.2⟩)
      (Cert.PostSIdeal.Value.run_blocks (F := Ideal) m g)
  · refine (θ_run Cert.PostSRefIdeal.defs _ _).mono
      (fun _ h c => ⟨fun i _ => congrFun ((h c).1.trans (out_eq m m' c (hagree c))) i, fun i hi => ?_, (h c).2.2⟩)
      (Cert.PostSRefIdeal.Value.run (F := Ideal) m' g')
    obtain ⟨q, f, rfl⟩ : ∃ (q : Fin 256) (f : Fin 2816), i = ix2 q f := ⟨i 0, i 1, Shape.idx_ext₂ rfl rfl⟩
    have hq := Cert.On_sample_history.fn_snd _ _ _ _ _ _ _ _ _ _ _ _ _ _ _ q f hi
    exact (congrFun (h c).2.1 (ix2 q f)).trans (hist_eq m m' c (hagree c) q f hq)

end Cert.PostSClaim

end
-- ==== Proof.InPPayload.lean ====
/- What the body of the input projections computes, read at an index over the extended reals: every stored value as sums
   and products of the elements of the blocks it was computed from. -/
module

public import proofs.«01_k».proof.Proof.PostPayload
public import proofs.«01_k».proof.Proof.Gen.InPIdeal.Skeleton
public import Idealize.ShloMosaic.Lib.Pointwise

@[expose] public section

set_option maxRecDepth 16384

noncomputable section

namespace Cert.InPValue

open Idealize.ShloMosaic Cert.InPIdeal Cert.InPIdeal.Gen
open Cert.PostValue (normRow)

/-- One element of a projection: the normed row `x` (gains `g`) times a column `w`. -/
def proj (x g w : Fin 1024 → EReal) : EReal := ∑ k, normRow x g k * w k

/-- A row of the compressed keys and values scaled by the reciprocal root of its mean square and by the gains. -/
def ckvRow (y g : Fin 128 → EReal) (d : Fin 128) : EReal :=
  y d * Ideal.rsqrt (Ideal.div (∑ e, y e * y e) (Ideal.ofBits .f32 0x43000000#32) + Ideal.ofBits .f32 0x358637BD#32) * g d

/-- The same for the 32 lanes of the position part of the key. -/
def krRow (y g : Fin 32 → EReal) (d : Fin 32) : EReal :=
  y d * Ideal.rsqrt ((∑ e, y e * y e) * Ideal.ofBits .f32 0x3D000000#32 + Ideal.ofBits .f32 0x358637BD#32) * g d

variable (x : Vec Ideal S512x1024 .f32) (g : Vec Ideal S1x1024 .f32)

theorem pay6_apply (r : Fin 512) (d : Fin 1024) :
    k0_pay6 x g (ix2 r d) = normRow (fun e => x (ix2 r e)) (fun e => g (ix2 0 e)) d := by
  unfold normRow
  pointwise [k0_pay6]

theorem pay7_apply (w : Vec Ideal S1024x512 .bf16) (r j : Fin 512) :
    k0_pay7 x g w (ix2 r j) = proj (fun e => x (ix2 r e)) (fun e => g (ix2 0 e)) (fun k => w (ix2 k j)) := by
  unfold k0_pay7 proj
  simp only [← pay6_apply]
  generalize k0_pay6 x g = n
  pointwise

theorem pay8_apply (w : Vec Ideal S1024x512 .bf16) (r j : Fin 512) :
    k0_pay8 x g w (ix2 r j) = proj (fun e => x (ix2 r e)) (fun e => g (ix2 0 e)) (fun k => w (ix2 k j)) := by
  unfold k0_pay8 proj
  simp only [← pay6_apply]
  generalize k0_pay6 x g = n
  pointwise

theorem pay9_apply (w : Vec Ideal S1024x512 .bf16) (r : Fin 512) (j : Fin 256) :
    k0_pay9 x g w (ix2 r j) = k0_pay8 x g w (ix2 r ⟨j.val, by omega⟩) * Ideal.ofBits .f32 0x3E000000#32 := by
  unfold k0_pay9
  generalize k0_pay8 x g w = n
  pointwise

theorem pay10_apply (w : Vec Ideal S1024x512 .bf16) (r : Fin 512) (j : Fin 256) :
    k0_pay10 x g w (ix2 r j) = k0_pay8 x g w (ix2 r ⟨256 + j.val, by omega⟩) := by
  unfold k0_pay10
  generalize k0_pay8 x g w = n
  pointwise

theorem pay25_apply (n : FVec Ideal S512x1024 .bf16) (w : Vec Ideal S1024x256 .bf16) (r : Fin 512) (j : Fin 256) :
    k0_pay25 n w (ix2 r j) = ∑ k : Fin 1024, n (ix2 r k) * w (ix2 k j) := by
  pointwise [k0_pay25]

theorem pay34_apply (n : FVec Ideal S512x1024 .bf16) (w : Vec Ideal S1024x256 .bf16) (r : Fin 512) (j : Fin 256) :
    k0_pay34 n w (ix2 r j) = ∑ k : Fin 1024, n (ix2 r k) * w (ix2 k j) := by
  pointwise [k0_pay34]

theorem pay41_apply (n : FVec Ideal S512x1024 .bf16) (w : Vec Ideal S1024x256 .bf16) (r : Fin 512) (j : Fin 256) :
    k0_pay41 n w (ix2 r j) = ∑ k : Fin 1024, n (ix2 r k) * w (ix2 k j) := by
  pointwise [k0_pay41]

theorem pay51_apply (n : FVec Ideal S512x1024 .bf16) (w : Vec Ideal S1024x256 .bf16) (r : Fin 512) (j : Fin 256) :
    k0_pay51 n w (ix2 r j) = ∑ k : Fin 1024, n (ix2 r k) * w (ix2 k j) := by
  pointwise [k0_pay51]

theorem pay16_apply (y : FVec Ideal S512x512 .f32) (v : Vec Ideal S1x128 .f32) (r : Fin 512) (j : Fin 128) :
    k0_pay16 y v (ix2 r j) = ckvRow (fun e => y (ix2 r ⟨256 + e.val, by omega⟩)) (fun e => v (ix2 0 e)) j := by
  unfold ckvRow
  pointwise [k0_pay16]

/-- The lanes the mask of the position part selects. -/
theorem mask_lane (j : Fin 128) :
    IntOp.andi (IntOp.cmpi .sge (BitVec.ofNat 32 j.val) 64#32) (IntOp.cmpi .slt (BitVec.ofNat 32 j.val) 96#32)
      = if 64 ≤ j.val ∧ j.val < 96 then 1#1 else 0#1 := by
  revert j
  decide +kernel

theorem pay11_apply (y : FVec Ideal S512x512 .f32) (r : Fin 512) (j : Fin 128) :
    k0_pay11 y (ix2 r j) = y (ix2 r ⟨384 + j.val, by omega⟩) := by
  pointwise [k0_pay11]

/-- The sum of squares over the lanes the mask selects. -/
def laneSum (a : Fin 128 → EReal) : EReal := ∑ e : Fin 128, if 64 ≤ e.val ∧ e.val < 96 then a e * a e else 0

theorem laneSum_eq (a : Fin 128 → EReal) :
    laneSum a = ∑ e : Fin 32, a ⟨64 + e.val, by omega⟩ * a ⟨64 + e.val, by omega⟩ := by
  unfold laneSum
  rw [← Finset.sum_filter]
  refine (Finset.sum_nbij (fun e : Fin 32 => (⟨64 + e.val, by omega⟩ : Fin 128)) ?_ ?_ ?_ (fun _ _ => rfl)).symm
  · intro e _
    simp only [Finset.mem_filter, Finset.mem_univ, true_and]
    exact ⟨Nat.le_add_right _ _, by show 64 + e.val < 96; omega⟩
  · intro e _ e' _ h
    have := Fin.mk.inj h
    exact Fin.ext (by omega)
  · intro e he
    have h := (Finset.mem_filter.mp he).2
    exact ⟨⟨e.val - 64, by omega⟩, Finset.mem_coe.mpr (Finset.mem_univ _), Fin.ext (by show 64 + (e.val - 64) = e.val; omega)⟩

theorem select_mask (j : Fin 128) (a b : EReal) :
    Scalar.select (IntOp.andi (IntOp.cmpi .sge (BitVec.ofNat 32 j.val) 64#32) (IntOp.cmpi .slt (BitVec.ofNat 32 j.val) 96#32))
      a b = if 64 ≤ j.val ∧ j.val < 96 then a else b := by
  rw [mask_lane]
  by_cases h : 64 ≤ j.val ∧ j.val < 96
  · rw [if_pos h, if_pos h]; rfl
  · rw [if_neg h, if_neg h]; rfl

theorem pay13_apply (y : FVec Ideal S512x512 .f32) (r : Fin 512) (j : Fin 128) :
    k0_pay13 y (ix2 r j) = k0_pay11 y (ix2 r j) * Ideal.rsqrt (laneSum (fun e => k0_pay11 y (ix2 r e))
      * Ideal.ofBits .f32 0x3D000000#32 + Ideal.ofBits .f32 0x358637BD#32) := by
  unfold k0_pay13 laneSum
  simp only [← select_mask]
  generalize k0_pay11 y = n
  pointwise

/-- The first half of the lanes. -/
theorem half_lane (j : Fin 128) : IntOp.cmpi .slt (BitVec.ofNat 32 j.val) 80#32 = if j.val < 80 then 1#1 else 0#1 := by
  revert j
  decide +kernel

/-- The lane a rotated lane `j` reads: sixteen after it in the first half, sixteen before it in the second. -/
def other (j : Fin 32) : Fin 32 := if h : j.val < 16 then ⟨j.val + 16, by omega⟩ else ⟨j.val - 16, by omega⟩

/-- The rotation by position of a normed row: each lane with the cosine and its partner with the sine. -/
def rotRow (z cs sn : Fin 32 → EReal) (j : Fin 32) : EReal := z j * cs j + z (other j) * sn j

theorem pay14_apply (cs sn z : FVec Ideal S512x128 .f32) (v : Vec Ideal S1x128 .f32) (r : Fin 512) (j : Fin 32) :
    k0_pay14 cs sn z v (ix2 r ⟨64 + j.val, by omega⟩)
      = rotRow (fun e => z (ix2 r ⟨64 + e.val, by omega⟩) * v (ix2 0 ⟨64 + e.val, by omega⟩))
          (fun e => cs (ix2 r ⟨64 + e.val, by omega⟩)) (fun e => sn (ix2 r ⟨64 + e.val, by omega⟩)) j := by
  have h1 := half_lane ⟨64 + j.val, by omega⟩
  unfold rotRow other
  by_cases h : j.val < 16
  · rw [dif_pos h]
    rw [if_pos (show 64 + j.val < 80 by omega)] at h1
    have e : ∀ h, (⟨(64 + j.val + 128 - 112) % 128, h⟩ : Fin 128) = ⟨64 + (j.val + 16), by omega⟩ :=
      fun _ => Fin.ext (by show (64 + j.val + 128 - 112) % 128 = 64 + (j.val + 16); omega)
    pointwise [k0_pay14]
    rw [h1]
    simp only [e]
    rfl
  · rw [dif_neg h]
    rw [if_neg (show ¬ 64 + j.val < 80 by omega)] at h1
    have e : ∀ h, (⟨(64 + j.val + 128 - 16) % 128, h⟩ : Fin 128) = ⟨64 + (j.val - 16), by omega⟩ :=
      fun _ => Fin.ext (by show (64 + j.val + 128 - 16) % 128 = 64 + (j.val - 16); omega)
    pointwise [k0_pay14]
    rw [h1]
    simp only [e]
    rfl

theorem pay15_apply (cs sn z : FVec Ideal S512x128 .f32) (v : Vec Ideal S1x128 .f32) (r : Fin 512) (j : Fin 32) :
    k0_pay15 cs sn z v (ix2 r j)
      = rotRow (fun e => z (ix2 r ⟨64 + e.val, by omega⟩) * v (ix2 0 ⟨64 + e.val, by omega⟩))
          (fun e => cs (ix2 r ⟨64 + e.val, by omega⟩)) (fun e => sn (ix2 r ⟨64 + e.val, by omega⟩)) j := by
  rw [← pay14_apply]
  unfold k0_pay15
  generalize k0_pay14 cs sn z v = n
  pointwise

theorem pay4_apply (a : Vec Ideal S512x128 .f32) : k0_pay4 a = a := by
  funext i
  pointwise [k0_pay4]

theorem pay5_apply (a : Vec Ideal S512x128 .f32) : k0_pay5 a = a := by
  funext i
  pointwise [k0_pay5]

end Cert.InPValue

end
-- ==== Proof.InPTile.lean ====
/- What the body of the input projections leaves in six of its output blocks, row by row, as the mathematics of one row. -/
module

public import proofs.«01_k».proof.Proof.InPPayload
public import proofs.«01_k».proof.Proof.InPIdealFrame
public import Idealize.ShloMosaic.Lib.Pipeline.ValueKit
public import Idealize.ShloMosaic.Lib.Pipeline.ReadBack

@[expose] public section

set_option maxRecDepth 16384

noncomputable section

namespace Cert.InPValue

open Idealize.ShloMosaic Cert.InPIdeal Cert.InPIdeal.Gen Idealize.ShloMosaic.TcCoe Idealize.SL.Sem
open Cert.PostValue (normRow)

/-- Reading a block through the rectangle of its whole shape. -/
theorem ld_whole {s : Shape} {e : EltTy} (x : Vec Ideal s e) (off : Fin s.rank → ℕ) (h : ∀ a, off a = 0)
    (inb : ∀ a, off a + s.size a ≤ s.size a) : View.ld x (Rect.unit off s.size inb) = x :=
  funext fun i => View.ld_unit_apply_of x off s.size inb i i fun a => by rw [h a, Nat.zero_add]

/-- One store through the rectangle of the whole shape. -/
theorem canon_whole {s : Shape} {e : EltTy} (off : Fin s.rank → ℕ) (h : ∀ a, off a = 0)
    (inb : ∀ a, off a + s.size a ≤ s.size a) (P : Vec Ideal s e) (i : s.Idx) :
    View.canon (Val := Elt Ideal) [⟨Rect.unit off s.size inb, P⟩] i = P i := by
  have e : i = (Rect.unit (s := s) off s.size inb).emb i :=
    funext fun a => Fin.ext (by show (i a).val = off a + 1 * (i a).val; rw [h a]; omega)
  conv_lhs => rw [e]
  exact View.canon_cons_emb _ _ _ _

/-- Two stores of all rows, left and right columns: read at an index. -/
theorem canon_halves {e : EltTy} (P Q : Vec Ideal S512x256 e) (g : Fin 512 → Fin 512 → Elt Ideal e)
    (hQ : ∀ r (j : Fin 256), Q (ix2 r j) = g r ⟨j.val, by omega⟩)
    (hP : ∀ r (j : Fin 256), P (ix2 r j) = g r ⟨256 + j.val, by omega⟩) (r j : Fin 512) :
    View.canon (Val := Elt Ideal) [⟨r0_21, P⟩, ⟨r0_16, Q⟩] (ix2 r j) = g r j := by
  by_cases hj : j.val < 256
  · have e : (ix2 r j : S512x512.Idx) = r0_16.emb (ix2 r ⟨j.val, hj⟩) := by
      refine Shape.idx_ext₂ ?_ ?_
      · show r.val = 0 + 1 * r.val; omega
      · show j.val = 0 + 1 * j.val; omega
    rw [View.canon_cons_of_not_mem, e, View.canon_cons_emb]
    · exact hQ r ⟨j.val, hj⟩
    · rw [Rect.mem_set_unit]
      intro h
      have := (h 1).1
      have : 256 ≤ j.val := this
      omega
  · have e : (ix2 r j : S512x512.Idx) = r0_21.emb (ix2 r ⟨j.val - 256, by omega⟩) := by
      refine Shape.idx_ext₂ ?_ ?_
      · show r.val = 0 + 1 * r.val; omega
      · show j.val = 256 + 1 * (j.val - 256); omega
    rw [e, View.canon_cons_emb]
    refine (hP r ⟨j.val - 256, by omega⟩).trans ?_
    congr 1
    exact Fin.ext (by show 256 + (j.val - 256) = j.val; omega)

/-- A load of 256 of the columns of the weights. -/
theorem ld_cols (w : Vec Ideal S1024x1536 .bf16) (o : ℕ) (inb) (k : Fin 1024) (j : Fin 256) (ho : o + j.val < 1536) :
    View.ld w (Rect.unit (s := S1024x1536) ![0, o] S1024x256.size inb) (ix2 k j) = w (ix2 k ⟨o + j.val, ho⟩) := by
  refine View.ld_unit_apply_of w _ _ inb (ix2 k j) (ix2 k ⟨o + j.val, ho⟩) fun a => ?_
  fin_cases a
  · show k.val = 0 + k.val; omega
  · rfl

theorem ld_left (w : Vec Ideal S1024x1536 .bf16) (inb) (k : Fin 1024) (j : Fin 512) :
    View.ld w (Rect.unit (s := S1024x1536) ![0, 0] S1024x512.size inb) (ix2 k j) = w (ix2 k ⟨j.val, by omega⟩) := by
  refine View.ld_unit_apply_of w _ _ inb (ix2 k j) (ix2 k ⟨j.val, by omega⟩) fun a => ?_
  fin_cases a
  · show k.val = 0 + k.val; omega
  · show j.val = 0 + j.val; omega

section

variable (x0 : Vec Ideal S512x1024 .f32) (x1 : Vec Ideal S512x128 .f32) (x2 : Vec Ideal S512x128 .f32)
  (x3 : Vec Ideal S1x1024 .f32) (x4 : Vec Ideal S1024x1536 .bf16) (x5 : Vec Ideal S1024x512 .bf16)
  (x6 : Vec Ideal S128x256 .bf16) (x7 : Vec Ideal S1x256 .f32) (x8 : Vec Ideal S1x256 .f32) (x9 : Vec Ideal S256x2048 .bf16)
  (x10 : Vec Ideal S256x256 .bf16) (x11 : Vec Ideal S2x128 .f32) (x12 : Vec Ideal S1x128 .f32) (x13 : Vec Ideal S1x128 .f32)
  (x14 : Vec Ideal S128x1024 .bf16) (x15 : Vec Ideal S1x1024 .f32) (x16 : Vec Ideal S512x128 .bf16)

/-- A projection of row `r` of the block: the normed row times column `j` of the first weights. -/
def tProj (r : Fin 512) (j : Fin 1536) : EReal :=
  proj (fun e => x0 (ix2 r e)) (fun e => x3 (ix2 0 e)) (fun k => x4 (ix2 k j))

/-- The same with the second weights. -/
def tMla (r j : Fin 512) : EReal := proj (fun e => x0 (ix2 r e)) (fun e => x3 (ix2 0 e)) (fun k => x5 (ix2 k j))

theorem out17 (r : Fin 512) (j : Fin 256) :
    out0_17 x0 x1 x2 x3 x4 x5 x6 x7 x8 x9 x10 x11 x12 x13 x14 x15 x16 (ix2 r j)
      = tProj x0 x3 x4 r ⟨j.val, by omega⟩ * Ideal.ofBits .f32 0x3E000000#32 := by
  unfold out0_17 tProj
  refine (canon_whole _ (by decide) _ _ _).trans ?_
  rw [pay9_apply, pay8_apply, ld_whole x0 _ (by decide), ld_whole x3 _ (by decide)]
  exact congrArg (· * _) (congrArg (proj _ _) (funext fun k => ld_left x4 _ k ⟨j.val, by omega⟩))

theorem out18 (r : Fin 512) (j : Fin 256) :
    out0_18 x0 x1 x2 x3 x4 x5 x6 x7 x8 x9 x10 x11 x12 x13 x14 x15 x16 (ix2 r j) = tProj x0 x3 x4 r ⟨256 + j.val, by omega⟩ := by
  unfold out0_18 tProj
  refine (canon_whole _ (by decide) _ _ _).trans ?_
  rw [pay10_apply, pay8_apply, ld_whole x0 _ (by decide), ld_whole x3 _ (by decide)]
  exact congrArg (proj _ _) (funext fun k => ld_left x4 _ k ⟨256 + j.val, by omega⟩)

theorem pay57_apply (r : Fin 512) (d : Fin 1024) :
    k0_pay57 x0 x1 x2 x3 x4 x5 x6 x7 x8 x9 x10 x11 x12 x13 x14 x15 x16 (ix2 r d)
      = normRow (fun e => x0 (ix2 r e)) (fun e => x3 (ix2 0 e)) d := by
  unfold k0_pay57
  rw [pay6_apply, ld_whole x0 _ (by decide), ld_whole x3 _ (by decide)]

theorem pay58_apply (r j : Fin 512) :
    k0_pay58 x0 x1 x2 x3 x4 x5 x6 x7 x8 x9 x10 x11 x12 x13 x14 x15 x16 (ix2 r j) = tMla x0 x3 x5 r j := by
  unfold k0_pay58 tMla
  rw [pay7_apply, ld_whole x0 _ (by decide), ld_whole x3 _ (by decide), ld_whole x5 _ (by decide)]

theorem out19 (r j : Fin 512) :
    out0_19 x0 x1 x2 x3 x4 x5 x6 x7 x8 x9 x10 x11 x12 x13 x14 x15 x16 (ix2 r j) = tProj x0 x3 x4 r ⟨512 + j.val, by omega⟩ := by
  unfold out0_19
  refine canon_halves (e := .bf16) _ _ (fun r j => tProj x0 x3 x4 r ⟨512 + j.val, by omega⟩) (fun r j => ?_) (fun r j => ?_) r j
  · rw [pay25_apply]
    unfold tProj proj
    refine Finset.sum_congr rfl fun k _ => ?_
    rw [pay57_apply, ld_cols x4 512 _ k j (by omega)]
  · rw [pay34_apply]
    unfold tProj proj
    refine Finset.sum_congr rfl fun k _ => ?_
    rw [pay57_apply, ld_cols x4 768 _ k j (by omega)]
    congr 3
    exact Fin.ext (by show 768 + j.val = 512 + (256 + j.val); omega)

theorem out20 (r j : Fin 512) :
    out0_20 x0 x1 x2 x3 x4 x5 x6 x7 x8 x9 x10 x11 x12 x13 x14 x15 x16 (ix2 r j) = tProj x0 x3 x4 r ⟨1024 + j.val, by omega⟩ := by
  unfold out0_20
  refine canon_halves (e := .f32) _ _ (fun r j => tProj x0 x3 x4 r ⟨1024 + j.val, by omega⟩) (fun r j => ?_) (fun r j => ?_) r j
  · rw [pay41_apply]
    unfold tProj proj
    refine Finset.sum_congr rfl fun k _ => ?_
    rw [pay57_apply, ld_cols x4 1024 _ k j (by omega)]
  · rw [pay51_apply]
    unfold tProj proj
    refine Finset.sum_congr rfl fun k _ => ?_
    rw [pay57_apply, ld_cols x4 1280 _ k j (by omega)]
    congr 3
    exact Fin.ext (by show 1280 + j.val = 1024 + (256 + j.val); omega)

theorem out23 (r : Fin 512) (j : Fin 128) :
    out0_23 x0 x1 x2 x3 x4 x5 x6 x7 x8 x9 x10 x11 x12 x13 x14 x15 x16 (ix2 r j)
      = ckvRow (fun e => tMla x0 x3 x5 r ⟨256 + e.val, by omega⟩) (fun e => x12 (ix2 0 e)) j := by
  unfold out0_23
  refine (canon_whole _ (by decide) _ _ _).trans ?_
  rw [pay16_apply, ld_whole x12 _ (by decide)]
  simp only [pay58_apply]

theorem out24 (r : Fin 512) (j : Fin 32) :
    out0_24 x0 x1 x2 x3 x4 x5 x6 x7 x8 x9 x10 x11 x12 x13 x14 x15 x16 (ix2 r j)
      = rotRow (krRow (fun e => tMla x0 x3 x5 r ⟨448 + e.val, by omega⟩) (fun e => x13 (ix2 0 ⟨64 + e.val, by omega⟩)))
          (fun e => x1 (ix2 r ⟨64 + e.val, by omega⟩)) (fun e => x2 (ix2 r ⟨64 + e.val, by omega⟩)) j := by
  unfold out0_24
  refine (canon_whole _ (by decide) _ _ _).trans ?_
  rw [pay15_apply]
  unfold k0_pay55 k0_pay56 k0_pay59
  rw [pay4_apply, pay5_apply, ld_whole x1 _ (by decide), ld_whole x2 _ (by decide), ld_whole x13 _ (by decide)]
  simp only [pay13_apply, laneSum_eq, pay11_apply, pay58_apply]
  have e : ∀ (i : ℕ) (h : 384 + (64 + i) < 512), (⟨384 + (64 + i), h⟩ : Fin 512) = ⟨448 + i, by omega⟩ :=
    fun i _ => Fin.ext (by show 384 + (64 + i) = 448 + i; omega)
  unfold krRow
  simp only [e]

end

end Cert.InPValue

end
-- ==== Proof.InPHost.lean ====
/- What the host prepares for the input projections, read at an index: the two weights, the gains, the position tables. -/
module

public import proofs.«01_k».proof.Proof.InPTile
public import proofs.«01_k».proof.Proof.Gen.InPRefIdeal.Read

@[expose] public section

set_option maxRecDepth 16384

noncomputable section

namespace Cert.InPValue

open Idealize.ShloMosaic Cert.InPIdeal Cert.InPIdeal.Gen Idealize.ShloMosaic.TcCoe Idealize.SL.Sem

/-! ## Concatenations at an index -/

/-- The second weights, from the full weights: columns 256 to 383 are columns 1808 onwards. -/
theorem cat_ckv (a : FVec Ideal S1024x256 .f32) (b z : FVec Ideal S1024x128 .f32) (k : Fin 1024) (e : Fin 128) :
    concatenate S1024x512 1 [⟨S1024x256, a⟩, ⟨S1024x128, b⟩, ⟨S1024x128, z⟩]
      concatenates_S1024x256_S1024x128_S1024x128_S1024x512_d1 (ix2 k ⟨256 + e.val, by omega⟩) = b (ix2 k e) := by
  pointwise

/-- Columns 448 to 479 of the second weights, two concatenations deep. -/
theorem cat_kr (a : FVec Ideal S1024x256 .f32) (b : FVec Ideal S1024x128 .f32) (p : FVec Ideal S1024x16 .f32)
    (q : FVec Ideal S1024x48 .f32) (w z : FVec Ideal S1024x32 .f32) (k : Fin 1024) (e : Fin 32) :
    concatenate S1024x512 1 [⟨S1024x256, a⟩, ⟨S1024x128, b⟩, ⟨S1024x128,
        concatenate S1024x128 1 [⟨S1024x16, p⟩, ⟨S1024x48, q⟩, ⟨S1024x32, w⟩, ⟨S1024x32, z⟩]
          concatenates_S1024x16_S1024x48_S1024x32_S1024x32_S1024x128_d1⟩]
      concatenates_S1024x256_S1024x128_S1024x128_S1024x512_d1 (ix2 k ⟨448 + e.val, by omega⟩) = w (ix2 k e) := by
  pointwise
  rw [dif_neg (by omega), dif_neg (by omega), dif_neg (by omega), dif_neg (by omega), dif_pos (by omega)]
  exact congrArg (fun j => w (ix2 k j)) (Fin.ext (by show 448 + e.val - 256 - 128 - 16 - 48 = e.val; omega))

theorem cat_gain (a : FVec Ideal S64 .f32) (b z : FVec Ideal S32 .f32) (e : Fin 32) :
    concatenate S128 0 [⟨S64, a⟩, ⟨S32, b⟩, ⟨S32, z⟩] concatenates_S64_S32_S32_S128_d0 (ix1 ⟨64 + e.val, by omega⟩)
      = b (ix1 e) := by
  pointwise

/-- Lanes 64 to 95 of a position table: 16 of the first half, 16 of the second. -/
theorem cat_lanes (a : FVec Ideal S2048x64 .f32) (b b' : FVec Ideal S2048x16 .f32) (z : FVec Ideal S2048x32 .f32)
    (s : Fin 2048) (e : Fin 32) :
    concatenate S2048x128 1 [⟨S2048x64, a⟩, ⟨S2048x16, b⟩, ⟨S2048x16, b'⟩, ⟨S2048x32, z⟩]
      concatenates_S2048x64_S2048x16_S2048x16_S2048x32_S2048x128_d1 (ix2 s ⟨64 + e.val, by omega⟩)
      = if h : e.val < 16 then b (ix2 s ⟨e.val, h⟩) else b' (ix2 s ⟨e.val - 16, by omega⟩) := by
  by_cases h : e.val < 16
  · rw [dif_pos h]
    pointwise
    rw [dif_pos h]
  · rw [dif_neg h]
    pointwise
    rw [dif_neg h, dif_pos (by omega)]

variable (m : (ℓ : Loc nD τ sig) → Buf (Elt Ideal) ℓ)

/-- The angle of a position at a lane, as the reference writes it. -/
abbrev angle : FVec Ideal S2048x16 .f32 := Cert.InPRefIdeal.Read.val_main_v65 (F := Ideal)

theorem gmix_arr (c : Dev nD) : (V m c main_v14 : S1x1024.Idx → EReal)
    = broadcastInDim S1x1024 ![1] bcast_S1024_S1x1024_1 (m ((c : Thread nD τ).loc main_arg1)) := by
  unfold V
  simp only [hostOps0, List.flatten_cons, List.flatten_nil, List.cons_append,
    List.nil_append, List.append_nil, StableHlo.TRef.binary, StableHlo.TRef.unary, StableHlo.TRef.toBuf, StableHlo.TRef.ofBuf, cast_eq]
  after_results_simp

theorem gla_arr (c : Dev nD) : (V m c main_v15 : S1024x1536.Idx → EReal)
    = extractStridedSlice S1024x1536 ![0, 0] (m ((c : Thread nD τ).loc main_arg2)) slices_S1024x1968_S1024x1536_0_0 := by
  unfold V
  simp only [hostOps0, List.flatten_cons, List.flatten_nil, List.cons_append,
    List.nil_append, List.append_nil, StableHlo.TRef.binary, StableHlo.TRef.unary, StableHlo.TRef.toBuf, StableHlo.TRef.ofBuf, cast_eq]
  after_results_simp
  rfl

theorem gckv_arr (c : Dev nD) : (V m c main_v19 : S1x128.Idx → EReal)
    = broadcastInDim S1x128 ![1] bcast_S128_S1x128_1 (m ((c : Thread nD τ).loc main_arg9)) := by
  unfold V
  simp only [hostOps0, List.flatten_cons, List.flatten_nil, List.cons_append,
    List.nil_append, List.append_nil, StableHlo.TRef.binary, StableHlo.TRef.unary, StableHlo.TRef.toBuf, StableHlo.TRef.ofBuf, cast_eq]
  after_results_simp

theorem gkr_arr (c : Dev nD) : ∃ (a : FVec Ideal S64 .f32) (z : FVec Ideal S32 .f32), (V m c main_v20 : S1x128.Idx → EReal)
    = broadcastInDim S1x128 ![1] bcast_S128_S1x128_1 (concatenate S128 0
        [⟨S64, a⟩, ⟨S32, (m ((c : Thread nD τ).loc main_arg10) : FVec Ideal S32 .f32)⟩, ⟨S32, z⟩] concatenates_S64_S32_S32_S128_d0) := by
  refine ⟨broadcastInDim S64 ![] bcast_S_S64 (constant (F := Ideal) S_ .f32 0x00000000#32),
    broadcastInDim S32 ![] bcast_S_S32 (constant (F := Ideal) S_ .f32 0x00000000#32), ?_⟩
  unfold V
  simp only [hostOps0, List.flatten_cons, List.flatten_nil, List.cons_append,
    List.nil_append, List.append_nil, StableHlo.TRef.binary, StableHlo.TRef.unary, StableHlo.TRef.toBuf, StableHlo.TRef.ofBuf, cast_eq]
  after_results_simp
  rfl

theorem mla_arr (c : Dev nD) : ∃ (p : FVec Ideal S1024x16 .f32) (q : FVec Ideal S1024x48 .f32) (z : FVec Ideal S1024x32 .f32)
    (a : FVec Ideal S1024x256 .f32), (V m c main_v16 : S1024x512.Idx → EReal)
    = concatenate S1024x512 1 [⟨S1024x256, a⟩,
        ⟨S1024x128, extractStridedSlice S1024x128 ![0, 1808] (m ((c : Thread nD τ).loc main_arg2) : FVec Ideal S1024x1968 .f32) slices_S1024x1968_S1024x128_0_1808⟩,
        ⟨S1024x128, concatenate S1024x128 1 [⟨S1024x16, p⟩, ⟨S1024x48, q⟩,
          ⟨S1024x32, extractStridedSlice S1024x32 ![0, 1936] (m ((c : Thread nD τ).loc main_arg2) : FVec Ideal S1024x1968 .f32) slices_S1024x1968_S1024x32_0_1936⟩,
          ⟨S1024x32, z⟩] concatenates_S1024x16_S1024x48_S1024x32_S1024x32_S1024x128_d1⟩]
      concatenates_S1024x256_S1024x128_S1024x128_S1024x512_d1 := by
  refine ⟨extractStridedSlice S1024x16 ![0, 1536] (m ((c : Thread nD τ).loc main_arg2) : FVec Ideal S1024x1968 .f32) slices_S1024x1968_S1024x16_0_1536,
    broadcastInDim S1024x48 ![] bcast_S_S1024x48 (constant (F := Ideal) S_ .f32 0x00000000#32),
    broadcastInDim S1024x32 ![] bcast_S_S1024x32 (constant (F := Ideal) S_ .f32 0x00000000#32),
    extractStridedSlice S1024x256 ![0, 1552] (m ((c : Thread nD τ).loc main_arg2) : FVec Ideal S1024x1968 .f32) slices_S1024x1968_S1024x256_0_1552, ?_⟩
  unfold V
  simp only [hostOps0, List.flatten_cons, List.flatten_nil, List.cons_append,
    List.nil_append, List.append_nil, StableHlo.TRef.binary, StableHlo.TRef.unary, StableHlo.TRef.toBuf, StableHlo.TRef.ofBuf, cast_eq]
  after_results_simp
  rfl

theorem cos_arr (c : Dev nD) : ∃ (a : FVec Ideal S2048x64 .f32) (z : FVec Ideal S2048x32 .f32), (V m c main_v40 : S2048x128.Idx → EReal)
    = concatenate S2048x128 1 [⟨S2048x64, a⟩, ⟨S2048x16, Host.cos (angle)⟩, ⟨S2048x16, Host.cos (angle)⟩, ⟨S2048x32, z⟩]
      concatenates_S2048x64_S2048x16_S2048x16_S2048x32_S2048x128_d1 := by
  refine ⟨broadcastInDim S2048x64 ![] bcast_S_S2048x64 (constant (F := Ideal) S_ .f32 0x3F800000#32),
    broadcastInDim S2048x32 ![] bcast_S_S2048x32 (constant (F := Ideal) S_ .f32 0x00000000#32), ?_⟩
  unfold V
  simp only [hostOps0, List.flatten_cons, List.flatten_nil, List.cons_append,
    List.nil_append, List.append_nil, StableHlo.TRef.binary, StableHlo.TRef.unary, StableHlo.TRef.toBuf, StableHlo.TRef.ofBuf, cast_eq]
  after_results_simp
  rfl

theorem sin_arr (c : Dev nD) : ∃ (a : FVec Ideal S2048x64 .f32) (z : FVec Ideal S2048x32 .f32), (V m c main_v43 : S2048x128.Idx → EReal)
    = concatenate S2048x128 1 [⟨S2048x64, a⟩, ⟨S2048x16, Host.negf (Host.sin (angle))⟩, ⟨S2048x16, Host.sin (angle)⟩, ⟨S2048x32, z⟩]
      concatenates_S2048x64_S2048x16_S2048x16_S2048x32_S2048x128_d1 := by
  refine ⟨broadcastInDim S2048x64 ![] bcast_S_S2048x64 (constant (F := Ideal) S_ .f32 0x00000000#32),
    broadcastInDim S2048x32 ![] bcast_S_S2048x32 (constant (F := Ideal) S_ .f32 0x00000000#32), ?_⟩
  unfold V
  simp only [hostOps0, List.flatten_cons, List.flatten_nil, List.cons_append,
    List.nil_append, List.append_nil, StableHlo.TRef.binary, StableHlo.TRef.unary, StableHlo.TRef.toBuf, StableHlo.TRef.ofBuf, cast_eq]
  after_results_simp
  rfl

end Cert.InPValue

end
-- ==== Proof.InPRun.lean ====
/- The arrays the input projections leave, row by row of the arguments. -/
module

public import proofs.«01_k».proof.Proof.InPHost
public import Idealize.ShloMosaic.Lib.Pipeline.Value

@[expose] public section

set_option maxRecDepth 16384

noncomputable section

namespace Cert.InPValue

open Idealize.ShloMosaic Cert.InPIdeal Cert.InPIdeal.Gen Idealize.ShloMosaic.TcCoe Idealize.SL.Sem

variable (m : (ℓ : Loc nD τ sig) → Buf (Elt Ideal) ℓ)

theorem idxR : ∀ t : Fin cfg0.N, win0_0.index t = ![t.val, 0] ∧ win0_1.index t = ![t.val % 4, 0] ∧ win0_2.index t = ![t.val % 4, 0]
    ∧ win0_17.index t = ![t.val, 0] ∧ win0_18.index t = ![t.val, 0] ∧ win0_19.index t = ![t.val, 0]
    ∧ win0_20.index t = ![t.val, 0] ∧ win0_23.index t = ![t.val, 0] ∧ win0_24.index t = ![t.val, 0] :=
  (by decide +kernel : ∀ t : Fin grid0.N, _)
theorem idxW : ∀ t : Fin cfg0.N, win0_3.index t = ![0, 0] ∧ win0_4.index t = ![0, 0] ∧ win0_5.index t = ![0, 0]
    ∧ win0_12.index t = ![0, 0] ∧ win0_13.index t = ![0, 0] :=
  (by decide +kernel : ∀ t : Fin grid0.N, _)

theorem lt32 (t : Fin cfg0.N) : t.val < 32 := lt_of_lt_of_eq t.isLt (show cfg0.N = 32 from N_0)

/-! ## The input blocks -/

theorem x_blk (c : Dev nD) (t : Fin cfg0.N) (r : Fin 512) (d : Fin 1024) :
    iblk m c 0 t (ix2 r d) = m ((c : Thread nD τ).loc main_arg0) (ix2 ⟨512 * t.val + r.val, by have := lt32 t; omega⟩ d) := by
  blk_ext! [iblk, V, idxR t]

theorem gmix_blk (c : Dev nD) (t : Fin cfg0.N) (d : Fin 1024) :
    iblk m c 3 t (ix2 0 d) = m ((c : Thread nD τ).loc main_arg1) (ix1 d) := by
  have e : iblk m c 3 t (ix2 0 d) = V m c main_v14 (ix2 0 d) := by
    blk_ext! [iblk, idxW t]
  rw [e, gmix_arr]
  pointwise

theorem gla_blk (c : Dev nD) (t : Fin cfg0.N) (k : Fin 1024) (j : Fin 1536) :
    iblk m c 4 t (ix2 k j) = m ((c : Thread nD τ).loc main_arg2) (ix2 k ⟨j.val, by omega⟩) := by
  have e : iblk m c 4 t (ix2 k j) = V m c main_v15 (ix2 k j) := by
    blk_ext! [iblk, idxW t]
  rw [e, gla_arr]
  pointwise

theorem mla_blk_ckv (c : Dev nD) (t : Fin cfg0.N) (k : Fin 1024) (j : Fin 128) :
    iblk m c 5 t (ix2 k ⟨256 + j.val, by omega⟩) = m ((c : Thread nD τ).loc main_arg2) (ix2 k ⟨1808 + j.val, by omega⟩) := by
  have e : ∀ i : Fin 512, iblk m c 5 t (ix2 k i) = V m c main_v16 (ix2 k i) := by
    intro i
    blk_ext! [iblk, idxW t]
  obtain ⟨p, q, z, a, h⟩ := mla_arr m c
  rw [e, h, cat_ckv]
  pointwise

theorem mla_blk_kr (c : Dev nD) (t : Fin cfg0.N) (k : Fin 1024) (j : Fin 32) :
    iblk m c 5 t (ix2 k ⟨448 + j.val, by omega⟩) = m ((c : Thread nD τ).loc main_arg2) (ix2 k ⟨1936 + j.val, by omega⟩) := by
  have e : ∀ i : Fin 512, iblk m c 5 t (ix2 k i) = V m c main_v16 (ix2 k i) := by
    intro i
    blk_ext! [iblk, idxW t]
  obtain ⟨p, q, z, a, h⟩ := mla_arr m c
  rw [e, h, cat_kr]
  pointwise

theorem gckv_blk (c : Dev nD) (t : Fin cfg0.N) (d : Fin 128) :
    iblk m c 12 t (ix2 0 d) = m ((c : Thread nD τ).loc main_arg9) (ix1 d) := by
  have e : iblk m c 12 t (ix2 0 d) = V m c main_v19 (ix2 0 d) := by
    blk_ext! [iblk, idxW t]
  rw [e, gckv_arr]
  pointwise

theorem row_one (x : FVec Ideal S128 .f32) (d : Fin 128) :
    broadcastInDim S1x128 ![1] bcast_S128_S1x128_1 x (ix2 0 d) = x (ix1 d) := by
  pointwise

theorem gkr_blk (c : Dev nD) (t : Fin cfg0.N) (d : Fin 32) :
    iblk m c 13 t (ix2 0 ⟨64 + d.val, by omega⟩) = m ((c : Thread nD τ).loc main_arg10) (ix1 d) := by
  have e : ∀ i : Fin 128, iblk m c 13 t (ix2 0 i) = V m c main_v20 (ix2 0 i) := by
    intro i
    blk_ext! [iblk, idxW t]
  obtain ⟨a, z, h⟩ := gkr_arr m c
  rw [e, h, row_one, cat_gain]

/-- The factors of the rotation at position `s`: the cosine, and the sine with the sign of the half. -/
def cosL (s : Fin 2048) (e : Fin 32) : EReal :=
  if h : e.val < 16 then Ideal.cos (angle (ix2 s ⟨e.val, h⟩)) else Ideal.cos (angle (ix2 s ⟨e.val - 16, by omega⟩))
def sinL (s : Fin 2048) (e : Fin 32) : EReal :=
  if h : e.val < 16 then -Ideal.sin (angle (ix2 s ⟨e.val, h⟩)) else Ideal.sin (angle (ix2 s ⟨e.val - 16, by omega⟩))

/-- Row `r` of block `t` within its sequence. -/
abbrev pos (t : Fin cfg0.N) (r : Fin 512) : Fin 2048 := ⟨512 * (t.val % 4) + r.val, by omega⟩

theorem cos_blk (c : Dev nD) (t : Fin cfg0.N) (r : Fin 512) (d : Fin 32) :
    iblk m c 1 t (ix2 r ⟨64 + d.val, by omega⟩) = cosL (pos t r) d := by
  have e : ∀ i : Fin 128, iblk m c 1 t (ix2 r i) = V m c main_v40 (ix2 (pos t r) i) := by
    intro i
    blk_ext! [iblk, idxR t]
  obtain ⟨a, z, h⟩ := cos_arr m c
  rw [e, h, cat_lanes]
  rfl

theorem sin_blk (c : Dev nD) (t : Fin cfg0.N) (r : Fin 512) (d : Fin 32) :
    iblk m c 2 t (ix2 r ⟨64 + d.val, by omega⟩) = sinL (pos t r) d := by
  have e : ∀ i : Fin 128, iblk m c 2 t (ix2 r i) = V m c main_v43 (ix2 (pos t r) i) := by
    intro i
    blk_ext! [iblk, idxR t]
  obtain ⟨a, z, h⟩ := sin_arr m c
  rw [e, h, cat_lanes]
  rfl

/-! ## The rows of the results -/

/-- Element `j` of row `R` of the projected rows. -/
def rProj (c : Dev nD) (R : Fin 16384) (j : Fin 1968) : EReal :=
  proj (fun e => m ((c : Thread nD τ).loc main_arg0) (ix2 R e)) (fun e => m ((c : Thread nD τ).loc main_arg1) (ix1 e))
    (fun k => m ((c : Thread nD τ).loc main_arg2) (ix2 k j))

theorem tProj_eq (c : Dev nD) (t : Fin cfg0.N) (r : Fin 512) (j : Fin 1536) :
    tProj (iblk m c 0 t) (iblk m c 3 t) (iblk m c 4 t) r j
      = rProj m c ⟨512 * t.val + r.val, by have := lt32 t; omega⟩ ⟨j.val, by omega⟩ := by
  unfold tProj rProj
  simp only [x_blk, gmix_blk, gla_blk]

theorem tMla_ckv (c : Dev nD) (t : Fin cfg0.N) (r : Fin 512) (j : Fin 128) :
    tMla (iblk m c 0 t) (iblk m c 3 t) (iblk m c 5 t) r ⟨256 + j.val, by omega⟩
      = rProj m c ⟨512 * t.val + r.val, by have := lt32 t; omega⟩ ⟨1808 + j.val, by omega⟩ := by
  unfold tMla rProj
  simp only [x_blk, gmix_blk, mla_blk_ckv]

theorem tMla_kr (c : Dev nD) (t : Fin cfg0.N) (r : Fin 512) (j : Fin 32) :
    tMla (iblk m c 0 t) (iblk m c 3 t) (iblk m c 5 t) r ⟨448 + j.val, by omega⟩
      = rProj m c ⟨512 * t.val + r.val, by have := lt32 t; omega⟩ ⟨1936 + j.val, by omega⟩ := by
  unfold tMla rProj
  simp only [x_blk, gmix_blk, mla_blk_kr]

/-- A row of the compressed keys and values. -/
def rCkv (c : Dev nD) (R : Fin 16384) : Fin 128 → EReal :=
  ckvRow (fun e => rProj m c R ⟨1808 + e.val, by omega⟩) (fun e => m ((c : Thread nD τ).loc main_arg9) (ix1 e))

/-- A row of the position part of the key before and after its rotation. -/
def rKr (c : Dev nD) (R : Fin 16384) : Fin 32 → EReal :=
  krRow (fun e => rProj m c R ⟨1936 + e.val, by omega⟩) (fun e => m ((c : Thread nD τ).loc main_arg10) (ix1 e))
def rRot (c : Dev nD) (R : Fin 16384) : Fin 32 → EReal :=
  rotRow (rKr m c R) (cosL ⟨R.val % 2048, by omega⟩) (sinL ⟨R.val % 2048, by omega⟩)

/-- The block and the row in it of row `R`. -/
abbrev blkOf (R : Fin 16384) : Fin cfg0.N := ⟨R.val / 512, by rw [show cfg0.N = 32 from N_0]; omega⟩
abbrev rowOf (R : Fin 16384) : Fin 512 := ⟨R.val % 512, by omega⟩

theorem row_eq (R : Fin 16384) (h : 512 * (blkOf R).val + (rowOf R).val < 16384) :
    (⟨512 * (blkOf R).val + (rowOf R).val, h⟩ : Fin 16384) = R := Fin.ext (by show 512 * (R.val / 512) + R.val % 512 = R.val; omega)

theorem pos_eq (R : Fin 16384) : pos (blkOf R) (rowOf R) = ⟨R.val % 2048, by omega⟩ :=
  Fin.ext (by show 512 * (R.val / 512 % 4) + R.val % 512 = R.val % 2048; omega)

/-! ## The output arrays: each row lies in one block, and no two blocks meet -/

/-- Block `t` of an output array after the run is what point `t` wrote, where the points' blocks differ. -/
theorem read_back (w : Fin cfg0.W) (hk : (cfg0.win w).kind = Pipeline.WinKind.blocked)
    (hi : ∀ t t' : Fin cfg0.N, (cfg0.win w).index t = (cfg0.win w).index t' → t = t')
    (hf : ∀ t : Fin cfg0.N, (cfg0.win w).flush t = true) (c : Dev nD) (t : Fin cfg0.N) :
    ((cfg0.win w).blk t).view.read (Elt Ideal) ((dats m 0 c).arrAt w cfg0.N)
      = (cfg0.win w).cut (grid0.coords t) ((dats m 0 c).after w t) :=
  (dats m 0 c).read_blk_arrAt_eq_flushed w (fun t t' _ _ hne => (cfg0.win w).disjoint_blk (hk := hk) fun h => hne (hi t t' h))
    cfg0.N t t.isLt (hf t)

theorem read17 (A : Vec Ideal S16384x256 .f32) (R : Fin 16384) (j : Fin 256) :
    ((cfg0.win 17).blk (blkOf R)).view.read (Elt Ideal) A (ix2 (rowOf R) j) = A (ix2 R j) := by
  have e : ∀ (t : Fin cfg0.N) (r : Fin 512), ((cfg0.win 17).blk t).view.read (Elt Ideal) A (ix2 r j)
      = A (ix2 ⟨512 * t.val + r.val, by have := lt32 t; omega⟩ j) := by
    intro t r
    blk_ext! [idxR t]
  exact (e _ _).trans (congrArg (fun Q => A (ix2 Q j)) (row_eq R _))

theorem arr17 (c : Dev nD) (R : Fin 16384) (j : Fin 256) : (dats m 0 c).arrAt 17 cfg0.N (ix2 R j) = rProj m c R ⟨j.val, by omega⟩ * Ideal.ofBits .f32 0x3E000000#32 := by
  have h := congrFun (read_back m 17 rfl (by decide +kernel : ∀ t t' : Fin grid0.N, win0_17.index t = win0_17.index t' → t = t')
    (by decide +kernel : ∀ t : Fin grid0.N, (cfg0.win 17).flush t = true) c (blkOf R)) (ix2 (rowOf R) j)
  rw [after0_17] at h
  refine (read17 _ R j).symm.trans (h.trans ?_)
  refine (out17 _ _ _ _ _ _ _ _ _ _ _ _ _ _ _ _ _ (rowOf R) j).trans ?_
  rw [tProj_eq, row_eq]

theorem read18 (A : Vec Ideal S16384x256 .f32) (R : Fin 16384) (j : Fin 256) :
    ((cfg0.win 18).blk (blkOf R)).view.read (Elt Ideal) A (ix2 (rowOf R) j) = A (ix2 R j) := by
  have e : ∀ (t : Fin cfg0.N) (r : Fin 512), ((cfg0.win 18).blk t).view.read (Elt Ideal) A (ix2 r j)
      = A (ix2 ⟨512 * t.val + r.val, by have := lt32 t; omega⟩ j) := by
    intro t r
    blk_ext! [idxR t]
  exact (e _ _).trans (congrArg (fun Q => A (ix2 Q j)) (row_eq R _))

theorem arr18 (c : Dev nD) (R : Fin 16384) (j : Fin 256) : (dats m 0 c).arrAt 18 cfg0.N (ix2 R j) = rProj m c R ⟨256 + j.val, by omega⟩ := by
  have h := congrFun (read_back m 18 rfl (by decide +kernel : ∀ t t' : Fin grid0.N, win0_18.index t = win0_18.index t' → t = t')
    (by decide +kernel : ∀ t : Fin grid0.N, (cfg0.win 18).flush t = true) c (blkOf R)) (ix2 (rowOf R) j)
  rw [after0_18] at h
  refine (read18 _ R j).symm.trans (h.trans ?_)
  refine (out18 _ _ _ _ _ _ _ _ _ _ _ _ _ _ _ _ _ (rowOf R) j).trans ?_
  rw [tProj_eq, row_eq]

theorem read19 (A : Vec Ideal S16384x512 .bf16) (R : Fin 16384) (j : Fin 512) :
    ((cfg0.win 19).blk (blkOf R)).view.read (Elt Ideal) A (ix2 (rowOf R) j) = A (ix2 R j) := by
  have e : ∀ (t : Fin cfg0.N) (r : Fin 512), ((cfg0.win 19).blk t).view.read (Elt Ideal) A (ix2 r j)
      = A (ix2 ⟨512 * t.val + r.val, by have := lt32 t; omega⟩ j) := by
    intro t r
    blk_ext! [idxR t]
  exact (e _ _).trans (congrArg (fun Q => A (ix2 Q j)) (row_eq R _))

theorem arr19 (c : Dev nD) (R : Fin 16384) (j : Fin 512) : (dats m 0 c).arrAt 19 cfg0.N (ix2 R j) = rProj m c R ⟨512 + j.val, by omega⟩ := by
  have h := congrFun (read_back m 19 rfl (by decide +kernel : ∀ t t' : Fin grid0.N, win0_19.index t = win0_19.index t' → t = t')
    (by decide +kernel : ∀ t : Fin grid0.N, (cfg0.win 19).flush t = true) c (blkOf R)) (ix2 (rowOf R) j)
  rw [after0_19] at h
  refine (read19 _ R j).symm.trans (h.trans ?_)
  refine (out19 _ _ _ _ _ _ _ _ _ _ _ _ _ _ _ _ _ (rowOf R) j).trans ?_
  rw [tProj_eq, row_eq]

theorem read20 (A : Vec Ideal S16384x512 .f32) (R : Fin 16384) (j : Fin 512) :
    ((cfg0.win 20).blk (blkOf R)).view.read (Elt Ideal) A (ix2 (rowOf R) j) = A (ix2 R j) := by
  have e : ∀ (t : Fin cfg0.N) (r : Fin 512), ((cfg0.win 20).blk t).view.read (Elt Ideal) A (ix2 r j)
      = A (ix2 ⟨512 * t.val + r.val, by have := lt32 t; omega⟩ j) := by
    intro t r
    blk_ext! [idxR t]
  exact (e _ _).trans (congrArg (fun Q => A (ix2 Q j)) (row_eq R _))

theorem arr20 (c : Dev nD) (R : Fin 16384) (j : Fin 512) : (dats m 0 c).arrAt 20 cfg0.N (ix2 R j) = rProj m c R ⟨1024 + j.val, by omega⟩ := by
  have h := congrFun (read_back m 20 rfl (by decide +kernel : ∀ t t' : Fin grid0.N, win0_20.index t = win0_20.index t' → t = t')
    (by decide +kernel : ∀ t : Fin grid0.N, (cfg0.win 20).flush t = true) c (blkOf R)) (ix2 (rowOf R) j)
  rw [after0_20] at h
  refine (read20 _ R j).symm.trans (h.trans ?_)
  refine (out20 _ _ _ _ _ _ _ _ _ _ _ _ _ _ _ _ _ (rowOf R) j).trans ?_
  rw [tProj_eq, row_eq]

theorem read23 (A : Vec Ideal S16384x128 .f32) (R : Fin 16384) (j : Fin 128) :
    ((cfg0.win 23).blk (blkOf R)).view.read (Elt Ideal) A (ix2 (rowOf R) j) = A (ix2 R j) := by
  have e : ∀ (t : Fin cfg0.N) (r : Fin 512), ((cfg0.win 23).blk t).view.read (Elt Ideal) A (ix2 r j)
      = A (ix2 ⟨512 * t.val + r.val, by have := lt32 t; omega⟩ j) := by
    intro t r
    blk_ext! [idxR t]
  exact (e _ _).trans (congrArg (fun Q => A (ix2 Q j)) (row_eq R _))

theorem arr23 (c : Dev nD) (R : Fin 16384) (j : Fin 128) : (dats m 0 c).arrAt 23 cfg0.N (ix2 R j) = rCkv m c R j := by
  have h := congrFun (read_back m 23 rfl (by decide +kernel : ∀ t t' : Fin grid0.N, win0_23.index t = win0_23.index t' → t = t')
    (by decide +kernel : ∀ t : Fin grid0.N, (cfg0.win 23).flush t = true) c (blkOf R)) (ix2 (rowOf R) j)
  rw [after0_23] at h
  refine (read23 _ R j).symm.trans (h.trans ?_)
  refine (out23 _ _ _ _ _ _ _ _ _ _ _ _ _ _ _ _ _ (rowOf R) j).trans ?_
  unfold rCkv
  simp only [tMla_ckv, gckv_blk]
  rw [row_eq]

theorem read24 (A : Vec Ideal S16384x32 .f32) (R : Fin 16384) (j : Fin 32) :
    ((cfg0.win 24).blk (blkOf R)).view.read (Elt Ideal) A (ix2 (rowOf R) j) = A (ix2 R j) := by
  have e : ∀ (t : Fin cfg0.N) (r : Fin 512), ((cfg0.win 24).blk t).view.read (Elt Ideal) A (ix2 r j)
      = A (ix2 ⟨512 * t.val + r.val, by have := lt32 t; omega⟩ j) := by
    intro t r
    blk_ext! [idxR t]
  exact (e _ _).trans (congrArg (fun Q => A (ix2 Q j)) (row_eq R _))

theorem arr24 (c : Dev nD) (R : Fin 16384) (j : Fin 32) : (dats m 0 c).arrAt 24 cfg0.N (ix2 R j) = rRot m c R j := by
  have h := congrFun (read_back m 24 rfl (by decide +kernel : ∀ t t' : Fin grid0.N, win0_24.index t = win0_24.index t' → t = t')
    (by decide +kernel : ∀ t : Fin grid0.N, (cfg0.win 24).flush t = true) c (blkOf R)) (ix2 (rowOf R) j)
  rw [after0_24] at h
  refine (read24 _ R j).symm.trans (h.trans ?_)
  refine (out24 _ _ _ _ _ _ _ _ _ _ _ _ _ _ _ _ _ (rowOf R) j).trans ?_
  unfold rRot rKr
  simp only [tMla_kr, gkr_blk, cos_blk, sin_blk]
  rw [row_eq, pos_eq]

end Cert.InPValue

end
-- ==== Proof.InPRef.lean ====
/- The reference of the input projections, read at an index: the same row mathematics as the kernel's. -/
module

public import proofs.«01_k».proof.Proof.InPRun

@[expose] public section

set_option maxRecDepth 16384

noncomputable section

namespace Cert.InPRefValue

open Idealize.ShloMosaic Cert.InPRefIdeal Cert.InPRefIdeal.Gen Cert.InPRefIdeal.Value Cert.InPRefIdeal.Read Cert.InPValue
open Cert.PostValue (normRow)

/-- A quotient by 32 is the product with the float 1/32. -/
theorem div_lanes (x : EReal) : Ideal.div x (Ideal.ofBits .f32 0x42000000#32) = x * Ideal.ofBits .f32 0x3D000000#32 := by
  have h : Ideal.ofBits .f32 0x42000000#32 = ((32 : ℝ) : EReal) := by
    simp [Ideal.ofBits, Ideal.ieee, -EReal.coe_mul]; norm_num
  have h' : Ideal.ofBits .f32 0x3D000000#32 = (((32 : ℝ)⁻¹ : ℝ) : EReal) := by
    simp [Ideal.ofBits, Ideal.ieee, -EReal.coe_mul]; norm_num
  unfold Ideal.div
  rw [h, h', if_neg (by rw [← EReal.coe_zero, EReal.coe_eq_coe_iff]; norm_num), EReal.coe_inv]

section

variable (x0 : (⟨S16384x1024, .f32⟩ : BufTy).Contents (Elt Ideal)) (x1 : (⟨S1024, .f32⟩ : BufTy).Contents (Elt Ideal))
  (x2 : (⟨S1024x1968, .f32⟩ : BufTy).Contents (Elt Ideal)) (x9 : (⟨S128, .f32⟩ : BufTy).Contents (Elt Ideal))
  (x10 : (⟨S32, .f32⟩ : BufTy).Contents (Elt Ideal))

/-- Row `s` of sequence `b` among all rows. -/
abbrev row (b : Fin 8) (s : Fin 2048) : Fin 16384 := ⟨b.val * 2048 + s.val, by omega⟩

theorem row_split (R : Fin 16384) : row ⟨R.val / 2048, by omega⟩ ⟨R.val % 2048, by omega⟩ = R :=
  Fin.ext (by show R.val / 2048 * 2048 + R.val % 2048 = R.val; omega)

/-- Element `j` of row `R` of the projected rows. -/
def fProj (R : Fin 16384) (j : Fin 1968) : EReal :=
  proj (fun e => x0 (ix2 R e)) (fun e => x1 (ix1 e)) (fun k => x2 (ix2 k j))

theorem v0_ix (b : Fin 8) (s : Fin 2048) (d : Fin 1024) : val_main_v0 (F := Ideal) x0 (ix3 b s d) = x0 (ix2 (row b s) d) := by
  unfold val_main_v0
  pointwise

theorem v13_ix (b : Fin 8) (s : Fin 2048) (d : Fin 1024) :
    val_main_v13 (F := Ideal) x0 x1 (ix3 b s d) = normRow (fun e => x0 (ix2 (row b s) e)) (fun e => x1 (ix1 e)) d := by
  have h := v0_ix x0 b s
  unfold val_main_v13 val_main_v12 val_main_v11 val_main_v10 val_main_v9 val_main_v8 val_main_v7 val_main_v6 val_main_v5
    val_main_v4 val_main_v3 val_main_v2 val_main_v1 val_main_cst val_main_cst_0 val_main_cst_1
  generalize val_main_v0 (F := Ideal) x0 = v0 at h ⊢
  pointwise
  simp only [h]
  rfl

theorem v14_ix (b : Fin 8) (s : Fin 2048) (j : Fin 1968) :
    val_main_v14 (F := Ideal) x0 x1 x2 (ix3 b s j) = fProj x0 x1 x2 (row b s) j := by
  have h := v13_ix x0 x1 b s
  unfold val_main_v14
  generalize val_main_v13 (F := Ideal) x0 x1 = v at h ⊢
  pointwise
  simp only [h]
  rfl

theorem v21_ix (b : Fin 8) (s : Fin 2048) (e : Fin 128) :
    val_main_v21 (F := Ideal) x0 x1 x2 (ix3 b s e) = fProj x0 x1 x2 (row b s) ⟨1808 + e.val, by omega⟩ := by
  have h := v14_ix x0 x1 x2 b s
  unfold val_main_v21
  generalize val_main_v14 (F := Ideal) x0 x1 x2 = v at h ⊢
  pointwise
  exact h _

theorem v22_ix (b : Fin 8) (s : Fin 2048) (e : Fin 32) :
    val_main_v22 (F := Ideal) x0 x1 x2 (ix3 b s e) = fProj x0 x1 x2 (row b s) ⟨1936 + e.val, by omega⟩ := by
  have h := v14_ix x0 x1 x2 b s
  unfold val_main_v22
  generalize val_main_v14 (F := Ideal) x0 x1 x2 = v at h ⊢
  pointwise
  exact h _

theorem v37_ix (b : Fin 8) (s : Fin 2048) (e : Fin 128) :
    val_main_v37 (F := Ideal) x0 x1 x2 x9 (ix3 b s e)
      = ckvRow (fun e => fProj x0 x1 x2 (row b s) ⟨1808 + e.val, by omega⟩) (fun e => x9 (ix1 e)) e := by
  have h := v21_ix x0 x1 x2 b s
  unfold val_main_v37 val_main_v36 val_main_v35 val_main_v34 val_main_v33 val_main_v32 val_main_v31 val_main_v30 val_main_v29
    val_main_v28 val_main_v27 val_main_v26 val_main_v25 val_main_cst_3 val_main_cst_4 val_main_cst_5
  generalize val_main_v21 (F := Ideal) x0 x1 x2 = v at h ⊢
  pointwise
  simp only [h]
  rfl

theorem v50_ix (b : Fin 8) (s : Fin 2048) (e : Fin 32) :
    val_main_v50 (F := Ideal) x0 x1 x2 x10 (ix3 b s e)
      = krRow (fun e => fProj x0 x1 x2 (row b s) ⟨1936 + e.val, by omega⟩) (fun e => x10 (ix1 e)) e := by
  have h := v22_ix x0 x1 x2 b s
  unfold val_main_v50 val_main_v49 val_main_v48 val_main_v47 val_main_v46 val_main_v45 val_main_v44 val_main_v43 val_main_v42
    val_main_v41 val_main_v40 val_main_v39 val_main_v38 val_main_cst_6 val_main_cst_7 val_main_cst_8
  generalize val_main_v22 (F := Ideal) x0 x1 x2 = v at h ⊢
  pointwise
  simp only [h, div_lanes]
  rfl

/-- The rotation: lanes of the first half by cosine and minus sine, of the second by cosine and sine. -/
theorem v82_ix (b : Fin 8) (s : Fin 2048) (e : Fin 32) :
    val_main_v82 (F := Ideal) x0 x1 x2 x10 (ix3 b s e)
      = rotRow (fun e => val_main_v50 (F := Ideal) x0 x1 x2 x10 (ix3 b s e)) (cosL s) (sinL s) e := by
  have hc : ∀ i : Fin 16, val_main_v66 (F := Ideal) (ix2 s i) = Ideal.cos (angle (ix2 s i)) := fun _ => rfl
  have hs : ∀ i : Fin 16, val_main_v68 (F := Ideal) (ix2 s i) = Ideal.sin (angle (ix2 s i)) := fun _ => rfl
  unfold val_main_v82 val_main_v81 val_main_v80 val_main_v79 val_main_v78 val_main_v77 val_main_v76 val_main_v75 val_main_v74
    val_main_v73 val_main_v72 val_main_v71 val_main_v70 val_main_v69 val_main_v67 rotRow cosL sinL other
  generalize val_main_v66 (F := Ideal) = C at hc ⊢
  generalize val_main_v68 (F := Ideal) = S at hs ⊢
  generalize val_main_v50 (F := Ideal) x0 x1 x2 x10 = z
  by_cases h : e.val < 16
  · simp only [dif_pos h]
    pointwise
    simp only [dif_pos h, hc, hs]
    have e1 : (⟨e.val + 16, by omega⟩ : Fin 32) = ⟨16 + e.val, by omega⟩ := Fin.ext (Nat.add_comm _ _)
    rw [mul_neg, sub_eq_add_neg, e1]
  · simp only [dif_neg h]
    pointwise
    simp only [dif_neg h, hc, hs]
    congr 2
    exact congrArg (fun i => z (ix3 b s i)) (Fin.ext (by show 16 + (e.val - 16) = e.val; omega))

/-! ## The results at a row -/

theorem v83_row (R : Fin 16384) (j : Fin 256) : val_main_v83 (F := Ideal) x0 x1 x2 (ix2 R j)
    = fProj x0 x1 x2 R ⟨j.val, by omega⟩ * Ideal.ofBits .f32 0x3E000000#32 := by
  have h := v14_ix x0 x1 x2 ⟨R.val / 2048, by omega⟩ ⟨R.val % 2048, by omega⟩
  rw [row_split] at h
  unfold val_main_v83 val_main_v24 val_main_v23 val_main_v15 val_main_cst_2
  generalize val_main_v14 (F := Ideal) x0 x1 x2 = v at h ⊢
  pointwise
  rw [h]

theorem v84_row (R : Fin 16384) (j : Fin 256) : val_main_v84 (F := Ideal) x0 x1 x2 (ix2 R j)
    = fProj x0 x1 x2 R ⟨256 + j.val, by omega⟩ := by
  have h := v14_ix x0 x1 x2 ⟨R.val / 2048, by omega⟩ ⟨R.val % 2048, by omega⟩
  rw [row_split] at h
  unfold val_main_v84 val_main_v16
  generalize val_main_v14 (F := Ideal) x0 x1 x2 = v at h ⊢
  pointwise
  exact h _

theorem v86_row (R : Fin 16384) (j : Fin 512) : val_main_v86 (F := Ideal) x0 x1 x2 (ix2 R j)
    = fProj x0 x1 x2 R ⟨512 + j.val, by omega⟩ := by
  have h := v14_ix x0 x1 x2 ⟨R.val / 2048, by omega⟩ ⟨R.val % 2048, by omega⟩
  rw [row_split] at h
  unfold val_main_v86 val_main_v85 val_main_v17
  generalize val_main_v14 (F := Ideal) x0 x1 x2 = v at h ⊢
  pointwise
  exact h _

theorem v87_row (R : Fin 16384) (j : Fin 512) : val_main_v87 (F := Ideal) x0 x1 x2 (ix2 R j)
    = fProj x0 x1 x2 R ⟨1024 + j.val, by omega⟩ := by
  have h := v14_ix x0 x1 x2 ⟨R.val / 2048, by omega⟩ ⟨R.val % 2048, by omega⟩
  rw [row_split] at h
  unfold val_main_v87 val_main_v18
  generalize val_main_v14 (F := Ideal) x0 x1 x2 = v at h ⊢
  pointwise
  exact h _

theorem v88_row (R : Fin 16384) (j : Fin 128) : val_main_v88 (F := Ideal) x0 x1 x2 x9 (ix2 R j)
    = ckvRow (fun e => fProj x0 x1 x2 R ⟨1808 + e.val, by omega⟩) (fun e => x9 (ix1 e)) j := by
  have h := v37_ix x0 x1 x2 x9 ⟨R.val / 2048, by omega⟩ ⟨R.val % 2048, by omega⟩
  rw [row_split] at h
  unfold val_main_v88
  generalize val_main_v37 (F := Ideal) x0 x1 x2 x9 = v at h ⊢
  pointwise
  exact h _

theorem v89_row (R : Fin 16384) (j : Fin 32) : val_main_v89 (F := Ideal) x0 x1 x2 x10 (ix2 R j)
    = rotRow (krRow (fun e => fProj x0 x1 x2 R ⟨1936 + e.val, by omega⟩) (fun e => x10 (ix1 e)))
      (cosL ⟨R.val % 2048, by omega⟩) (sinL ⟨R.val % 2048, by omega⟩) j := by
  have h := v82_ix x0 x1 x2 x10 ⟨R.val / 2048, by omega⟩ ⟨R.val % 2048, by omega⟩ j
  rw [funext (v50_ix x0 x1 x2 x10 ⟨R.val / 2048, by omega⟩ ⟨R.val % 2048, by omega⟩), row_split] at h
  refine Eq.trans ?_ h
  unfold val_main_v89
  generalize val_main_v82 (F := Ideal) x0 x1 x2 x10 = v
  pointwise

end

end Cert.InPRefValue

end
-- ==== Proof.InPClaim.lean ====
/- The value claim of the input projections: kernel and reference end with equal results. -/
module

public import proofs.«01_k».proof.Defs
public import proofs.«01_k».proof.Proof.InPRef
public import Idealize.ShloMosaic.Lib.Quiescent

@[expose] public section

set_option maxRecDepth 16384

noncomputable section

namespace Cert.InPClaim

open Idealize.ShloMosaic Idealize.SL.Sem Cert.InPValue Cert.InPRefValue Cert.InPRefIdeal.Read

section

variable (m : (ℓ : Loc Cert.InPIdeal.nD Cert.InPIdeal.τ Cert.InPIdeal.sig) → Buf (Elt Ideal) ℓ)
  (m' : (ℓ : Loc Cert.InPRefIdeal.nD Cert.InPRefIdeal.τ Cert.InPRefIdeal.sig) → Buf (Elt Ideal) ℓ)

variable (c : Dev Cert.InPIdeal.nD)

/-- The arguments the results depend on agree. -/
def Agree : Prop :=
  m' ((c.tc : Thread Cert.InPRefIdeal.nD Cert.InPRefIdeal.τ).loc Cert.InPRefIdeal.main_arg0) = m ((c.tc : Thread Cert.InPIdeal.nD Cert.InPIdeal.τ).loc Cert.InPIdeal.main_arg0)
    ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)
    ∧ m' ((c.tc : Thread Cert.InPRefIdeal.nD Cert.InPRefIdeal.τ).loc Cert.InPRefIdeal.main_arg2) = m ((c.tc : Thread Cert.InPIdeal.nD Cert.InPIdeal.τ).loc Cert.InPIdeal.main_arg2)
    ∧ m' ((c.tc : Thread Cert.InPRefIdeal.nD Cert.InPRefIdeal.τ).loc Cert.InPRefIdeal.main_arg9) = m ((c.tc : Thread Cert.InPIdeal.nD Cert.InPIdeal.τ).loc Cert.InPIdeal.main_arg9)
    ∧ m' ((c.tc : Thread Cert.InPRefIdeal.nD Cert.InPRefIdeal.τ).loc Cert.InPRefIdeal.main_arg10) = m ((c.tc : Thread Cert.InPIdeal.nD Cert.InPIdeal.τ).loc Cert.InPIdeal.main_arg10)

/-- The scaled queries of the linear attention. -/
theorem gq_eq (h : Agree m m' c) :
    val_main_v83 (F := Ideal) (m' ((c.tc : Thread Cert.InPRefIdeal.nD Cert.InPRefIdeal.τ).loc Cert.InPRefIdeal.main_arg0))
      (m' ((c.tc : Thread Cert.InPRefIdeal.nD Cert.InPRefIdeal.τ).loc Cert.InPRefIdeal.main_arg1))
      (m' ((c.tc : Thread Cert.InPRefIdeal.nD Cert.InPRefIdeal.τ).loc Cert.InPRefIdeal.main_arg2))
      = (Cert.InPIdeal.Gen.dats m 0 c).arrAt 17 Cert.InPIdeal.cfg0.N := by
  obtain ⟨h0, h1, h2, h9, h10⟩ := h
  rw [h0, h1, h2]
  funext i
  obtain ⟨R, j, rfl⟩ : ∃ (R : Fin 16384) (j : Fin 256), i = ix2 R j := ⟨i 0, i 1, Shape.idx_ext₂ rfl rfl⟩
  exact (v83_row _ _ _ R j).trans (arr17 m c R j).symm

/-- Its keys. -/
theorem gk_eq (h : Agree m m' c) :
    val_main_v84 (F := Ideal) (m' ((c.tc : Thread Cert.InPRefIdeal.nD Cert.InPRefIdeal.τ).loc Cert.InPRefIdeal.main_arg0))
      (m' ((c.tc : Thread Cert.InPRefIdeal.nD Cert.InPRefIdeal.τ).loc Cert.InPRefIdeal.main_arg1))
      (m' ((c.tc : Thread Cert.InPRefIdeal.nD Cert.InPRefIdeal.τ).loc Cert.InPRefIdeal.main_arg2))
      = (Cert.InPIdeal.Gen.dats m 0 c).arrAt 18 Cert.InPIdeal.cfg0.N := by
  obtain ⟨h0, h1, h2, h9, h10⟩ := h
  rw [h0, h1, h2]
  funext i
  obtain ⟨R, j, rfl⟩ : ∃ (R : Fin 16384) (j : Fin 256), i = ix2 R j := ⟨i 0, i 1, Shape.idx_ext₂ rfl rfl⟩
  exact (v84_row _ _ _ R j).trans (arr18 m c R j).symm

/-- Its values. -/
theorem gv_eq (h : Agree m m' c) :
    val_main_v86 (F := Ideal) (m' ((c.tc : Thread Cert.InPRefIdeal.nD Cert.InPRefIdeal.τ).loc Cert.InPRefIdeal.main_arg0))
      (m' ((c.tc : Thread Cert.InPRefIdeal.nD Cert.InPRefIdeal.τ).loc Cert.InPRefIdeal.main_arg1))
      (m' ((c.tc : Thread Cert.InPRefIdeal.nD Cert.InPRefIdeal.τ).loc Cert.InPRefIdeal.main_arg2))
      = (Cert.InPIdeal.Gen.dats m 0 c).arrAt 19 Cert.InPIdeal.cfg0.N := by
  obtain ⟨h0, h1, h2, h9, h10⟩ := h
  rw [h0, h1, h2]
  funext i
  obtain ⟨R, j, rfl⟩ : ∃ (R : Fin 16384) (j : Fin 512), i = ix2 R j := ⟨i 0, i 1, Shape.idx_ext₂ rfl rfl⟩
  exact (v86_row _ _ _ R j).trans (arr19 m c R j).symm

/-- Its output gates. -/
theorem gg_eq (h : Agree m m' c) :
    val_main_v87 (F := Ideal) (m' ((c.tc : Thread Cert.InPRefIdeal.nD Cert.InPRefIdeal.τ).loc Cert.InPRefIdeal.main_arg0))
      (m' ((c.tc : Thread Cert.InPRefIdeal.nD Cert.InPRefIdeal.τ).loc Cert.InPRefIdeal.main_arg1))
      (m' ((c.tc : Thread Cert.InPRefIdeal.nD Cert.InPRefIdeal.τ).loc Cert.InPRefIdeal.main_arg2))
      = (Cert.InPIdeal.Gen.dats m 0 c).arrAt 20 Cert.InPIdeal.cfg0.N := by
  obtain ⟨h0, h1, h2, h9, h10⟩ := h
  rw [h0, h1, h2]
  funext i
  obtain ⟨R, j, rfl⟩ : ∃ (R : Fin 16384) (j : Fin 512), i = ix2 R j := ⟨i 0, i 1, Shape.idx_ext₂ rfl rfl⟩
  exact (v87_row _ _ _ R j).trans (arr20 m c R j).symm

/-- The compressed keys and values. -/
theorem ckv_eq (h : Agree m m' c) :
    val_main_v88 (F := Ideal) (m' ((c.tc : Thread Cert.InPRefIdeal.nD Cert.InPRefIdeal.τ).loc Cert.InPRefIdeal.main_arg0))
      (m' ((c.tc : Thread Cert.InPRefIdeal.nD Cert.InPRefIdeal.τ).loc Cert.InPRefIdeal.main_arg1))
      (m' ((c.tc : Thread Cert.InPRefIdeal.nD Cert.InPRefIdeal.τ).loc Cert.InPRefIdeal.main_arg2))
      (m' ((c.tc : Thread Cert.InPRefIdeal.nD Cert.InPRefIdeal.τ).loc Cert.InPRefIdeal.main_arg9))
      = (Cert.InPIdeal.Gen.dats m 0 c).arrAt 23 Cert.InPIdeal.cfg0.N := by
  obtain ⟨h0, h1, h2, h9, h10⟩ := h
  rw [h0, h1, h2, h9]
  funext i
  obtain ⟨R, j, rfl⟩ : ∃ (R : Fin 16384) (j : Fin 128), i = ix2 R j := ⟨i 0, i 1, Shape.idx_ext₂ rfl rfl⟩
  exact (v88_row _ _ _ _ R j).trans (arr23 m c R j).symm

/-- The position part of the key, rotated. -/
theorem kr_eq (h : Agree m m' c) :
    val_main_v89 (F := Ideal) (m' ((c.tc : Thread Cert.InPRefIdeal.nD Cert.InPRefIdeal.τ).loc Cert.InPRefIdeal.main_arg0))
      (m' ((c.tc : Thread Cert.InPRefIdeal.nD Cert.InPRefIdeal.τ).loc Cert.InPRefIdeal.main_arg1))
      (m' ((c.tc : Thread Cert.InPRefIdeal.nD Cert.InPRefIdeal.τ).loc Cert.InPRefIdeal.main_arg2))
      (m' ((c.tc : Thread Cert.InPRefIdeal.nD Cert.InPRefIdeal.τ).loc Cert.InPRefIdeal.main_arg10))
      = (Cert.InPIdeal.Gen.dats m 0 c).arrAt 24 Cert.InPIdeal.cfg0.N := by
  obtain ⟨h0, h1, h2, h9, h10⟩ := h
  rw [h0, h1, h2, h10]
  funext i
  obtain ⟨R, j, rfl⟩ : ∃ (R : Fin 16384) (j : Fin 32), i = ix2 R j := ⟨i 0, i 1, Shape.idx_ext₂ rfl rfl⟩
  exact (v89_row _ _ _ _ R j).trans (arr24 m c R j).symm

end

set_option maxHeartbeats 4000000 in
/-- On extended reals the kernel's input projections end with the reference's results. -/
theorem algebraic : Cert.algebraic_InPIdeal_InPRefIdeal := by
  intro m g m' g' _ hagree
  have ha : ∀ c, Agree m m' c := fun c => ⟨(hagree c).1, (hagree c).2.1, (hagree c).2.2.1, (hagree c).2.2.2.2.2.2.2.2.2.1,
    (hagree c).2.2.2.2.2.2.2.2.2.2.1⟩
  refine ⟨fun c => (Cert.InPIdeal.Gen.dats m 0 c).arrAt 17 Cert.InPIdeal.cfg0.N,
    fun c => (Cert.InPIdeal.Gen.dats m 0 c).arrAt 18 Cert.InPIdeal.cfg0.N,
    fun c => (Cert.InPIdeal.Gen.dats m 0 c).arrAt 19 Cert.InPIdeal.cfg0.N,
    fun c => (Cert.InPIdeal.Gen.dats m 0 c).arrAt 20 Cert.InPIdeal.cfg0.N,
    fun c => (Cert.InPIdeal.Gen.dats m 0 c).arrAt 23 Cert.InPIdeal.cfg0.N,
    fun c => (Cert.InPIdeal.Gen.dats m 0 c).arrAt 24 Cert.InPIdeal.cfg0.N, ?_, ?_⟩
  · exact (θ_run Cert.InPIdeal.defs _ _).mono
      (fun _ h c => ⟨(h.1 c).1 17, (h.1 c).1 18, (h.1 c).1 19, (h.1 c).1 20, (h.1 c).1 23, (h.1 c).1 24, h.2 c⟩)
      (θ_run_and (Cert.InPIdeal.Gen.run_main (F := Ideal) m g) (Cert.InPIdeal.Gen.unchanged (F := Ideal) m g))
  · have hk : ∀ c : Dev Cert.InPRefIdeal.nD, Cert.InPRefIdeal.Value.res_main_v89 (F := Ideal) m' c
        = (Cert.InPIdeal.Gen.dats m 0 c).arrAt 24 Cert.InPIdeal.cfg0.N :=
      fun c => (val_main_v89_eq (F := Ideal) m' c).trans (kr_eq m m' c (ha c))
    exact (θ_run Cert.InPRefIdeal.defs _ _).mono
      (fun _ h c => ⟨(h c).1.trans ((val_main_v83_eq _ _ _).trans (gq_eq m m' c (ha c))),
        (h c).2.1.trans ((val_main_v84_eq _ _ _).trans (gk_eq m m' c (ha c))),
        (h c).2.2.1.trans ((val_main_v86_eq _ _ _).trans (gv_eq m m' c (ha c))),
        (h c).2.2.2.1.trans ((val_main_v87_eq _ _ _).trans (gg_eq m m' c (ha c))),
        (h c).2.2.2.2.1.trans ((val_main_v88_eq _ _ _ _).trans (ckv_eq m m' c (ha c))),
        (h c).2.2.2.2.2.1.trans (hk c), (h c).2.2.2.2.2.2⟩)
      (Cert.InPRefIdeal.Value.run (F := Ideal) m' g')

end Cert.InPClaim

end
-- ==== Proof.lean ====
module

public import proofs.«01_k».proof.Defs
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.GlaIdeal.Value
public import proofs.«01_k».proof.Proof.Gen.PostIdeal.Value
public import proofs.«01_k».proof.Proof.Gen.GlaRefIdeal.Run
public import proofs.«01_k».proof.Proof.Gen.GlaRefIdeal.Read
public import proofs.«01_k».proof.Proof.Gen.PostRefIdeal.Run
public import proofs.«01_k».proof.Proof.Gen.PostRefIdeal.Read
public import proofs.«01_k».proof.Proof.Gen.PostS
public import proofs.«01_k».proof.Proof.Gen.PostS.Skeleton
public import proofs.«01_k».proof.Proof.Gen.PostS.Launch
public import proofs.«01_k».proof.Proof.Gen.PostS.Points
public import proofs.«01_k».proof.Proof.Gen.PostS.Frame
public import proofs.«01_k».proof.Proof.Gen.PostSIdeal
public import proofs.«01_k».proof.Proof.Gen.PostSIdeal.Skeleton
public import proofs.«01_k».proof.Proof.Gen.PostSIdeal.Launch
public import proofs.«01_k».proof.Proof.Gen.PostSIdeal.Points
public import proofs.«01_k».proof.Proof.Gen.PostSIdeal.Frame
public import proofs.«01_k».proof.Proof.Gen.PostSRefIdeal
public import proofs.«01_k».proof.Proof.Gen.PostSIdeal.Value
public import proofs.«01_k».proof.Proof.Gen.PostSRefIdeal.Run
public import proofs.«01_k».proof.Proof.Gen.PostSRefIdeal.Read
public import proofs.«01_k».proof.Proof.Gen.InP
public import proofs.«01_k».proof.Proof.Gen.InP.Skeleton
public import proofs.«01_k».proof.Proof.Gen.InP.Launch
public import proofs.«01_k».proof.Proof.Gen.InP.Points
public import proofs.«01_k».proof.Proof.InPFrame
public import proofs.«01_k».proof.Proof.Gen.InPIdeal
public import proofs.«01_k».proof.Proof.Gen.InPIdeal.Skeleton
public import proofs.«01_k».proof.Proof.Gen.InPIdeal.Launch
public import proofs.«01_k».proof.Proof.Gen.InPIdeal.Points
public import proofs.«01_k».proof.Proof.InPIdealFrame
public import proofs.«01_k».proof.Proof.Gen.InPRefIdeal
public import proofs.«01_k».proof.Proof.Gen.InPRefIdeal.Run
public import proofs.«01_k».proof.Proof.Gen.InPRefIdeal.Read
public import proofs.«01_k».proof.Proof.GlaClaim
public import proofs.«01_k».proof.Proof.PostClaim
public import proofs.«01_k».proof.Proof.PostSClaim
public import proofs.«01_k».proof.Proof.InPClaim
public import Idealize.ShloMosaic.Adequacy
public import Idealize.ShloMosaic.Init

@[expose] public section

noncomputable section

namespace Cert.Proof

open Idealize.ShloMosaic Idealize.SL.Sem Cert.Gla

theorem claim : Cert.Claim :=
  ⟨Cert.Gla.Gen.facts, Cert.GlaIdeal.Gen.facts, Cert.GlaRefIdeal.Gen.facts, Cert.Post.Gen.facts, Cert.PostIdeal.Gen.facts,
    Cert.PostRefIdeal.Gen.facts, Cert.PostS.Gen.facts, Cert.PostSIdeal.Gen.facts, Cert.PostSRefIdeal.Gen.facts,
    Cert.InP.Gen.facts, Cert.InPIdeal.Gen.facts, Cert.InPRefIdeal.Gen.facts,
    Cert.Pre_finite_gates.facts, Cert.On_new_history.facts, Cert.On_sample_history.facts,
    fun m ρ _ => Cert.Gla.Gen.frame m ρ,
    fun m ρ _ => Cert.GlaIdeal.Gen.frame m ρ,
    fun m ρ _ => Cert.GlaIdeal.Gen.frame m ρ,
    fun m ρ _ => (θ_run Cert.GlaRefIdeal.defs _ _).mono
      (fun r h => ⟨fun c => (h c).2.2, sem_eq_zero_of_no_sems (by decide) r.2⟩) (Cert.GlaRefIdeal.Value.run (F := Ideal) m ρ),
    fun m ρ _ => (θ_run Cert.GlaRefIdeal.defs _ _).mono
      (fun r h => ⟨fun c => (h c).2.2, sem_eq_zero_of_no_sems (by decide) r.2⟩) (Cert.GlaRefIdeal.Value.run (F := Ideal) m ρ),
    fun m ρ _ => Cert.Post.Gen.frame m ρ,
    fun m ρ _ => Cert.PostIdeal.Gen.frame m ρ,
    fun m ρ _ => (θ_run Cert.PostRefIdeal.defs _ _).mono
      (fun r h => ⟨fun c => (h c).2.2, sem_eq_zero_of_no_sems (by decide) r.2⟩) (Cert.PostRefIdeal.Value.run (F := Ideal) m ρ),
    fun m ρ _ => Cert.PostS.Gen.frame m ρ,
    fun m ρ _ => Cert.PostSIdeal.Gen.frame m ρ,
    fun m ρ _ => (θ_run Cert.PostSRefIdeal.defs _ _).mono
      (fun r h => ⟨fun c => (h c).2.2, sem_eq_zero_of_no_sems (by decide) r.2⟩) (Cert.PostSRefIdeal.Value.run (F := Ideal) m ρ),
    fun m ρ _ => Cert.InP.Gen.frame m ρ,
    fun m ρ _ => Cert.InPIdeal.Gen.frame m ρ,
    fun m ρ _ => (θ_run Cert.InPRefIdeal.defs _ _).mono
      (fun r h => ⟨fun c => (h c).2.2.2.2.2.2, sem_eq_zero_of_no_sems (by decide) r.2⟩) (Cert.InPRefIdeal.Value.run (F := Ideal) m ρ),
    trivial,
    Cert.GlaClaim.algebraic,
    trivial,
    Cert.PostClaim.algebraic,
    trivial,
    Cert.PostSClaim.algebraic,
    trivial,
    Cert.InPClaim.algebraic⟩

end Cert.Proof

end
